-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_real_inputs [hPre_real_inputs : Cert.Pre_real_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.2.1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.2.2.1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.2.2.2.1 = (fun _ => 1#1)
    ∧ (Cert.Pre_real_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_real_inputs [hPre_real_inputs : Cert.Pre_real_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.2.1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.2.2.1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.2.2.2.1 = (fun _ => 1#1)
    ∧ (Cert.Pre_real_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ r.2.sem = fun _ => 0)

def quiescent_KernelIdeal_pre_real_inputs [hKernelIdeal : Cert.KernelIdeal.Facts] [hPre_real_inputs : Cert.Pre_real_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_real_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))
      ∧ r.2.sem = fun _ => 0)

def quiescent_ReferenceIdeal_pre_real_inputs [hReferenceIdeal : Cert.ReferenceIdeal.Facts] [hPre_real_inputs : Cert.Pre_real_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_real_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))
      ∧ r.2.sem = fun _ => 0)

def preserves_Kernel_KernelIdeal : Prop :=
  IdealRules.named_const.Statement Cert.KernelIdeal.κ "s" .f32 0x3F3504F3#32 ((Real.sqrt (1 / 2) : ℝ) : EReal)

def algebraic_KernelIdeal_ReferenceIdeal_pre_real_inputs [hKernelIdeal : Cert.KernelIdeal.Facts] [hReferenceIdeal : Cert.ReferenceIdeal.Facts] [hPre_real_inputs : Cert.Pre_real_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_real_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v12_4)) (v1 : (c : Dev Cert.KernelIdeal.nD) → Buf (Elt Ideal) ((c.tc : Thread Cert.KernelIdeal.nD Cert.KernelIdeal.τ).loc Cert.KernelIdeal.main_v12_0)) (v2 : (c : Dev Cert.KernelIdeal.nD) → Buf (Elt Ideal) ((c.tc : Thread Cert.KernelIdeal.nD Cert.KernelIdeal.τ).loc Cert.KernelIdeal.main_v12_2)) (v3 : (c : Dev Cert.KernelIdeal.nD) → Buf (Elt Ideal) ((c.tc : Thread Cert.KernelIdeal.nD Cert.KernelIdeal.τ).loc Cert.KernelIdeal.main_v12_1)) (v4 : (c : Dev Cert.KernelIdeal.nD) → Buf (Elt Ideal) ((c.tc : Thread Cert.KernelIdeal.nD Cert.KernelIdeal.τ).loc Cert.KernelIdeal.main_v12_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_4) = v0 c
          ∧ r.2.mem ((c.tc : Thread Cert.KernelIdeal.nD Cert.KernelIdeal.τ).loc Cert.KernelIdeal.main_v12_0) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_v12_1) = v3 c
          ∧ r.2.mem ((c.tc : Thread Cert.KernelIdeal.nD Cert.KernelIdeal.τ).loc Cert.KernelIdeal.main_v12_3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_v35) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_real_inputs : Cert.Pre_real_inputs.Facts),
    quiescent_Kernel (hKernel := hKernel)
    ∧ quiescent_KernelIdeal (hKernelIdeal := hKernelIdeal)
    ∧ quiescent_KernelIdeal_pre_real_inputs (hKernelIdeal := hKernelIdeal) (hPre_real_inputs := hPre_real_inputs)
    ∧ quiescent_ReferenceIdeal (hReferenceIdeal := hReferenceIdeal)
    ∧ quiescent_ReferenceIdeal_pre_real_inputs (hReferenceIdeal := hReferenceIdeal) (hPre_real_inputs := hPre_real_inputs)
    ∧ preserves_Kernel_KernelIdeal
    ∧ algebraic_KernelIdeal_ReferenceIdeal_pre_real_inputs (hKernelIdeal := hKernelIdeal) (hReferenceIdeal := hReferenceIdeal) (hPre_real_inputs := hPre_real_inputs)
-- ==== Pre_real_inputs.lean ====
abbrev S4096x512 : Shape := ⟨2, ![4096, 512]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1 : Shape := ⟨1, ![1]⟩
abbrev S4096x128 : Shape := ⟨2, ![4096, 128]⟩
abbrev S_ : Shape := ⟨0, ![]⟩

class Facts : Prop where
  bcast_S_S4096x512 : S_.BroadcastsInDim S4096x512 (![] : Fin 0 → Fin S4096x512.rank)
  bcast_S_S4096x128 : S_.BroadcastsInDim S4096x128 (![] : Fin 0 → Fin S4096x128.rank)
  bcast_S_S512x256 : S_.BroadcastsInDim S512x256 (![] : Fin 0 → Fin S512x256.rank)
  bcast_S_S256x256 : S_.BroadcastsInDim S256x256 (![] : Fin 0 → Fin S256x256.rank)
  bcast_S_S256x128 : S_.BroadcastsInDim S256x128 (![] : Fin 0 → Fin S256x128.rank)
  bcast_S_S256 : S_.BroadcastsInDim S256 (![] : Fin 0 → Fin S256.rank)
  bcast_S_S128 : S_.BroadcastsInDim S128 (![] : Fin 0 → Fin S128.rank)
  bcast_S_S128x64 : S_.BroadcastsInDim S128x64 (![] : Fin 0 → Fin S128x64.rank)
  bcast_S_S64 : S_.BroadcastsInDim S64 (![] : Fin 0 → Fin S64.rank)
  bcast_S_S64x10 : S_.BroadcastsInDim S64x10 (![] : Fin 0 → Fin S64x10.rank)
  bcast_S_S10 : S_.BroadcastsInDim S10 (![] : Fin 0 → Fin S10.rank)

variable [Facts]

def fn_part4 {F : FTy → Type} [FloatOps F] (main_arg19 : FVec F S64 .f32) (main_arg20 : FVec F S64x10 .f32) (main_arg21 : FVec F S10 .f32) (main_v6 : IVec S4096x512 1) (main_v13 : IVec S4096x128 1) (main_v20 : IVec S512x256 1) (main_v27 : IVec S256x256 1) (main_v42 : IVec S256x128 1) (main_v57 : IVec S256 1) (main_v72 : IVec S128 1) (main_v73 : FVec F S128x64 .f32) (main_v74 : FVec F S128x64 .f32) : IVec S4096x512 1 × IVec S4096x128 1 × IVec S512x256 1 × IVec S256x256 1 × IVec S256x128 1 × IVec S256 1 × IVec S128 1 × IVec S128x64 1 × IVec S64 1 × IVec S64x10 1 × IVec S10 1 :=
  let main_v75 : IVec S128x64 1 := cmpf .olt main_v73 main_v74
  let main_v76 : FVec F S64 .f32 := Host.absf main_arg19
  let main_cst_20 : FVec F S_ .f32 := constant S_ .f32 0x7F800000#32
  let main_v77 : FVec F S64 .f32 := broadcastInDim S64 ![] bcast_S_S64 main_cst_20
  let main_v78 : IVec S64 1 := cmpf .olt main_v76 main_v77
  let main_v79 : FVec F S64x10 .f32 := Host.absf main_arg20
  let main_cst_21 : FVec F S_ .f32 := constant S_ .f32 0x7F800000#32
  let main_v80 : FVec F S64x10 .f32 := broadcastInDim S64x10 ![] bcast_S_S64x10 main_cst_21
  let main_v81 : IVec S64x10 1 := cmpf .olt main_v79 main_v80
  let main_v82 : FVec F S10 .f32 := Host.absf main_arg21
  let main_cst_22 : FVec F S_ .f32 := constant S_ .f32 0x7F800000#32
  let main_v83 : FVec F S10 .f32 := broadcastInDim S10 ![] bcast_S_S10 main_cst_22
  let main_v84 : IVec S10 1 := cmpf .olt main_v82 main_v83
  (main_v6, main_v13, main_v20, main_v27, main_v42, main_v57, main_v72, main_v75, main_v78, main_v81, main_v84)

def fn_part3 {F : FTy → Type} [FloatOps F] (main_arg7 : FVec F S128 .f32) (main_arg9 : FVec F S128 .f32) (main_arg15 : FVec F S128 .f32) (main_arg17 : FVec F S128 .f32) (main_arg18 : FVec F S128x64 .f32) (main_arg19 : FVec F S64 .f32) (main_arg20 : FVec F S64x10 .f32) (main_arg21 : FVec F S10 .f32) (main_v6 : IVec S4096x512 1) (main_v13 : IVec S4096x128 1) (main_v20 : IVec S512x256 1) (main_v27 : IVec S256x256 1) (main_v42 : IVec S256x128 1) (main_v51 : IVec S256 1) (main_v54 : IVec S256 1) (main_v55 : IVec S256 1) : IVec S4096x512 1 × IVec S4096x128 1 × IVec S512x256 1 × IVec S256x256 1 × IVec S256x128 1 × IVec S256 1 × IVec S128 1 × IVec S128x64 1 × IVec S64 1 × IVec S64x10 1 × IVec S10 1 :=
  let main_v56 : IVec S256 1 := andi main_v55 main_v51
  let main_v57 : IVec S256 1 := andi main_v56 main_v54
  let main_v58 : FVec F S128 .f32 := Host.absf main_arg7
  let main_cst_15 : FVec F S_ .f32 := constant S_ .f32 0x7F800000#32
  let main_v59 : FVec F S128 .f32 := broadcastInDim S128 ![] bcast_S_S128 main_cst_15
  let main_v60 : IVec S128 1 := cmpf .olt main_v58 main_v59
  let main_v61 : FVec F S128 .f32 := Host.absf main_arg9
  let main_cst_16 : FVec F S_ .f32 := constant S_ .f32 0x7F800000#32
  let main_v62 : FVec F S128 .f32 := broadcastInDim S128 ![] bcast_S_S128 main_cst_16
  let main_v63 : IVec S128 1 := cmpf .olt main_v61 main_v62
  let main_v64 : FVec F S128 .f32 := Host.absf main_arg15
  let main_cst_17 : FVec F S_ .f32 := constant S_ .f32 0x7F800000#32
  let main_v65 : FVec F S128 .f32 := broadcastInDim S128 ![] bcast_S_S128 main_cst_17
  let main_v66 : IVec S128 1 := cmpf .olt main_v64 main_v65
  let main_v67 : FVec F S128 .f32 := Host.absf main_arg17
  let main_cst_18 : FVec F S_ .f32 := constant S_ .f32 0x7F800000#32
  let main_v68 : FVec F S128 .f32 := broadcastInDim S128 ![] bcast_S_S128 main_cst_18
  let main_v69 : IVec S128 1 := cmpf .olt main_v67 main_v68
  let main_v70 : IVec S128 1 := andi main_v60 main_v63
  let main_v71 : IVec S128 1 := andi main_v70 main_v66
  let main_v72 : IVec S128 1 := andi main_v71 main_v69
  let main_v73 : FVec F S128x64 .f32 := Host.absf main_arg18
  let main_cst_19 : FVec F S_ .f32 := constant S_ .f32 0x7F800000#32
  let main_v74 : FVec F S128x64 .f32 := broadcastInDim S128x64 ![] bcast_S_S128x64 main_cst_19
  fn_part4 (F := F) main_arg19 main_arg20 main_arg21 main_v6 main_v13 main_v20 main_v27 main_v42 main_v57 main_v72 main_v73 main_v74

def fn_part2 {F : FTy → Type} [FloatOps F] (main_arg3 : FVec F S256 .f32) (main_arg5 : FVec F S256 .f32) (main_arg7 : FVec F S128 .f32) (main_arg9 : FVec F S128 .f32) (main_arg11 : FVec F S256 .f32) (main_arg13 : FVec F S256 .f32) (main_arg15 : FVec F S128 .f32) (main_arg16 : FVec F S256x128 .f32) (main_arg17 : FVec F S128 .f32) (main_arg18 : FVec F S128x64 .f32) (main_arg19 : FVec F S64 .f32) (main_arg20 : FVec F S64x10 .f32) (main_arg21 : FVec F S10 .f32) (main_v6 : IVec S4096x512 1) (main_v13 : IVec S4096x128 1) (main_v20 : IVec S512x256 1) (main_v27 : IVec S256x256 1) (main_v30 : IVec S256x128 1) (main_v33 : IVec S256x128 1) (main_v36 : IVec S256x128 1) : IVec S4096x512 1 × IVec S4096x128 1 × IVec S512x256 1 × IVec S256x256 1 × IVec S256x128 1 × IVec S256 1 × IVec S128 1 × IVec S128x64 1 × IVec S64 1 × IVec S64x10 1 × IVec S10 1 :=
  let main_v37 : FVec F S256x128 .f32 := Host.absf main_arg16
  let main_cst_10 : FVec F S_ .f32 := constant S_ .f32 0x7F800000#32
  let main_v38 : FVec F S256x128 .f32 := broadcastInDim S256x128 ![] bcast_S_S256x128 main_cst_10
  let main_v39 : IVec S256x128 1 := cmpf .olt main_v37 main_v38
  let main_v40 : IVec S256x128 1 := andi main_v30 main_v33
  let main_v41 : IVec S256x128 1 := andi main_v40 main_v36
  let main_v42 : IVec S256x128 1 := andi main_v41 main_v39
  let main_v43 : FVec F S256 .f32 := Host.absf main_arg3
  let main_cst_11 : FVec F S_ .f32 := constant S_ .f32 0x7F800000#32
  let main_v44 : FVec F S256 .f32 := broadcastInDim S256 ![] bcast_S_S256 main_cst_11
  let main_v45 : IVec S256 1 := cmpf .olt main_v43 main_v44
  let main_v46 : FVec F S256 .f32 := Host.absf main_arg5
  let main_cst_12 : FVec F S_ .f32 := constant S_ .f32 0x7F800000#32
  let main_v47 : FVec F S256 .f32 := broadcastInDim S256 ![] bcast_S_S256 main_cst_12
  let main_v48 : IVec S256 1 := cmpf .olt main_v46 main_v47
  let main_v49 : FVec F S256 .f32 := Host.absf main_arg11
  let main_cst_13 : FVec F S_ .f32 := constant S_ .f32 0x7F800000#32
  let main_v50 : FVec F S256 .f32 := broadcastInDim S256 ![] bcast_S_S256 main_cst_13
  let main_v51 : IVec S256 1 := cmpf .olt main_v49 main_v50
  let main_v52 : FVec F S256 .f32 := Host.absf main_arg13
  let main_cst_14 : FVec F S_ .f32 := constant S_ .f32 0x7F800000#32
  let main_v53 : FVec F S256 .f32 := broadcastInDim S256 ![] bcast_S_S256 main_cst_14
  let main_v54 : IVec S256 1 := cmpf .olt main_v52 main_v53
  let main_v55 : IVec S256 1 := andi main_v45 main_v48
  fn_part3 (F := F) main_arg7 main_arg9 main_arg15 main_arg17 main_arg18 main_arg19 main_arg20 main_arg21 main_v6 main_v13 main_v20 main_v27 main_v42 main_v51 main_v54 main_v55

def fn_part1 {F : FTy → Type} [FloatOps F] (main_arg3 : FVec F S256 .f32) (main_arg4 : FVec F S256x256 .f32) (main_arg5 : FVec F S256 .f32) (main_arg6 : FVec F S256x128 .f32) (main_arg7 : FVec F S128 .f32) (main_arg8 : FVec F S256x128 .f32) (main_arg9 : FVec F S128 .f32) (main_arg11 : FVec F S256 .f32) (main_arg12 : FVec F S256x256 .f32) (main_arg13 : FVec F S256 .f32) (main_arg14 : FVec F S256x128 .f32) (main_arg15 : FVec F S128 .f32) (main_arg16 : FVec F S256x128 .f32) (main_arg17 : FVec F S128 .f32) (main_arg18 : FVec F S128x64 .f32) (main_arg19 : FVec F S64 .f32) (main_arg20 : FVec F S64x10 .f32) (main_arg21 : FVec F S10 .f32) (main_v6 : IVec S4096x512 1) (main_v13 : IVec S4096x128 1) (main_v16 : IVec S512x256 1) (main_v17 : FVec F S512x256 .f32) (main_cst_4 : FVec F S_ .f32) : IVec S4096x512 1 × IVec S4096x128 1 × IVec S512x256 1 × IVec S256x256 1 × IVec S256x128 1 × IVec S256 1 × IVec S128 1 × IVec S128x64 1 × IVec S64 1 × IVec S64x10 1 × IVec S10 1 :=
  let main_v18 : FVec F S512x256 .f32 := broadcastInDim S512x256 ![] bcast_S_S512x256 main_cst_4
  let main_v19 : IVec S512x256 1 := cmpf .olt main_v17 main_v18
  let main_v20 : IVec S512x256 1 := andi main_v16 main_v19
  let main_v21 : FVec F S256x256 .f32 := Host.absf main_arg4
  let main_cst_5 : FVec F S_ .f32 := constant S_ .f32 0x7F800000#32
  let main_v22 : FVec F S256x256 .f32 := broadcastInDim S256x256 ![] bcast_S_S256x256 main_cst_5
  let main_v23 : IVec S256x256 1 := cmpf .olt main_v21 main_v22
  let main_v24 : FVec F S256x256 .f32 := Host.absf main_arg12
  let main_cst_6 : FVec F S_ .f32 := constant S_ .f32 0x7F800000#32
  let main_v25 : FVec F S256x256 .f32 := broadcastInDim S256x256 ![] bcast_S_S256x256 main_cst_6
  let main_v26 : IVec S256x256 1 := cmpf .olt main_v24 main_v25
  let main_v27 : IVec S256x256 1 := andi main_v23 main_v26
  let main_v28 : FVec F S256x128 .f32 := Host.absf main_arg6
  let main_cst_7 : FVec F S_ .f32 := constant S_ .f32 0x7F800000#32
  let main_v29 : FVec F S256x128 .f32 := broadcastInDim S256x128 ![] bcast_S_S256x128 main_cst_7
  let main_v30 : IVec S256x128 1 := cmpf .olt main_v28 main_v29
  let main_v31 : FVec F S256x128 .f32 := Host.absf main_arg8
  let main_cst_8 : FVec F S_ .f32 := constant S_ .f32 0x7F800000#32
  let main_v32 : FVec F S256x128 .f32 := broadcastInDim S256x128 ![] bcast_S_S256x128 main_cst_8
  let main_v33 : IVec S256x128 1 := cmpf .olt main_v31 main_v32
  let main_v34 : FVec F S256x128 .f32 := Host.absf main_arg14
  let main_cst_9 : FVec F S_ .f32 := constant S_ .f32 0x7F800000#32
  let main_v35 : FVec F S256x128 .f32 := broadcastInDim S256x128 ![] bcast_S_S256x128 main_cst_9
  let main_v36 : IVec S256x128 1 := cmpf .olt main_v34 main_v35
  fn_part2 (F := F) main_arg3 main_arg5 main_arg7 main_arg9 main_arg11 main_arg13 main_arg15 main_arg16 main_arg17 main_arg18 main_arg19 main_arg20 main_arg21 main_v6 main_v13 main_v20 main_v27 main_v30 main_v33 main_v36

def fn {F : FTy → Type} [FloatOps F] (main_arg0 : FVec F S4096x512 .f32) (main_arg1 : FVec F S4096x512 .f32) (main_arg2 : FVec F S512x256 .f32) (main_arg3 : FVec F S256 .f32) (main_arg4 : FVec F S256x256 .f32) (main_arg5 : FVec F S256 .f32) (main_arg6 : FVec F S256x128 .f32) (main_arg7 : FVec F S128 .f32) (main_arg8 : FVec F S256x128 .f32) (main_arg9 : FVec F S128 .f32) (main_arg10 : FVec F S512x256 .f32) (main_arg11 : FVec F S256 .f32) (main_arg12 : FVec F S256x256 .f32) (main_arg13 : FVec F S256 .f32) (main_arg14 : FVec F S256x128 .f32) (main_arg15 : FVec F S128 .f32) (main_arg16 : FVec F S256x128 .f32) (main_arg17 : FVec F S128 .f32) (main_arg18 : FVec F S128x64 .f32) (main_arg19 : FVec F S64 .f32) (main_arg20 : FVec F S64x10 .f32) (main_arg21 : FVec F S10 .f32) (main_arg22 : FVec F S1 .f32) (main_arg23 : FVec F S1 .f32) (main_arg24 : FVec F S4096x128 .f32) (main_arg25 : FVec F S4096x128 .f32) : IVec S4096x512 1 × IVec S4096x128 1 × IVec S512x256 1 × IVec S256x256 1 × IVec S256x128 1 × IVec S256 1 × IVec S128 1 × IVec S128x64 1 × IVec S64 1 × IVec S64x10 1 × IVec S10 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : IVec S4096x512 1 := andi main_v2 main_v5
  let main_v7 : FVec F S4096x128 .f32 := Host.absf main_arg24
  let main_cst_1 : FVec F S_ .f32 := constant S_ .f32 0x7F800000#32
  let main_v8 : FVec F S4096x128 .f32 := broadcastInDim S4096x128 ![] bcast_S_S4096x128 main_cst_1
  let main_v9 : IVec S4096x128 1 := cmpf .olt main_v7 main_v8
  let main_v10 : FVec F S4096x128 .f32 := Host.absf main_arg25
  let main_cst_2 : FVec F S_ .f32 := constant S_ .f32 0x7F800000#32
  let main_v11 : FVec F S4096x128 .f32 := broadcastInDim S4096x128 ![] bcast_S_S4096x128 main_cst_2
  let main_v12 : IVec S4096x128 1 := cmpf .olt main_v10 main_v11
  let main_v13 : IVec S4096x128 1 := andi main_v9 main_v12
  let main_v14 : FVec F S512x256 .f32 := Host.absf main_arg2
  let main_cst_3 : FVec F S_ .f32 := constant S_ .f32 0x7F800000#32
  let main_v15 : FVec F S512x256 .f32 := broadcastInDim S512x256 ![] bcast_S_S512x256 main_cst_3
  let main_v16 : IVec S512x256 1 := cmpf .olt main_v14 main_v15
  let main_v17 : FVec F S512x256 .f32 := Host.absf main_arg10
  let main_cst_4 : FVec F S_ .f32 := constant S_ .f32 0x7F800000#32
  fn_part1 (F := F) main_arg3 main_arg4 main_arg5 main_arg6 main_arg7 main_arg8 main_arg9 main_arg11 main_arg12 main_arg13 main_arg14 main_arg15 main_arg16 main_arg17 main_arg18 main_arg19 main_arg20 main_arg21 main_v6 main_v13 main_v16 main_v17 main_cst_4
-- ==== Kernel.lean ====
abbrev S4096x512 : Shape := ⟨2, ![4096, 512]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1 : Shape := ⟨1, ![1]⟩
abbrev S4096x128 : Shape := ⟨2, ![4096, 128]⟩
abbrev S1x1 : Shape := ⟨2, ![1, 1]⟩
abbrev S1x256 : Shape := ⟨2, ![1, 256]⟩
abbrev S1x128 : Shape := ⟨2, ![1, 128]⟩
abbrev S1x64 : Shape := ⟨2, ![1, 64]⟩
abbrev S1x10 : Shape := ⟨2, ![1, 10]⟩
abbrev S4096x10 : Shape := ⟨2, ![4096, 10]⟩
abbrev S512x512 : Shape := ⟨2, ![512, 512]⟩
abbrev S512x128 : Shape := ⟨2, ![512, 128]⟩
abbrev S4096x256 : Shape := ⟨2, ![4096, 256]⟩
abbrev S4096x64 : Shape := ⟨2, ![4096, 64]⟩
abbrev S4096x1 : Shape := ⟨2, ![4096, 1]⟩
abbrev S4096x4096 : Shape := ⟨2, ![4096, 4096]⟩
abbrev S512x64 : Shape := ⟨2, ![512, 64]⟩
abbrev S512x1 : Shape := ⟨2, ![512, 1]⟩
abbrev S2048x256 : Shape := ⟨2, ![2048, 256]⟩
abbrev S512x2048 : Shape := ⟨2, ![512, 2048]⟩
abbrev S512 : Shape := ⟨1, ![512]⟩
abbrev S512x4096 : Shape := ⟨2, ![512, 4096]⟩
abbrev S512x10 : Shape := ⟨2, ![512, 10]⟩

abbrev nBuf : Space → Nat
  | .hbm => 43
  | .vmem => 44
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S512x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S512x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x128, .f32⟩
  | .hbm, ⟨15, _⟩ => ⟨S128, .f32⟩
  | .hbm, ⟨16, _⟩ => ⟨S256x128, .f32⟩
  | .hbm, ⟨17, _⟩ => ⟨S128, .f32⟩
  | .hbm, ⟨18, _⟩ => ⟨S128x64, .f32⟩
  | .hbm, ⟨19, _⟩ => ⟨S64, .f32⟩
  | .hbm, ⟨20, _⟩ => ⟨S64x10, .f32⟩
  | .hbm, ⟨21, _⟩ => ⟨S10, .f32⟩
  | .hbm, ⟨22, _⟩ => ⟨S1, .f32⟩
  | .hbm, ⟨23, _⟩ => ⟨S1, .f32⟩
  | .hbm, ⟨24, _⟩ => ⟨S4096x128, .f32⟩
  | .hbm, ⟨25, _⟩ => ⟨S4096x128, .f32⟩
  | .hbm, ⟨26, _⟩ => ⟨S1x1, .f32⟩
  | .hbm, ⟨27, _⟩ => ⟨S1x1, .f32⟩
  | .hbm, ⟨28, _⟩ => ⟨S1x256, .f32⟩
  | .hbm, ⟨29, _⟩ => ⟨S1x256, .f32⟩
  | .hbm, ⟨30, _⟩ => ⟨S1x128, .f32⟩
  | .hbm, ⟨31, _⟩ => ⟨S1x128, .f32⟩
  | .hbm, ⟨32, _⟩ => ⟨S1x256, .f32⟩
  | .hbm, ⟨33, _⟩ => ⟨S1x256, .f32⟩
  | .hbm, ⟨34, _⟩ => ⟨S1x128, .f32⟩
  | .hbm, ⟨35, _⟩ => ⟨S1x128, .f32⟩
  | .hbm, ⟨36, _⟩ => ⟨S1x64, .f32⟩
  | .hbm, ⟨37, _⟩ => ⟨S1x10, .f32⟩
  | .hbm, ⟨38, _⟩ => ⟨S4096x128, .f32⟩
  | .hbm, ⟨39, _⟩ => ⟨S4096x128, .f32⟩
  | .hbm, ⟨40, _⟩ => ⟨S4096x128, .f32⟩
  | .hbm, ⟨41, _⟩ => ⟨S4096x128, .f32⟩
  | .hbm, ⟨42, _⟩ => ⟨S4096x10, .f32⟩
  | .local _ .vmem, ⟨0, _⟩ => ⟨S1x1, .f32⟩
  | .local _ .vmem, ⟨1, _⟩ => ⟨S1x1, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x256, .f32⟩
  | .local _ .vmem, ⟨11, _⟩ => ⟨S1x256, .f32⟩
  | .local _ .vmem, ⟨12, _⟩ => ⟨S256x256, .f32⟩
  | .local _ .vmem, ⟨13, _⟩ => ⟨S1x256, .f32⟩
  | .local _ .vmem, ⟨14, _⟩ => ⟨S256x128, .f32⟩
  | .local _ .vmem, ⟨15, _⟩ => ⟨S1x128, .f32⟩
  | .local _ .vmem, ⟨16, _⟩ => ⟨S256x128, .f32⟩
  | .local _ .vmem, ⟨17, _⟩ => ⟨S1x128, .f32⟩
  | .local _ .vmem, ⟨18, _⟩ => ⟨S512x256, .f32⟩
  | .local _ .vmem, ⟨19, _⟩ => ⟨S1x256, .f32⟩
  | .local _ .vmem, ⟨20, _⟩ => ⟨S256x256, .f32⟩
  | .local _ .vmem, ⟨21, _⟩ => ⟨S1x256, .f32⟩
  | .local _ .vmem, ⟨22, _⟩ => ⟨S256x128, .f32⟩
  | .local _ .vmem, ⟨23, _⟩ => ⟨S1x128, .f32⟩
  | .local _ .vmem, ⟨24, _⟩ => ⟨S256x128, .f32⟩
  | .local _ .vmem, ⟨25, _⟩ => ⟨S1x128, .f32⟩
  | .local _ .vmem, ⟨26, _⟩ => ⟨S128x64, .f32⟩
  | .local _ .vmem, ⟨27, _⟩ => ⟨S1x64, .f32⟩
  | .local _ .vmem, ⟨28, _⟩ => ⟨S64x10, .f32⟩
  | .local _ .vmem, ⟨29, _⟩ => ⟨S1x10, .f32⟩
  | .local _ .vmem, ⟨30, _⟩ => ⟨S512x128, .f32⟩
  | .local _ .vmem, ⟨31, _⟩ => ⟨S512x128, .f32⟩
  | .local _ .vmem, ⟨32, _⟩ => ⟨S512x128, .f32⟩
  | .local _ .vmem, ⟨33, _⟩ => ⟨S512x128, .f32⟩
  | .local _ .vmem, ⟨34, _⟩ => ⟨S512x128, .f32⟩
  | .local _ .vmem, ⟨35, _⟩ => ⟨S512x128, .f32⟩
  | .local _ .vmem, ⟨36, _⟩ => ⟨S512x128, .f32⟩
  | .local _ .vmem, ⟨37, _⟩ => ⟨S512x128, .f32⟩
  | .local _ .vmem, ⟨38, _⟩ => ⟨S4096x10, .f32⟩
  | .local _ .vmem, ⟨39, _⟩ => ⟨S4096x256, .bf16⟩
  | .local _ .vmem, ⟨40, _⟩ => ⟨S4096x64, .f32⟩
  | .local _ .vmem, ⟨41, _⟩ => ⟨S4096x1, .f32⟩
  | .local _ .vmem, ⟨42, _⟩ => ⟨S4096x10, .f32⟩
  | .local _ .vmem, ⟨43, _⟩ => ⟨S4096x4096, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12_0 : Ref sig .tc := ⟨.hbm, 38, rfl⟩
abbrev main_v12_1 : Ref sig .tc := ⟨.hbm, 39, rfl⟩
abbrev main_v12_2 : Ref sig .tc := ⟨.hbm, 40, rfl⟩
abbrev main_v12_3 : Ref sig .tc := ⟨.hbm, 41, rfl⟩
abbrev main_v12_4 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg22_0 : Ref sig .tc := ⟨.vmem, 26, rfl⟩
abbrev cc0_stg23_0 : Ref sig .tc := ⟨.vmem, 27, rfl⟩
abbrev cc0_stg24_0 : Ref sig .tc := ⟨.vmem, 28, rfl⟩
abbrev cc0_stg25_0 : Ref sig .tc := ⟨.vmem, 29, rfl⟩
abbrev cc0_stg26_0 : Ref sig .tc := ⟨.vmem, 30, rfl⟩
abbrev cc0_stg26_1 : Ref sig .tc := ⟨.vmem, 31, rfl⟩
abbrev cc0_stg27_0 : Ref sig .tc := ⟨.vmem, 32, rfl⟩
abbrev cc0_stg27_1 : Ref sig .tc := ⟨.vmem, 33, rfl⟩
abbrev cc0_stg28_0 : Ref sig .tc := ⟨.vmem, 34, rfl⟩
abbrev cc0_stg28_1 : Ref sig .tc := ⟨.vmem, 35, rfl⟩
abbrev cc0_stg29_0 : Ref sig .tc := ⟨.vmem, 36, rfl⟩
abbrev cc0_stg29_1 : Ref sig .tc := ⟨.vmem, 37, rfl⟩
abbrev cc0_stg30_0 : Ref sig .tc := ⟨.vmem, 38, rfl⟩
abbrev cc0_scratch0 : Ref sig .tc := ⟨.vmem, 39, rfl⟩
abbrev cc0_scratch1 : Ref sig .tc := ⟨.vmem, 40, rfl⟩
abbrev cc0_scratch2 : Ref sig .tc := ⟨.vmem, 41, rfl⟩
abbrev cc0_scratch3 : Ref sig .tc := ⟨.vmem, 42, rfl⟩
abbrev cc0_scratch4 : Ref sig .tc := ⟨.vmem, 43, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem22_0 : DmaSem sig := 26
abbrev cc0_sem23_0 : DmaSem sig := 27
abbrev cc0_sem24_0 : DmaSem sig := 28
abbrev cc0_sem25_0 : DmaSem sig := 29
abbrev cc0_sem26_0 : DmaSem sig := 30
abbrev cc0_sem26_1 : DmaSem sig := 31
abbrev cc0_sem27_0 : DmaSem sig := 32
abbrev cc0_sem27_1 : DmaSem sig := 33
abbrev cc0_sem28_0 : DmaSem sig := 34
abbrev cc0_sem28_1 : DmaSem sig := 35
abbrev cc0_sem29_0 : DmaSem sig := 36
abbrev cc0_sem29_1 : DmaSem sig := 37
abbrev cc0_sem30_0 : DmaSem sig := 38

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c8_i32 : BitVec 32 := 8#32
  let v2 : BitVec 1 := Scalar.cmpi .slt arg0 c8_i32
  let v3 : BitVec 32 := Scalar.extui v2
  let c0_i32 : BitVec 32 := 0#32
  let v4 : BitVec 1 := Scalar.cmpi .ne v3 c0_i32
  v4

def k0_off1 (i : grid0.Coords) : Fin 2 → Nat :=
  let arg0 : BitVec 32 := BitVec.ofNat 32 (i 0).val
  let c7_i32 : BitVec 32 := 7#32
  let v0 : BitVec 32 := Scalar.minsi arg0 c7_i32
  let c512_i32 : BitVec 32 := 512#32
  let v1 : BitVec 32 := Scalar.muli v0 c512_i32
  let v99 : Index := Scalar.indexCast v1
  let c0_66 : Index := 0#32
  ![v99.toNat, 0]
def k0_off2 (i : grid0.Coords) : Fin 2 → Nat :=
  let arg0 : BitVec 32 := BitVec.ofNat 32 (i 0).val
  let c7_i32 : BitVec 32 := 7#32
  let v0 : BitVec 32 := Scalar.minsi arg0 c7_i32
  let c512_i32 : BitVec 32 := 512#32
  let v1 : BitVec 32 := Scalar.muli v0 c512_i32
  let v105 : Index := Scalar.indexCast v1
  let c0_70 : Index := 0#32
  ![v105.toNat, 0]
def k0_cond4 (i : grid0.Coords) : BitVec 1 :=
  let arg0 : BitVec 32 := BitVec.ofNat 32 (i 0).val
  let c10_i32 : BitVec 32 := 10#32
  let v11 : BitVec 1 := Scalar.cmpi .eq arg0 c10_i32
  let v12 : BitVec 32 := Scalar.extui v11
  let c0_i32_3 : BitVec 32 := 0#32
  let v13 : BitVec 1 := Scalar.cmpi .ne v12 c0_i32_3
  v13

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_27 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_28 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_29 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S128x64 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x64 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S64x10 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x10 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 2 → Memref sig .tc .vmem S512x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S512x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S512x128 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S512x128 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 1 → Memref sig .tc .vmem S4096x10 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]
-- ==== KernelIdeal.lean ====
variable {F : FTy → Type} [FloatOps F] [Named F]
def κ : String → Option EReal := fun
  | "s" => some ((Real.sqrt (1 / 2) : ℝ) : EReal)
  | _ => none
-- ==== ReferenceIdeal.lean ====
abbrev S4096x512 : Shape := ⟨2, ![4096, 512]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1 : Shape := ⟨1, ![1]⟩
abbrev S4096x128 : Shape := ⟨2, ![4096, 128]⟩
abbrev S4096x256 : Shape := ⟨2, ![4096, 256]⟩
abbrev S1x256 : Shape := ⟨2, ![1, 256]⟩
abbrev S_ : Shape := ⟨0, ![]⟩
abbrev S1x128 : Shape := ⟨2, ![1, 128]⟩
abbrev S128x4096 : Shape := ⟨2, ![128, 4096]⟩
abbrev S4096x4096 : Shape := ⟨2, ![4096, 4096]⟩
abbrev S4096 : Shape := ⟨1, ![4096]⟩
abbrev S4096x1 : Shape := ⟨2, ![4096, 1]⟩
abbrev S1x4096 : Shape := ⟨2, ![1, 4096]⟩
abbrev S4096x64 : Shape := ⟨2, ![4096, 64]⟩
abbrev S1x64 : Shape := ⟨2, ![1, 64]⟩
abbrev S4096x10 : Shape := ⟨2, ![4096, 10]⟩
abbrev S1x10 : Shape := ⟨2, ![1, 10]⟩

abbrev nBuf : Space → Nat
  | .hbm => 156
  | .vmem => 0
  | .smem => 0
  | _ => 0

abbrev hbmTy0_0 (i : Nat) : BufTy := match i % 128 with
  | 0 => ⟨S4096x512, .f32⟩
  | 1 => ⟨S4096x512, .f32⟩
  | 2 => ⟨S512x256, .f32⟩
  | 3 => ⟨S256, .f32⟩
  | 4 => ⟨S256x256, .f32⟩
  | 5 => ⟨S256, .f32⟩
  | 6 => ⟨S256x128, .f32⟩
  | 7 => ⟨S128, .f32⟩
  | 8 => ⟨S256x128, .f32⟩
  | 9 => ⟨S128, .f32⟩
  | 10 => ⟨S512x256, .f32⟩
  | 11 => ⟨S256, .f32⟩
  | 12 => ⟨S256x256, .f32⟩
  | 13 => ⟨S256, .f32⟩
  | 14 => ⟨S256x128, .f32⟩
  | 15 => ⟨S128, .f32⟩
  | 16 => ⟨S256x128, .f32⟩
  | 17 => ⟨S128, .f32⟩
  | 18 => ⟨S128x64, .f32⟩
  | 19 => ⟨S64, .f32⟩
  | 20 => ⟨S64x10, .f32⟩
  | 21 => ⟨S10, .f32⟩
  | 22 => ⟨S1, .f32⟩
  | 23 => ⟨S1, .f32⟩
  | 24 => ⟨S4096x128, .f32⟩
  | 25 => ⟨S4096x128, .f32⟩
  | 26 => ⟨S4096x256, .f32⟩
  | 27 => ⟨S1x256, .f32⟩
  | 28 => ⟨S4096x256, .f32⟩
  | 29 => ⟨S4096x256, .f32⟩
  | 30 => ⟨S_, .f32⟩
  | 31 => ⟨S4096x256, .f32⟩
  | 32 => ⟨S4096x256, .f32⟩
  | 33 => ⟨S4096x256, .f32⟩
  | 34 => ⟨S1x256, .f32⟩
  | 35 => ⟨S4096x256, .f32⟩
  | 36 => ⟨S4096x256, .f32⟩
  | 37 => ⟨S_, .f32⟩
  | 38 => ⟨S4096x256, .f32⟩
  | 39 => ⟨S4096x256, .f32⟩
  | 40 => ⟨S4096x128, .f32⟩
  | 41 => ⟨S1x128, .f32⟩
  | 42 => ⟨S4096x128, .f32⟩
  | 43 => ⟨S4096x128, .f32⟩
  | 44 => ⟨S4096x128, .f32⟩
  | 45 => ⟨S1x128, .f32⟩
  | 46 => ⟨S4096x128, .f32⟩
  | 47 => ⟨S4096x128, .f32⟩
  | 48 => ⟨S4096x256, .f32⟩
  | 49 => ⟨S1x256, .f32⟩
  | 50 => ⟨S4096x256, .f32⟩
  | 51 => ⟨S4096x256, .f32⟩
  | 52 => ⟨S_, .f32⟩
  | 53 => ⟨S4096x256, .f32⟩
  | 54 => ⟨S4096x256, .f32⟩
  | 55 => ⟨S4096x256, .f32⟩
  | 56 => ⟨S1x256, .f32⟩
  | 57 => ⟨S4096x256, .f32⟩
  | 58 => ⟨S4096x256, .f32⟩
  | 59 => ⟨S_, .f32⟩
  | 60 => ⟨S4096x256, .f32⟩
  | 61 => ⟨S4096x256, .f32⟩
  | 62 => ⟨S4096x128, .f32⟩
  | 63 => ⟨S1x128, .f32⟩
  | 64 => ⟨S4096x128, .f32⟩
  | 65 => ⟨S4096x128, .f32⟩
  | 66 => ⟨S4096x128, .f32⟩
  | 67 => ⟨S1x128, .f32⟩
  | 68 => ⟨S4096x128, .f32⟩
  | 69 => ⟨S4096x128, .f32⟩
  | 70 => ⟨S_, .f32⟩
  | 71 => ⟨S4096x128, .f32⟩
  | 72 => ⟨S4096x128, .f32⟩
  | 73 => ⟨S4096x128, .f32⟩
  | 74 => ⟨S4096x128, .f32⟩
  | 75 => ⟨S4096x128, .f32⟩
  | 76 => ⟨S_, .f32⟩
  | 77 => ⟨S4096x128, .f32⟩
  | 78 => ⟨S4096x128, .f32⟩
  | 79 => ⟨S4096x128, .f32⟩
  | 80 => ⟨S4096x128, .f32⟩
  | 81 => ⟨S4096x128, .f32⟩
  | 82 => ⟨S4096x128, .f32⟩
  | 83 => ⟨S_, .f32⟩
  | 84 => ⟨S4096x128, .f32⟩
  | 85 => ⟨S4096x128, .f32⟩
  | 86 => ⟨S128x4096, .f32⟩
  | 87 => ⟨S4096x4096, .f32⟩
  | 88 => ⟨S128x4096, .f32⟩
  | 89 => ⟨S4096x4096, .f32⟩
  | 90 => ⟨S4096x4096, .f32⟩
  | 91 => ⟨S_, .f32⟩
  | 92 => ⟨S4096x4096, .f32⟩
  | 93 => ⟨S4096x4096, .f32⟩
  | 94 => ⟨S_, .f32⟩
  | 95 => ⟨S_, .f32⟩
  | 96 => ⟨S_, .f32⟩
  | 97 => ⟨S4096x4096, .f32⟩
  | 98 => ⟨S4096x4096, .f32⟩
  | 99 => ⟨S4096x4096, .f32⟩
  | 100 => ⟨S4096x4096, .f32⟩
  | 101 => ⟨S4096x4096, .f32⟩
  | 102 => ⟨S_, .f32⟩
  | 103 => ⟨S4096x4096, .f32⟩
  | 104 => ⟨S4096x4096, .f32⟩
  | 105 => ⟨S_, .f32⟩
  | 106 => ⟨S4096x4096, .f32⟩
  | 107 => ⟨S4096x4096, .f32⟩
  | 108 => ⟨S4096x4096, .i32⟩
  | 109 => ⟨S4096x4096, .i32⟩
  | 110 => ⟨S_, .i32⟩
  | 111 => ⟨S4096x4096, .i32⟩
  | 112 => ⟨S4096x4096, .i32⟩
  | 113 => ⟨S4096x4096, .i1⟩
  | 114 => ⟨S4096x4096, .f32⟩
  | 115 => ⟨S4096x4096, .f32⟩
  | 116 => ⟨S_, .f32⟩
  | 117 => ⟨S4096, .f32⟩
  | 118 => ⟨S4096, .f32⟩
  | 119 => ⟨S_, .f32⟩
  | 120 => ⟨S4096, .f32⟩
  | 121 => ⟨S4096, .f32⟩
  | 122 => ⟨S4096x1, .f32⟩
  | 123 => ⟨S4096x4096, .f32⟩
  | 124 => ⟨S4096x4096, .f32⟩
  | 125 => ⟨S1x4096, .f32⟩
  | 126 => ⟨S4096x4096, .f32⟩
  | 127 => ⟨S4096x4096, .f32⟩
  | _ => ⟨S4096x512, .f32⟩

abbrev hbmTy0_1 (i : Nat) : BufTy := match i % 128 with
  | 0 => ⟨S4096x64, .f32⟩
  | 1 => ⟨S4096x64, .f32⟩
  | 2 => ⟨S1x64, .f32⟩
  | 3 => ⟨S4096x64, .f32⟩
  | 4 => ⟨S4096x64, .f32⟩
  | 5 => ⟨S_, .f32⟩
  | 6 => ⟨S4096x64, .f32⟩
  | 7 => ⟨S4096x64, .f32⟩
  | 8 => ⟨S4096x10, .f32⟩
  | 9 => ⟨S4096x10, .f32⟩
  | 10 => ⟨S1x10, .f32⟩
  | 11 => ⟨S4096x10, .f32⟩
  | 12 => ⟨S4096x10, .f32⟩
  | 13 => ⟨S_, .f32⟩
  | 14 => ⟨S4096, .f32⟩
  | 15 => ⟨S_, .f32⟩
  | 16 => ⟨S4096, .f32⟩
  | 17 => ⟨S4096, .f32⟩
  | 18 => ⟨S4096x1, .f32⟩
  | 19 => ⟨S4096x10, .f32⟩
  | 20 => ⟨S4096x10, .f32⟩
  | 21 => ⟨S4096x10, .f32⟩
  | 22 => ⟨S_, .f32⟩
  | 23 => ⟨S4096, .f32⟩
  | 24 => ⟨S4096x1, .f32⟩
  | 25 => ⟨S4096x1, .f32⟩
  | 26 => ⟨S4096x10, .f32⟩
  | 27 => ⟨S4096x10, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_call0_cst : Ref sig .tc := ⟨.hbm, 30, rfl⟩
abbrev main_call0_v0 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_call1_cst : Ref sig .tc := ⟨.hbm, 37, rfl⟩
abbrev main_call1_v0 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_call2_cst : Ref sig .tc := ⟨.hbm, 52, rfl⟩
abbrev main_call2_v0 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_call3_cst : Ref sig .tc := ⟨.hbm, 59, rfl⟩
abbrev main_call3_v0 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_0 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_cst_1 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_2 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_3 : Ref sig .tc := ⟨.hbm, 102, rfl⟩
abbrev main_v64 : Ref sig .tc := ⟨.hbm, 103, rfl⟩
abbrev main_v65 : Ref sig .tc := ⟨.hbm, 104, rfl⟩
abbrev main_cst_4 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_c : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_cst_5 : Ref sig .tc := ⟨.hbm, 116, rfl⟩
abbrev main_v75 : Ref sig .tc := ⟨.hbm, 117, rfl⟩
abbrev main_v76 : Ref sig .tc := ⟨.hbm, 118, rfl⟩
abbrev main_cst_6 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_call4_cst : Ref sig .tc := ⟨.hbm, 133, rfl⟩
abbrev main_call4_v0 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_call5_cst : Ref sig .tc := ⟨.hbm, 141, rfl⟩
abbrev main_call5_v0 : Ref sig .tc := ⟨.hbm, 142, rfl⟩
abbrev main_call5_cst_0 : Ref sig .tc := ⟨.hbm, 143, rfl⟩
abbrev main_call5_v1 : Ref sig .tc := ⟨.hbm, 144, rfl⟩
abbrev main_call5_v2 : Ref sig .tc := ⟨.hbm, 145, rfl⟩
abbrev main_call5_v3 : Ref sig .tc := ⟨.hbm, 146, rfl⟩
abbrev main_call5_v4 : Ref sig .tc := ⟨.hbm, 147, rfl⟩
abbrev main_call5_v5 : Ref sig .tc := ⟨.hbm, 148, rfl⟩
abbrev main_call5_v6 : Ref sig .tc := ⟨.hbm, 149, rfl⟩
abbrev main_call5_cst_1 : Ref sig .tc := ⟨.hbm, 150, rfl⟩
abbrev main_call5_v7 : Ref sig .tc := ⟨.hbm, 151, rfl⟩
abbrev main_call5_v8 : Ref sig .tc := ⟨.hbm, 152, rfl⟩
abbrev main_call5_v9 : Ref sig .tc := ⟨.hbm, 153, rfl⟩
abbrev main_call5_v10 : Ref sig .tc := ⟨.hbm, 154, rfl⟩
abbrev main_v96 : Ref sig .tc := ⟨.hbm, 155, rfl⟩

abbrev nD : Nat := 1
abbrev τ : Topo := Topo.v7x

variable {F : FTy → Type} [FloatOps F]
-- ==== Proof.Ideal.RunA.lean ====
/-
  The body of the kernel, run once at a symbolic grid point of the encoder phase (points 0 to 7).
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The run of the body of the encoder phase (points 0 to 7): the pieces each written buffer receives, with the proof that from the buffers it touches, the read ones at
    known contents, the body returns handing back the read ones as they were and the written ones at their contents overwritten by the pieces. -/
noncomputable def runA (c : Dev nD) (i : grid0.Coords)
    (arg1 : Memref sig .tc .vmem S1x1 .f32) (harg1 : arg1.IsWhole)
    (arg2 : Memref sig .tc .vmem S1x1 .f32) (harg2 : arg2.IsWhole)
    (arg3 : Memref sig .tc .vmem S512x512 .f32) (harg3 : arg3.IsWhole)
    (arg4 : Memref sig .tc .vmem S512x512 .f32) (harg4 : arg4.IsWhole)
    (arg5 : Memref sig .tc .vmem S512x128 .f32) (harg5 : arg5.IsWhole)
    (arg6 : Memref sig .tc .vmem S512x128 .f32) (harg6 : arg6.IsWhole)
    (arg7 : Memref sig .tc .vmem S512x256 .f32) (harg7 : arg7.IsWhole)
    (arg8 : Memref sig .tc .vmem S1x256 .f32) (harg8 : arg8.IsWhole)
    (arg9 : Memref sig .tc .vmem S256x256 .f32) (harg9 : arg9.IsWhole)
    (arg10 : Memref sig .tc .vmem S1x256 .f32) (harg10 : arg10.IsWhole)
    (arg11 : Memref sig .tc .vmem S256x128 .f32) (harg11 : arg11.IsWhole)
    (arg12 : Memref sig .tc .vmem S1x128 .f32) (harg12 : arg12.IsWhole)
    (arg13 : Memref sig .tc .vmem S256x128 .f32) (harg13 : arg13.IsWhole)
    (arg14 : Memref sig .tc .vmem S1x128 .f32) (harg14 : arg14.IsWhole)
    (arg15 : Memref sig .tc .vmem S512x256 .f32) (harg15 : arg15.IsWhole)
    (arg16 : Memref sig .tc .vmem S1x256 .f32) (harg16 : arg16.IsWhole)
    (arg17 : Memref sig .tc .vmem S256x256 .f32) (harg17 : arg17.IsWhole)
    (arg18 : Memref sig .tc .vmem S1x256 .f32) (harg18 : arg18.IsWhole)
    (arg19 : Memref sig .tc .vmem S256x128 .f32) (harg19 : arg19.IsWhole)
    (arg20 : Memref sig .tc .vmem S1x128 .f32) (harg20 : arg20.IsWhole)
    (arg21 : Memref sig .tc .vmem S256x128 .f32) (harg21 : arg21.IsWhole)
    (arg22 : Memref sig .tc .vmem S1x128 .f32) (harg22 : arg22.IsWhole)
    (arg23 : Memref sig .tc .vmem S128x64 .f32) (harg23 : arg23.IsWhole)
    (arg24 : Memref sig .tc .vmem S1x64 .f32) (harg24 : arg24.IsWhole)
    (arg25 : Memref sig .tc .vmem S64x10 .f32) (harg25 : arg25.IsWhole)
    (arg26 : Memref sig .tc .vmem S1x10 .f32) (harg26 : arg26.IsWhole)
    (arg27 : Memref sig .tc .vmem S512x128 .f32) (harg27 : arg27.IsWhole)
    (arg28 : Memref sig .tc .vmem S512x128 .f32) (harg28 : arg28.IsWhole)
    (arg29 : Memref sig .tc .vmem S512x128 .f32) (harg29 : arg29.IsWhole)
    (arg30 : Memref sig .tc .vmem S512x128 .f32) (harg30 : arg30.IsWhole)
    (arg31 : Memref sig .tc .vmem S4096x10 .f32) (harg31 : arg31.IsWhole)
    (arg32 : Memref sig .tc .vmem S4096x256 .bf16) (harg32 : arg32.IsWhole)
    (arg33 : Memref sig .tc .vmem S4096x64 .f32) (harg33 : arg33.IsWhole)
    (arg34 : Memref sig .tc .vmem S4096x1 .f32) (harg34 : arg34.IsWhole)
    (arg35 : Memref sig .tc .vmem S4096x10 .f32) (harg35 : arg35.IsWhole)
    (arg36 : Memref sig .tc .vmem S4096x4096 .bf16) (harg36 : arg36.IsWhole)
    (hc1 : k0_cond1 i = 1#1)
    (hc2 : ¬ Scalar.cmpi .ne (Scalar.extui (Scalar.cmpi .eq (BitVec.ofNat 32 (i 0).val) 8#32) : BitVec 32) 0#32 = 1#1)
    (hc3 : ¬ Scalar.cmpi .ne (Scalar.extui (Scalar.cmpi .eq (BitVec.ofNat 32 (i 0).val) 9#32) : BitVec 32) 0#32 = 1#1)
    (hc4 : ¬ k0_cond4 i = 1#1)
    (X3 : Vec F S512x512 .f32)
    (X4 : Vec F S512x512 .f32)
    (X5 : Vec F S512x128 .f32)
    (X6 : Vec F S512x128 .f32)
    (X7 : Vec F S512x256 .f32)
    (X8 : Vec F S1x256 .f32)
    (X9 : Vec F S256x256 .f32)
    (X10 : Vec F S1x256 .f32)
    (X11 : Vec F S256x128 .f32)
    (X12 : Vec F S1x128 .f32)
    (X13 : Vec F S256x128 .f32)
    (X14 : Vec F S1x128 .f32)
    (X15 : Vec F S512x256 .f32)
    (X16 : Vec F S1x256 .f32)
    (X17 : Vec F S256x256 .f32)
    (X18 : Vec F S1x256 .f32)
    (X19 : Vec F S256x128 .f32)
    (X20 : Vec F S1x128 .f32)
    (X21 : Vec F S256x128 .f32)
    (X22 : Vec F S1x128 .f32)
    (X23 : Vec F S128x64 .f32)
    : { L : List (View.Piece (Elt F) S512x128 .f32) × List (View.Piece (Elt F) S512x128 .f32) × List (View.Piece (Elt F) S512x128 .f32) × List (View.Piece (Elt F) S512x128 .f32) × List (View.Piece (Elt F) S4096x256 .bf16) × List (View.Piece (Elt F) S4096x64 .f32) //
      ∀ (f27 : Buf (Elt F) (arg27.view.loc (c : Thread nD τ))) (f28 : Buf (Elt F) (arg28.view.loc (c : Thread nD τ))) (f29 : Buf (Elt F) (arg29.view.loc (c : Thread nD τ))) (f30 : Buf (Elt F) (arg30.view.loc (c : Thread nD τ))) (f32 : Buf (Elt F) (arg32.view.loc (c : Thread nD τ))) (f33 : Buf (Elt F) (arg33.view.loc (c : Thread nD τ))) (K : PUnit → sProp 𝕄),
        iprop((arg3.view.loc (c : Thread nD τ) ↦[arg3.view.set]{fullShare} harg3.unread X3)
          ∗ (arg4.view.loc (c : Thread nD τ) ↦[arg4.view.set]{fullShare} harg4.unread X4)
          ∗ (arg5.view.loc (c : Thread nD τ) ↦[arg5.view.set]{fullShare} harg5.unread X5)
          ∗ (arg6.view.loc (c : Thread nD τ) ↦[arg6.view.set]{fullShare} harg6.unread X6)
          ∗ (arg7.view.loc (c : Thread nD τ) ↦[arg7.view.set]{fullShare} harg7.unread X7)
          ∗ (arg8.view.loc (c : Thread nD τ) ↦[arg8.view.set]{fullShare} harg8.unread X8)
          ∗ (arg9.view.loc (c : Thread nD τ) ↦[arg9.view.set]{fullShare} harg9.unread X9)
          ∗ (arg10.view.loc (c : Thread nD τ) ↦[arg10.view.set]{fullShare} harg10.unread X10)
          ∗ (arg11.view.loc (c : Thread nD τ) ↦[arg11.view.set]{fullShare} harg11.unread X11)
          ∗ (arg12.view.loc (c : Thread nD τ) ↦[arg12.view.set]{fullShare} harg12.unread X12)
          ∗ (arg13.view.loc (c : Thread nD τ) ↦[arg13.view.set]{fullShare} harg13.unread X13)
          ∗ (arg14.view.loc (c : Thread nD τ) ↦[arg14.view.set]{fullShare} harg14.unread X14)
          ∗ (arg15.view.loc (c : Thread nD τ) ↦[arg15.view.set]{fullShare} harg15.unread X15)
          ∗ (arg16.view.loc (c : Thread nD τ) ↦[arg16.view.set]{fullShare} harg16.unread X16)
          ∗ (arg17.view.loc (c : Thread nD τ) ↦[arg17.view.set]{fullShare} harg17.unread X17)
          ∗ (arg18.view.loc (c : Thread nD τ) ↦[arg18.view.set]{fullShare} harg18.unread X18)
          ∗ (arg19.view.loc (c : Thread nD τ) ↦[arg19.view.set]{fullShare} harg19.unread X19)
          ∗ (arg20.view.loc (c : Thread nD τ) ↦[arg20.view.set]{fullShare} harg20.unread X20)
          ∗ (arg21.view.loc (c : Thread nD τ) ↦[arg21.view.set]{fullShare} harg21.unread X21)
          ∗ (arg22.view.loc (c : Thread nD τ) ↦[arg22.view.set]{fullShare} harg22.unread X22)
          ∗ (arg23.view.loc (c : Thread nD τ) ↦[arg23.view.set]{fullShare} harg23.unread X23)
          ∗ (arg27.view.loc (c : Thread nD τ) ↦[arg27.view.set]{fullShare} f27)
          ∗ (arg28.view.loc (c : Thread nD τ) ↦[arg28.view.set]{fullShare} f28)
          ∗ (arg29.view.loc (c : Thread nD τ) ↦[arg29.view.set]{fullShare} f29)
          ∗ (arg30.view.loc (c : Thread nD τ) ↦[arg30.view.set]{fullShare} f30)
          ∗ (arg32.view.loc (c : Thread nD τ) ↦[arg32.view.set]{fullShare} f32)
          ∗ (arg33.view.loc (c : Thread nD τ) ↦[arg33.view.set]{fullShare} f33)
          ∗ (iprop((arg3.view.loc (c : Thread nD τ) ↦[arg3.view.set]{fullShare} harg3.unread X3)
              ∗ (arg4.view.loc (c : Thread nD τ) ↦[arg4.view.set]{fullShare} harg4.unread X4)
              ∗ (arg5.view.loc (c : Thread nD τ) ↦[arg5.view.set]{fullShare} harg5.unread X5)
              ∗ (arg6.view.loc (c : Thread nD τ) ↦[arg6.view.set]{fullShare} harg6.unread X6)
              ∗ (arg7.view.loc (c : Thread nD τ) ↦[arg7.view.set]{fullShare} harg7.unread X7)
              ∗ (arg8.view.loc (c : Thread nD τ) ↦[arg8.view.set]{fullShare} harg8.unread X8)
              ∗ (arg9.view.loc (c : Thread nD τ) ↦[arg9.view.set]{fullShare} harg9.unread X9)
              ∗ (arg10.view.loc (c : Thread nD τ) ↦[arg10.view.set]{fullShare} harg10.unread X10)
              ∗ (arg11.view.loc (c : Thread nD τ) ↦[arg11.view.set]{fullShare} harg11.unread X11)
              ∗ (arg12.view.loc (c : Thread nD τ) ↦[arg12.view.set]{fullShare} harg12.unread X12)
              ∗ (arg13.view.loc (c : Thread nD τ) ↦[arg13.view.set]{fullShare} harg13.unread X13)
              ∗ (arg14.view.loc (c : Thread nD τ) ↦[arg14.view.set]{fullShare} harg14.unread X14)
              ∗ (arg15.view.loc (c : Thread nD τ) ↦[arg15.view.set]{fullShare} harg15.unread X15)
              ∗ (arg16.view.loc (c : Thread nD τ) ↦[arg16.view.set]{fullShare} harg16.unread X16)
              ∗ (arg17.view.loc (c : Thread nD τ) ↦[arg17.view.set]{fullShare} harg17.unread X17)
              ∗ (arg18.view.loc (c : Thread nD τ) ↦[arg18.view.set]{fullShare} harg18.unread X18)
              ∗ (arg19.view.loc (c : Thread nD τ) ↦[arg19.view.set]{fullShare} harg19.unread X19)
              ∗ (arg20.view.loc (c : Thread nD τ) ↦[arg20.view.set]{fullShare} harg20.unread X20)
              ∗ (arg21.view.loc (c : Thread nD τ) ↦[arg21.view.set]{fullShare} harg21.unread X21)
              ∗ (arg22.view.loc (c : Thread nD τ) ↦[arg22.view.set]{fullShare} harg22.unread X22)
              ∗ (arg23.view.loc (c : Thread nD τ) ↦[arg23.view.set]{fullShare} harg23.unread X23)
              ∗ (arg27.view.loc (c : Thread nD τ) ↦[arg27.view.set]{fullShare} arg27.view.writes (Elt F) f27 L.1)
              ∗ (arg28.view.loc (c : Thread nD τ) ↦[arg28.view.set]{fullShare} arg28.view.writes (Elt F) f28 L.2.1)
              ∗ (arg29.view.loc (c : Thread nD τ) ↦[arg29.view.set]{fullShare} arg29.view.writes (Elt F) f29 L.2.2.1)
              ∗ (arg30.view.loc (c : Thread nD τ) ↦[arg30.view.set]{fullShare} arg30.view.writes (Elt F) f30 L.2.2.2.1)
              ∗ (arg32.view.loc (c : Thread nD τ) ↦[arg32.view.set]{fullShare} arg32.view.writes (Elt F) f32 L.2.2.2.2.1)
              ∗ (arg33.view.loc (c : Thread nD τ) ↦[arg33.view.set]{fullShare} arg33.view.writes (Elt F) f33 L.2.2.2.2.2)) -∗ K ⟨⟩))
        ⊢ wp frame (wpE (defs₀ (F := F)) Variants.none c none) Set.univ
            (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K } := by
  refine ⟨⟨?_, ?_, ?_, ?_, ?_, ?_⟩, fun f27 f28 f29 f30 f32 f33 K => ?run⟩
  case run =>
    simp only [cc0__body_eq_skeleton]; unfold cc0__body_skel
    iintro ⟨H3, H4, H5, H6, H7, H8, H9, H10, H11, H12, H13, H14, H15, H16, H17, H18, H19, H20, H21, H22, H23, H27, H28, H29, H30, H32, H33, Hk⟩
    sl_exec_parts (disch := first | sl_exact hc1 | sl_exact hc2 | sl_exact hc3 | sl_exact hc4)
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H27]; · iexact H27
    isplitl [H28]; · iexact H28
    isplitl [H29]; · iexact H29
    isplitl [H30]; · iexact H30
    isplitl [H32]; · iexact H32
    iexact H33

end Cert.KernelIdeal.Hand

end
-- ==== Proof.Ideal.RunB.lean ====
/-
  The body of the kernel, run once at a symbolic grid point of the adjacency phase (point 8).
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The run of the body of the adjacency phase (point 8): the pieces each written buffer receives, with the proof that from the buffers it touches, the read ones at
    known contents, the body returns handing back the read ones as they were and the written ones at their contents overwritten by the pieces. -/
noncomputable def runB (c : Dev nD) (i : grid0.Coords)
    (arg1 : Memref sig .tc .vmem S1x1 .f32) (harg1 : arg1.IsWhole)
    (arg2 : Memref sig .tc .vmem S1x1 .f32) (harg2 : arg2.IsWhole)
    (arg3 : Memref sig .tc .vmem S512x512 .f32) (harg3 : arg3.IsWhole)
    (arg4 : Memref sig .tc .vmem S512x512 .f32) (harg4 : arg4.IsWhole)
    (arg5 : Memref sig .tc .vmem S512x128 .f32) (harg5 : arg5.IsWhole)
    (arg6 : Memref sig .tc .vmem S512x128 .f32) (harg6 : arg6.IsWhole)
    (arg7 : Memref sig .tc .vmem S512x256 .f32) (harg7 : arg7.IsWhole)
    (arg8 : Memref sig .tc .vmem S1x256 .f32) (harg8 : arg8.IsWhole)
    (arg9 : Memref sig .tc .vmem S256x256 .f32) (harg9 : arg9.IsWhole)
    (arg10 : Memref sig .tc .vmem S1x256 .f32) (harg10 : arg10.IsWhole)
    (arg11 : Memref sig .tc .vmem S256x128 .f32) (harg11 : arg11.IsWhole)
    (arg12 : Memref sig .tc .vmem S1x128 .f32) (harg12 : arg12.IsWhole)
    (arg13 : Memref sig .tc .vmem S256x128 .f32) (harg13 : arg13.IsWhole)
    (arg14 : Memref sig .tc .vmem S1x128 .f32) (harg14 : arg14.IsWhole)
    (arg15 : Memref sig .tc .vmem S512x256 .f32) (harg15 : arg15.IsWhole)
    (arg16 : Memref sig .tc .vmem S1x256 .f32) (harg16 : arg16.IsWhole)
    (arg17 : Memref sig .tc .vmem S256x256 .f32) (harg17 : arg17.IsWhole)
    (arg18 : Memref sig .tc .vmem S1x256 .f32) (harg18 : arg18.IsWhole)
    (arg19 : Memref sig .tc .vmem S256x128 .f32) (harg19 : arg19.IsWhole)
    (arg20 : Memref sig .tc .vmem S1x128 .f32) (harg20 : arg20.IsWhole)
    (arg21 : Memref sig .tc .vmem S256x128 .f32) (harg21 : arg21.IsWhole)
    (arg22 : Memref sig .tc .vmem S1x128 .f32) (harg22 : arg22.IsWhole)
    (arg23 : Memref sig .tc .vmem S128x64 .f32) (harg23 : arg23.IsWhole)
    (arg24 : Memref sig .tc .vmem S1x64 .f32) (harg24 : arg24.IsWhole)
    (arg25 : Memref sig .tc .vmem S64x10 .f32) (harg25 : arg25.IsWhole)
    (arg26 : Memref sig .tc .vmem S1x10 .f32) (harg26 : arg26.IsWhole)
    (arg27 : Memref sig .tc .vmem S512x128 .f32) (harg27 : arg27.IsWhole)
    (arg28 : Memref sig .tc .vmem S512x128 .f32) (harg28 : arg28.IsWhole)
    (arg29 : Memref sig .tc .vmem S512x128 .f32) (harg29 : arg29.IsWhole)
    (arg30 : Memref sig .tc .vmem S512x128 .f32) (harg30 : arg30.IsWhole)
    (arg31 : Memref sig .tc .vmem S4096x10 .f32) (harg31 : arg31.IsWhole)
    (arg32 : Memref sig .tc .vmem S4096x256 .bf16) (harg32 : arg32.IsWhole)
    (arg33 : Memref sig .tc .vmem S4096x64 .f32) (harg33 : arg33.IsWhole)
    (arg34 : Memref sig .tc .vmem S4096x1 .f32) (harg34 : arg34.IsWhole)
    (arg35 : Memref sig .tc .vmem S4096x10 .f32) (harg35 : arg35.IsWhole)
    (arg36 : Memref sig .tc .vmem S4096x4096 .bf16) (harg36 : arg36.IsWhole)
    (hc1 : ¬ k0_cond1 i = 1#1)
    (hc2 : Scalar.cmpi .ne (Scalar.extui (Scalar.cmpi .eq (BitVec.ofNat 32 (i 0).val) 8#32) : BitVec 32) 0#32 = 1#1)
    (hc3 : ¬ Scalar.cmpi .ne (Scalar.extui (Scalar.cmpi .eq (BitVec.ofNat 32 (i 0).val) 9#32) : BitVec 32) 0#32 = 1#1)
    (hc4 : ¬ k0_cond4 i = 1#1)
    (X1 : Vec F S1x1 .f32)
    (X2 : Vec F S1x1 .f32)
    (X32 : Vec F S4096x256 .bf16)
    : { L : List (View.Piece (Elt F) S4096x1 .f32) × List (View.Piece (Elt F) S4096x4096 .bf16) //
      ∀ (f34 : Buf (Elt F) (arg34.view.loc (c : Thread nD τ))) (f36 : Buf (Elt F) (arg36.view.loc (c : Thread nD τ))) (K : PUnit → sProp 𝕄),
        iprop((arg1.view.loc (c : Thread nD τ) ↦[arg1.view.set]{fullShare} harg1.unread X1)
          ∗ (arg2.view.loc (c : Thread nD τ) ↦[arg2.view.set]{fullShare} harg2.unread X2)
          ∗ (arg32.view.loc (c : Thread nD τ) ↦[arg32.view.set]{fullShare} harg32.unread X32)
          ∗ (arg34.view.loc (c : Thread nD τ) ↦[arg34.view.set]{fullShare} f34)
          ∗ (arg36.view.loc (c : Thread nD τ) ↦[arg36.view.set]{fullShare} f36)
          ∗ (iprop((arg1.view.loc (c : Thread nD τ) ↦[arg1.view.set]{fullShare} harg1.unread X1)
              ∗ (arg2.view.loc (c : Thread nD τ) ↦[arg2.view.set]{fullShare} harg2.unread X2)
              ∗ (arg32.view.loc (c : Thread nD τ) ↦[arg32.view.set]{fullShare} harg32.unread X32)
              ∗ (arg34.view.loc (c : Thread nD τ) ↦[arg34.view.set]{fullShare} arg34.view.writes (Elt F) f34 L.1)
              ∗ (arg36.view.loc (c : Thread nD τ) ↦[arg36.view.set]{fullShare} arg36.view.writes (Elt F) f36 L.2)) -∗ K ⟨⟩))
        ⊢ wp frame (wpE (defs₀ (F := F)) Variants.none c none) Set.univ
            (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K } := by
  refine ⟨⟨?_, ?_⟩, fun f34 f36 K => ?run⟩
  case run =>
    simp only [cc0__body_eq_skeleton]; unfold cc0__body_skel
    iintro ⟨H1, H2, H32, H34, H36, Hk⟩
    sl_exec_parts (disch := first | sl_exact hc1 | sl_exact hc2 | sl_exact hc3 | sl_exact hc4)
    sl_step
    iapply Hk
    isplitl [H1]; · iexact H1
    isplitl [H2]; · iexact H2
    isplitl [H32]; · iexact H32
    isplitl [H34]; · iexact H34
    iexact H36

end Cert.KernelIdeal.Hand

end
-- ==== Proof.Ideal.RunC.lean ====
/-
  The body of the kernel, run once at a symbolic grid point of the first graph layer (point 9).
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The run of the body of the first graph layer (point 9): the pieces each written buffer receives, with the proof that from the buffers it touches, the read ones at
    known contents, the body returns handing back the read ones as they were and the written ones at their contents overwritten by the pieces. -/
noncomputable def runC (c : Dev nD) (i : grid0.Coords)
    (arg1 : Memref sig .tc .vmem S1x1 .f32) (harg1 : arg1.IsWhole)
    (arg2 : Memref sig .tc .vmem S1x1 .f32) (harg2 : arg2.IsWhole)
    (arg3 : Memref sig .tc .vmem S512x512 .f32) (harg3 : arg3.IsWhole)
    (arg4 : Memref sig .tc .vmem S512x512 .f32) (harg4 : arg4.IsWhole)
    (arg5 : Memref sig .tc .vmem S512x128 .f32) (harg5 : arg5.IsWhole)
    (arg6 : Memref sig .tc .vmem S512x128 .f32) (harg6 : arg6.IsWhole)
    (arg7 : Memref sig .tc .vmem S512x256 .f32) (harg7 : arg7.IsWhole)
    (arg8 : Memref sig .tc .vmem S1x256 .f32) (harg8 : arg8.IsWhole)
    (arg9 : Memref sig .tc .vmem S256x256 .f32) (harg9 : arg9.IsWhole)
    (arg10 : Memref sig .tc .vmem S1x256 .f32) (harg10 : arg10.IsWhole)
    (arg11 : Memref sig .tc .vmem S256x128 .f32) (harg11 : arg11.IsWhole)
    (arg12 : Memref sig .tc .vmem S1x128 .f32) (harg12 : arg12.IsWhole)
    (arg13 : Memref sig .tc .vmem S256x128 .f32) (harg13 : arg13.IsWhole)
    (arg14 : Memref sig .tc .vmem S1x128 .f32) (harg14 : arg14.IsWhole)
    (arg15 : Memref sig .tc .vmem S512x256 .f32) (harg15 : arg15.IsWhole)
    (arg16 : Memref sig .tc .vmem S1x256 .f32) (harg16 : arg16.IsWhole)
    (arg17 : Memref sig .tc .vmem S256x256 .f32) (harg17 : arg17.IsWhole)
    (arg18 : Memref sig .tc .vmem S1x256 .f32) (harg18 : arg18.IsWhole)
    (arg19 : Memref sig .tc .vmem S256x128 .f32) (harg19 : arg19.IsWhole)
    (arg20 : Memref sig .tc .vmem S1x128 .f32) (harg20 : arg20.IsWhole)
    (arg21 : Memref sig .tc .vmem S256x128 .f32) (harg21 : arg21.IsWhole)
    (arg22 : Memref sig .tc .vmem S1x128 .f32) (harg22 : arg22.IsWhole)
    (arg23 : Memref sig .tc .vmem S128x64 .f32) (harg23 : arg23.IsWhole)
    (arg24 : Memref sig .tc .vmem S1x64 .f32) (harg24 : arg24.IsWhole)
    (arg25 : Memref sig .tc .vmem S64x10 .f32) (harg25 : arg25.IsWhole)
    (arg26 : Memref sig .tc .vmem S1x10 .f32) (harg26 : arg26.IsWhole)
    (arg27 : Memref sig .tc .vmem S512x128 .f32) (harg27 : arg27.IsWhole)
    (arg28 : Memref sig .tc .vmem S512x128 .f32) (harg28 : arg28.IsWhole)
    (arg29 : Memref sig .tc .vmem S512x128 .f32) (harg29 : arg29.IsWhole)
    (arg30 : Memref sig .tc .vmem S512x128 .f32) (harg30 : arg30.IsWhole)
    (arg31 : Memref sig .tc .vmem S4096x10 .f32) (harg31 : arg31.IsWhole)
    (arg32 : Memref sig .tc .vmem S4096x256 .bf16) (harg32 : arg32.IsWhole)
    (arg33 : Memref sig .tc .vmem S4096x64 .f32) (harg33 : arg33.IsWhole)
    (arg34 : Memref sig .tc .vmem S4096x1 .f32) (harg34 : arg34.IsWhole)
    (arg35 : Memref sig .tc .vmem S4096x10 .f32) (harg35 : arg35.IsWhole)
    (arg36 : Memref sig .tc .vmem S4096x4096 .bf16) (harg36 : arg36.IsWhole)
    (hc1 : ¬ k0_cond1 i = 1#1)
    (hc2 : ¬ Scalar.cmpi .ne (Scalar.extui (Scalar.cmpi .eq (BitVec.ofNat 32 (i 0).val) 8#32) : BitVec 32) 0#32 = 1#1)
    (hc3 : Scalar.cmpi .ne (Scalar.extui (Scalar.cmpi .eq (BitVec.ofNat 32 (i 0).val) 9#32) : BitVec 32) 0#32 = 1#1)
    (hc4 : ¬ k0_cond4 i = 1#1)
    (X24 : Vec F S1x64 .f32)
    (X25 : Vec F S64x10 .f32)
    (X33 : Vec F S4096x64 .f32)
    (X34 : Vec F S4096x1 .f32)
    (X36 : Vec F S4096x4096 .bf16)
    : { L : List (View.Piece (Elt F) S4096x10 .f32) //
      ∀ (f35 : Buf (Elt F) (arg35.view.loc (c : Thread nD τ))) (K : PUnit → sProp 𝕄),
        iprop((arg24.view.loc (c : Thread nD τ) ↦[arg24.view.set]{fullShare} harg24.unread X24)
          ∗ (arg25.view.loc (c : Thread nD τ) ↦[arg25.view.set]{fullShare} harg25.unread X25)
          ∗ (arg33.view.loc (c : Thread nD τ) ↦[arg33.view.set]{fullShare} harg33.unread X33)
          ∗ (arg34.view.loc (c : Thread nD τ) ↦[arg34.view.set]{fullShare} harg34.unread X34)
          ∗ (arg36.view.loc (c : Thread nD τ) ↦[arg36.view.set]{fullShare} harg36.unread X36)
          ∗ (arg35.view.loc (c : Thread nD τ) ↦[arg35.view.set]{fullShare} f35)
          ∗ (iprop((arg24.view.loc (c : Thread nD τ) ↦[arg24.view.set]{fullShare} harg24.unread X24)
              ∗ (arg25.view.loc (c : Thread nD τ) ↦[arg25.view.set]{fullShare} harg25.unread X25)
              ∗ (arg33.view.loc (c : Thread nD τ) ↦[arg33.view.set]{fullShare} harg33.unread X33)
              ∗ (arg34.view.loc (c : Thread nD τ) ↦[arg34.view.set]{fullShare} harg34.unread X34)
              ∗ (arg36.view.loc (c : Thread nD τ) ↦[arg36.view.set]{fullShare} harg36.unread X36)
              ∗ (arg35.view.loc (c : Thread nD τ) ↦[arg35.view.set]{fullShare} arg35.view.writes (Elt F) f35 L)) -∗ K ⟨⟩))
        ⊢ wp frame (wpE (defs₀ (F := F)) Variants.none c none) Set.univ
            (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K } := by
  refine ⟨?_, fun f35 K => ?run⟩
  case run =>
    simp only [cc0__body_eq_skeleton]; unfold cc0__body_skel
    iintro ⟨H24, H25, H33, H34, H36, H35, Hk⟩
    sl_exec_parts (disch := first | sl_exact hc1 | sl_exact hc2 | sl_exact hc3 | sl_exact hc4)
    sl_step
    iapply Hk
    isplitl [H24]; · iexact H24
    isplitl [H25]; · iexact H25
    isplitl [H33]; · iexact H33
    isplitl [H34]; · iexact H34
    isplitl [H36]; · iexact H36
    iexact H35

end Cert.KernelIdeal.Hand

end
-- ==== Proof.Ideal.RunD.lean ====
/-
  The body of the kernel, run once at a symbolic grid point of the second graph layer (point 10).
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The run of the body of the second graph layer (point 10): the pieces each written buffer receives, with the proof that from the buffers it touches, the read ones at
    known contents, the body returns handing back the read ones as they were and the written ones at their contents overwritten by the pieces. -/
noncomputable def runD (c : Dev nD) (i : grid0.Coords)
    (arg1 : Memref sig .tc .vmem S1x1 .f32) (harg1 : arg1.IsWhole)
    (arg2 : Memref sig .tc .vmem S1x1 .f32) (harg2 : arg2.IsWhole)
    (arg3 : Memref sig .tc .vmem S512x512 .f32) (harg3 : arg3.IsWhole)
    (arg4 : Memref sig .tc .vmem S512x512 .f32) (harg4 : arg4.IsWhole)
    (arg5 : Memref sig .tc .vmem S512x128 .f32) (harg5 : arg5.IsWhole)
    (arg6 : Memref sig .tc .vmem S512x128 .f32) (harg6 : arg6.IsWhole)
    (arg7 : Memref sig .tc .vmem S512x256 .f32) (harg7 : arg7.IsWhole)
    (arg8 : Memref sig .tc .vmem S1x256 .f32) (harg8 : arg8.IsWhole)
    (arg9 : Memref sig .tc .vmem S256x256 .f32) (harg9 : arg9.IsWhole)
    (arg10 : Memref sig .tc .vmem S1x256 .f32) (harg10 : arg10.IsWhole)
    (arg11 : Memref sig .tc .vmem S256x128 .f32) (harg11 : arg11.IsWhole)
    (arg12 : Memref sig .tc .vmem S1x128 .f32) (harg12 : arg12.IsWhole)
    (arg13 : Memref sig .tc .vmem S256x128 .f32) (harg13 : arg13.IsWhole)
    (arg14 : Memref sig .tc .vmem S1x128 .f32) (harg14 : arg14.IsWhole)
    (arg15 : Memref sig .tc .vmem S512x256 .f32) (harg15 : arg15.IsWhole)
    (arg16 : Memref sig .tc .vmem S1x256 .f32) (harg16 : arg16.IsWhole)
    (arg17 : Memref sig .tc .vmem S256x256 .f32) (harg17 : arg17.IsWhole)
    (arg18 : Memref sig .tc .vmem S1x256 .f32) (harg18 : arg18.IsWhole)
    (arg19 : Memref sig .tc .vmem S256x128 .f32) (harg19 : arg19.IsWhole)
    (arg20 : Memref sig .tc .vmem S1x128 .f32) (harg20 : arg20.IsWhole)
    (arg21 : Memref sig .tc .vmem S256x128 .f32) (harg21 : arg21.IsWhole)
    (arg22 : Memref sig .tc .vmem S1x128 .f32) (harg22 : arg22.IsWhole)
    (arg23 : Memref sig .tc .vmem S128x64 .f32) (harg23 : arg23.IsWhole)
    (arg24 : Memref sig .tc .vmem S1x64 .f32) (harg24 : arg24.IsWhole)
    (arg25 : Memref sig .tc .vmem S64x10 .f32) (harg25 : arg25.IsWhole)
    (arg26 : Memref sig .tc .vmem S1x10 .f32) (harg26 : arg26.IsWhole)
    (arg27 : Memref sig .tc .vmem S512x128 .f32) (harg27 : arg27.IsWhole)
    (arg28 : Memref sig .tc .vmem S512x128 .f32) (harg28 : arg28.IsWhole)
    (arg29 : Memref sig .tc .vmem S512x128 .f32) (harg29 : arg29.IsWhole)
    (arg30 : Memref sig .tc .vmem S512x128 .f32) (harg30 : arg30.IsWhole)
    (arg31 : Memref sig .tc .vmem S4096x10 .f32) (harg31 : arg31.IsWhole)
    (arg32 : Memref sig .tc .vmem S4096x256 .bf16) (harg32 : arg32.IsWhole)
    (arg33 : Memref sig .tc .vmem S4096x64 .f32) (harg33 : arg33.IsWhole)
    (arg34 : Memref sig .tc .vmem S4096x1 .f32) (harg34 : arg34.IsWhole)
    (arg35 : Memref sig .tc .vmem S4096x10 .f32) (harg35 : arg35.IsWhole)
    (arg36 : Memref sig .tc .vmem S4096x4096 .bf16) (harg36 : arg36.IsWhole)
    (hc1 : ¬ k0_cond1 i = 1#1)
    (hc2 : ¬ Scalar.cmpi .ne (Scalar.extui (Scalar.cmpi .eq (BitVec.ofNat 32 (i 0).val) 8#32) : BitVec 32) 0#32 = 1#1)
    (hc3 : ¬ Scalar.cmpi .ne (Scalar.extui (Scalar.cmpi .eq (BitVec.ofNat 32 (i 0).val) 9#32) : BitVec 32) 0#32 = 1#1)
    (hc4 : k0_cond4 i = 1#1)
    (X26 : Vec F S1x10 .f32)
    (X34 : Vec F S4096x1 .f32)
    (X35 : Vec F S4096x10 .f32)
    (X36 : Vec F S4096x4096 .bf16)
    : { L : List (View.Piece (Elt F) S4096x10 .f32) //
      ∀ (f31 : Buf (Elt F) (arg31.view.loc (c : Thread nD τ))) (K : PUnit → sProp 𝕄),
        iprop((arg26.view.loc (c : Thread nD τ) ↦[arg26.view.set]{fullShare} harg26.unread X26)
          ∗ (arg34.view.loc (c : Thread nD τ) ↦[arg34.view.set]{fullShare} harg34.unread X34)
          ∗ (arg35.view.loc (c : Thread nD τ) ↦[arg35.view.set]{fullShare} harg35.unread X35)
          ∗ (arg36.view.loc (c : Thread nD τ) ↦[arg36.view.set]{fullShare} harg36.unread X36)
          ∗ (arg31.view.loc (c : Thread nD τ) ↦[arg31.view.set]{fullShare} f31)
          ∗ (iprop((arg26.view.loc (c : Thread nD τ) ↦[arg26.view.set]{fullShare} harg26.unread X26)
              ∗ (arg34.view.loc (c : Thread nD τ) ↦[arg34.view.set]{fullShare} harg34.unread X34)
              ∗ (arg35.view.loc (c : Thread nD τ) ↦[arg35.view.set]{fullShare} harg35.unread X35)
              ∗ (arg36.view.loc (c : Thread nD τ) ↦[arg36.view.set]{fullShare} harg36.unread X36)
              ∗ (arg31.view.loc (c : Thread nD τ) ↦[arg31.view.set]{fullShare} arg31.view.writes (Elt F) f31 L)) -∗ K ⟨⟩))
        ⊢ wp frame (wpE (defs₀ (F := F)) Variants.none c none) Set.univ
            (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K } := by
  refine ⟨?_, fun f31 K => ?run⟩
  case run =>
    simp only [cc0__body_eq_skeleton]; unfold cc0__body_skel
    iintro ⟨H26, H34, H35, H36, H31, Hk⟩
    sl_exec_parts (disch := first | sl_exact hc1 | sl_exact hc2 | sl_exact hc3 | sl_exact hc4)
    sl_step
    iapply Hk
    isplitl [H26]; · iexact H26
    isplitl [H34]; · iexact H34
    isplitl [H35]; · iexact H35
    isplitl [H36]; · iexact H36
    iexact H31

end Cert.KernelIdeal.Hand

end
-- ==== Proof.Ideal.Track.lean ====
/-
  The relational proof data of the one pipelined call: what the five scratch buffers hold between grid points is tracked, and
  the four kinds of point (A encoder, B adjacency, C and D the two graph layers) each have to keep what is tracked.
-/
module

public import proofs.«01_k».proof.Proof.Gen.KernelIdeal.Frame
public import proofs.«01_k».proof.Proof.Ideal.RunA
public import proofs.«01_k».proof.Proof.Ideal.RunB
public import proofs.«01_k».proof.Proof.Ideal.RunC
public import proofs.«01_k».proof.Proof.Ideal.RunD

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The conditions at the four kinds of point -/

theorem condA1 : ∀ t : Fin grid0.N, t.val < 8 → k0_cond1 (grid0.coords t) = 1#1 := by decide +kernel
theorem condA2 : ∀ t : Fin grid0.N, t.val < 8 → ¬ Scalar.cmpi .ne (Scalar.extui (Scalar.cmpi .eq (BitVec.ofNat 32 (grid0.coords t 0).val) 8#32) : BitVec 32) 0#32 = 1#1 := by decide +kernel
theorem condA3 : ∀ t : Fin grid0.N, t.val < 8 → ¬ Scalar.cmpi .ne (Scalar.extui (Scalar.cmpi .eq (BitVec.ofNat 32 (grid0.coords t 0).val) 9#32) : BitVec 32) 0#32 = 1#1 := by decide +kernel
theorem condA4 : ∀ t : Fin grid0.N, t.val < 8 → ¬ k0_cond4 (grid0.coords t) = 1#1 := by decide +kernel
theorem condB1 : ∀ t : Fin grid0.N, t.val = 8 → ¬ k0_cond1 (grid0.coords t) = 1#1 := by decide +kernel
theorem condB2 : ∀ t : Fin grid0.N, t.val = 8 → Scalar.cmpi .ne (Scalar.extui (Scalar.cmpi .eq (BitVec.ofNat 32 (grid0.coords t 0).val) 8#32) : BitVec 32) 0#32 = 1#1 := by decide +kernel
theorem condB3 : ∀ t : Fin grid0.N, t.val = 8 → ¬ Scalar.cmpi .ne (Scalar.extui (Scalar.cmpi .eq (BitVec.ofNat 32 (grid0.coords t 0).val) 9#32) : BitVec 32) 0#32 = 1#1 := by decide +kernel
theorem condB4 : ∀ t : Fin grid0.N, t.val = 8 → ¬ k0_cond4 (grid0.coords t) = 1#1 := by decide +kernel
theorem condC1 : ∀ t : Fin grid0.N, t.val = 9 → ¬ k0_cond1 (grid0.coords t) = 1#1 := by decide +kernel
theorem condC2 : ∀ t : Fin grid0.N, t.val = 9 → ¬ Scalar.cmpi .ne (Scalar.extui (Scalar.cmpi .eq (BitVec.ofNat 32 (grid0.coords t 0).val) 8#32) : BitVec 32) 0#32 = 1#1 := by decide +kernel
theorem condC3 : ∀ t : Fin grid0.N, t.val = 9 → Scalar.cmpi .ne (Scalar.extui (Scalar.cmpi .eq (BitVec.ofNat 32 (grid0.coords t 0).val) 9#32) : BitVec 32) 0#32 = 1#1 := by decide +kernel
theorem condC4 : ∀ t : Fin grid0.N, t.val = 9 → ¬ k0_cond4 (grid0.coords t) = 1#1 := by decide +kernel
theorem condD1 : ∀ t : Fin grid0.N, t.val = 10 → ¬ k0_cond1 (grid0.coords t) = 1#1 := by decide +kernel
theorem condD2 : ∀ t : Fin grid0.N, t.val = 10 → ¬ Scalar.cmpi .ne (Scalar.extui (Scalar.cmpi .eq (BitVec.ofNat 32 (grid0.coords t 0).val) 8#32) : BitVec 32) 0#32 = 1#1 := by decide +kernel
theorem condD3 : ∀ t : Fin grid0.N, t.val = 10 → ¬ Scalar.cmpi .ne (Scalar.extui (Scalar.cmpi .eq (BitVec.ofNat 32 (grid0.coords t 0).val) 9#32) : BitVec 32) 0#32 = 1#1 := by decide +kernel
theorem condD4 : ∀ t : Fin grid0.N, t.val = 10 → k0_cond4 (grid0.coords t) = 1#1 := by decide +kernel

/-! ## The operands -/

abbrev ms0 (t : Fin cfg0.N) : Memref sig .tc .vmem S1x1 .f32 := win0_0.stage (cfg0.slots t 0)
theorem hs0 (t : Fin cfg0.N) : (ms0 t).IsWhole := hstage0_0 ((cfg0.slots t 0).cast nbuf0_0)
abbrev ms1 (t : Fin cfg0.N) : Memref sig .tc .vmem S1x1 .f32 := win0_1.stage (cfg0.slots t 1)
theorem hs1 (t : Fin cfg0.N) : (ms1 t).IsWhole := hstage0_1 ((cfg0.slots t 1).cast nbuf0_1)
abbrev ms2 (t : Fin cfg0.N) : Memref sig .tc .vmem S512x512 .f32 := win0_2.stage (cfg0.slots t 2)
theorem hs2 (t : Fin cfg0.N) : (ms2 t).IsWhole := hstage0_2 ((cfg0.slots t 2).cast nbuf0_2)
abbrev ms3 (t : Fin cfg0.N) : Memref sig .tc .vmem S512x512 .f32 := win0_3.stage (cfg0.slots t 3)
theorem hs3 (t : Fin cfg0.N) : (ms3 t).IsWhole := hstage0_3 ((cfg0.slots t 3).cast nbuf0_3)
abbrev ms4 (t : Fin cfg0.N) : Memref sig .tc .vmem S512x128 .f32 := win0_4.stage (cfg0.slots t 4)
theorem hs4 (t : Fin cfg0.N) : (ms4 t).IsWhole := hstage0_4 ((cfg0.slots t 4).cast nbuf0_4)
abbrev ms5 (t : Fin cfg0.N) : Memref sig .tc .vmem S512x128 .f32 := win0_5.stage (cfg0.slots t 5)
theorem hs5 (t : Fin cfg0.N) : (ms5 t).IsWhole := hstage0_5 ((cfg0.slots t 5).cast nbuf0_5)
abbrev ms6 (t : Fin cfg0.N) : Memref sig .tc .vmem S512x256 .f32 := win0_6.stage (cfg0.slots t 6)
theorem hs6 (t : Fin cfg0.N) : (ms6 t).IsWhole := hstage0_6 ((cfg0.slots t 6).cast nbuf0_6)
abbrev ms7 (t : Fin cfg0.N) : Memref sig .tc .vmem S1x256 .f32 := win0_7.stage (cfg0.slots t 7)
theorem hs7 (t : Fin cfg0.N) : (ms7 t).IsWhole := hstage0_7 ((cfg0.slots t 7).cast nbuf0_7)
abbrev ms8 (t : Fin cfg0.N) : Memref sig .tc .vmem S256x256 .f32 := win0_8.stage (cfg0.slots t 8)
theorem hs8 (t : Fin cfg0.N) : (ms8 t).IsWhole := hstage0_8 ((cfg0.slots t 8).cast nbuf0_8)
abbrev ms9 (t : Fin cfg0.N) : Memref sig .tc .vmem S1x256 .f32 := win0_9.stage (cfg0.slots t 9)
theorem hs9 (t : Fin cfg0.N) : (ms9 t).IsWhole := hstage0_9 ((cfg0.slots t 9).cast nbuf0_9)
abbrev ms10 (t : Fin cfg0.N) : Memref sig .tc .vmem S256x128 .f32 := win0_10.stage (cfg0.slots t 10)
theorem hs10 (t : Fin cfg0.N) : (ms10 t).IsWhole := hstage0_10 ((cfg0.slots t 10).cast nbuf0_10)
abbrev ms11 (t : Fin cfg0.N) : Memref sig .tc .vmem S1x128 .f32 := win0_11.stage (cfg0.slots t 11)
theorem hs11 (t : Fin cfg0.N) : (ms11 t).IsWhole := hstage0_11 ((cfg0.slots t 11).cast nbuf0_11)
abbrev ms12 (t : Fin cfg0.N) : Memref sig .tc .vmem S256x128 .f32 := win0_12.stage (cfg0.slots t 12)
theorem hs12 (t : Fin cfg0.N) : (ms12 t).IsWhole := hstage0_12 ((cfg0.slots t 12).cast nbuf0_12)
abbrev ms13 (t : Fin cfg0.N) : Memref sig .tc .vmem S1x128 .f32 := win0_13.stage (cfg0.slots t 13)
theorem hs13 (t : Fin cfg0.N) : (ms13 t).IsWhole := hstage0_13 ((cfg0.slots t 13).cast nbuf0_13)
abbrev ms14 (t : Fin cfg0.N) : Memref sig .tc .vmem S512x256 .f32 := win0_14.stage (cfg0.slots t 14)
theorem hs14 (t : Fin cfg0.N) : (ms14 t).IsWhole := hstage0_14 ((cfg0.slots t 14).cast nbuf0_14)
abbrev ms15 (t : Fin cfg0.N) : Memref sig .tc .vmem S1x256 .f32 := win0_15.stage (cfg0.slots t 15)
theorem hs15 (t : Fin cfg0.N) : (ms15 t).IsWhole := hstage0_15 ((cfg0.slots t 15).cast nbuf0_15)
abbrev ms16 (t : Fin cfg0.N) : Memref sig .tc .vmem S256x256 .f32 := win0_16.stage (cfg0.slots t 16)
theorem hs16 (t : Fin cfg0.N) : (ms16 t).IsWhole := hstage0_16 ((cfg0.slots t 16).cast nbuf0_16)
abbrev ms17 (t : Fin cfg0.N) : Memref sig .tc .vmem S1x256 .f32 := win0_17.stage (cfg0.slots t 17)
theorem hs17 (t : Fin cfg0.N) : (ms17 t).IsWhole := hstage0_17 ((cfg0.slots t 17).cast nbuf0_17)
abbrev ms18 (t : Fin cfg0.N) : Memref sig .tc .vmem S256x128 .f32 := win0_18.stage (cfg0.slots t 18)
theorem hs18 (t : Fin cfg0.N) : (ms18 t).IsWhole := hstage0_18 ((cfg0.slots t 18).cast nbuf0_18)
abbrev ms19 (t : Fin cfg0.N) : Memref sig .tc .vmem S1x128 .f32 := win0_19.stage (cfg0.slots t 19)
theorem hs19 (t : Fin cfg0.N) : (ms19 t).IsWhole := hstage0_19 ((cfg0.slots t 19).cast nbuf0_19)
abbrev ms20 (t : Fin cfg0.N) : Memref sig .tc .vmem S256x128 .f32 := win0_20.stage (cfg0.slots t 20)
theorem hs20 (t : Fin cfg0.N) : (ms20 t).IsWhole := hstage0_20 ((cfg0.slots t 20).cast nbuf0_20)
abbrev ms21 (t : Fin cfg0.N) : Memref sig .tc .vmem S1x128 .f32 := win0_21.stage (cfg0.slots t 21)
theorem hs21 (t : Fin cfg0.N) : (ms21 t).IsWhole := hstage0_21 ((cfg0.slots t 21).cast nbuf0_21)
abbrev ms22 (t : Fin cfg0.N) : Memref sig .tc .vmem S128x64 .f32 := win0_22.stage (cfg0.slots t 22)
theorem hs22 (t : Fin cfg0.N) : (ms22 t).IsWhole := hstage0_22 ((cfg0.slots t 22).cast nbuf0_22)
abbrev ms23 (t : Fin cfg0.N) : Memref sig .tc .vmem S1x64 .f32 := win0_23.stage (cfg0.slots t 23)
theorem hs23 (t : Fin cfg0.N) : (ms23 t).IsWhole := hstage0_23 ((cfg0.slots t 23).cast nbuf0_23)
abbrev ms24 (t : Fin cfg0.N) : Memref sig .tc .vmem S64x10 .f32 := win0_24.stage (cfg0.slots t 24)
theorem hs24 (t : Fin cfg0.N) : (ms24 t).IsWhole := hstage0_24 ((cfg0.slots t 24).cast nbuf0_24)
abbrev ms25 (t : Fin cfg0.N) : Memref sig .tc .vmem S1x10 .f32 := win0_25.stage (cfg0.slots t 25)
theorem hs25 (t : Fin cfg0.N) : (ms25 t).IsWhole := hstage0_25 ((cfg0.slots t 25).cast nbuf0_25)
abbrev ms26 (t : Fin cfg0.N) : Memref sig .tc .vmem S512x128 .f32 := win0_26.stage (cfg0.slots t 26)
theorem hs26 (t : Fin cfg0.N) : (ms26 t).IsWhole := hstage0_26 ((cfg0.slots t 26).cast nbuf0_26)
abbrev ms27 (t : Fin cfg0.N) : Memref sig .tc .vmem S512x128 .f32 := win0_27.stage (cfg0.slots t 27)
theorem hs27 (t : Fin cfg0.N) : (ms27 t).IsWhole := hstage0_27 ((cfg0.slots t 27).cast nbuf0_27)
abbrev ms28 (t : Fin cfg0.N) : Memref sig .tc .vmem S512x128 .f32 := win0_28.stage (cfg0.slots t 28)
theorem hs28 (t : Fin cfg0.N) : (ms28 t).IsWhole := hstage0_28 ((cfg0.slots t 28).cast nbuf0_28)
abbrev ms29 (t : Fin cfg0.N) : Memref sig .tc .vmem S512x128 .f32 := win0_29.stage (cfg0.slots t 29)
theorem hs29 (t : Fin cfg0.N) : (ms29 t).IsWhole := hstage0_29 ((cfg0.slots t 29).cast nbuf0_29)
abbrev ms30 (t : Fin cfg0.N) : Memref sig .tc .vmem S4096x10 .f32 := win0_30.stage (cfg0.slots t 30)
theorem hs30 (t : Fin cfg0.N) : (ms30 t).IsWhole := hstage0_30 ((cfg0.slots t 30).cast nbuf0_30)
abbrev sc0 : Memref sig .tc .vmem S4096x256 .bf16 := Memref.whole cc0_scratch0
abbrev sc1 : Memref sig .tc .vmem S4096x64 .f32 := Memref.whole cc0_scratch1
abbrev sc2 : Memref sig .tc .vmem S4096x1 .f32 := Memref.whole cc0_scratch2
abbrev sc3 : Memref sig .tc .vmem S4096x10 .f32 := Memref.whole cc0_scratch3
abbrev sc4 : Memref sig .tc .vmem S4096x4096 .bf16 := Memref.whole cc0_scratch4

/-- What a whole buffer reads after the pieces `L` are written over the contents `Y`. -/
def over {sp : Space} {s : Shape} {e : EltTy} (M : Memref sig .tc sp s e) (h : M.IsWhole) (Y : s.Idx → Elt F e) (L : List (View.Piece (Elt F) s e)) :
    s.Idx → Elt F e :=
  M.view.read (Elt F) (M.view.writes (Elt F) (h.unread Y) L)

/-- The contents of the staging buffers at a point. -/
abbrev Stg (F : FTy → Type) [FloatOps F] [Named F] : Type := (w : Fin cfg0.W) → (cfg0.win w).block.Idx → Elt F (cfg0.win w).elt

/-- The pieces the body writes at a point of kind A. -/
def LA (c : Dev nD) (t : Fin cfg0.N) (h : t.val < 8) (Y : Stg F) (S0 : Vec F S4096x256 .bf16) (S1 : Vec F S4096x64 .f32) (S2 : Vec F S4096x1 .f32) (S3 : Vec F S4096x10 .f32) (S4 : Vec F S4096x4096 .bf16) :=
  (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) sc0 (Memref.isWhole_whole _) sc1 (Memref.isWhole_whole _) sc2 (Memref.isWhole_whole _) sc3 (Memref.isWhole_whole _) sc4 (Memref.isWhole_whole _) (condA1 t h) (condA2 t h) (condA3 t h) (condA4 t h) (Y 2) (Y 3) (Y 4) (Y 5) (Y 6) (Y 7) (Y 8) (Y 9) (Y 10) (Y 11) (Y 12) (Y 13) (Y 14) (Y 15) (Y 16) (Y 17) (Y 18) (Y 19) (Y 20) (Y 21) (Y 22)).1

/-- The pieces the body writes at a point of kind B. -/
def LB (c : Dev nD) (t : Fin cfg0.N) (h : t.val = 8) (Y : Stg F) (S0 : Vec F S4096x256 .bf16) (S1 : Vec F S4096x64 .f32) (S2 : Vec F S4096x1 .f32) (S3 : Vec F S4096x10 .f32) (S4 : Vec F S4096x4096 .bf16) :=
  (runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) sc0 (Memref.isWhole_whole _) sc1 (Memref.isWhole_whole _) sc2 (Memref.isWhole_whole _) sc3 (Memref.isWhole_whole _) sc4 (Memref.isWhole_whole _) (condB1 t h) (condB2 t h) (condB3 t h) (condB4 t h) (Y 0) (Y 1) S0).1

/-- The pieces the body writes at a point of kind C. -/
def LC (c : Dev nD) (t : Fin cfg0.N) (h : t.val = 9) (Y : Stg F) (S0 : Vec F S4096x256 .bf16) (S1 : Vec F S4096x64 .f32) (S2 : Vec F S4096x1 .f32) (S3 : Vec F S4096x10 .f32) (S4 : Vec F S4096x4096 .bf16) :=
  (runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) sc0 (Memref.isWhole_whole _) sc1 (Memref.isWhole_whole _) sc2 (Memref.isWhole_whole _) sc3 (Memref.isWhole_whole _) sc4 (Memref.isWhole_whole _) (condC1 t h) (condC2 t h) (condC3 t h) (condC4 t h) (Y 23) (Y 24) S1 S2 S4).1

/-- The pieces the body writes at a point of kind D. -/
def LD (c : Dev nD) (t : Fin cfg0.N) (h : t.val = 10) (Y : Stg F) (S0 : Vec F S4096x256 .bf16) (S1 : Vec F S4096x64 .f32) (S2 : Vec F S4096x1 .f32) (S3 : Vec F S4096x10 .f32) (S4 : Vec F S4096x4096 .bf16) :=
  (runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) sc0 (Memref.isWhole_whole _) sc1 (Memref.isWhole_whole _) sc2 (Memref.isWhole_whole _) sc3 (Memref.isWhole_whole _) sc4 (Memref.isWhole_whole _) (condD1 t h) (condD2 t h) (condD3 t h) (condD4 t h) (Y 25) S2 S3 S4).1

/-- What is tracked: what the five scratch buffers hold before each point, and what the body may leave in each window. -/
structure Track (F : FTy → Type) [FloatOps F] [Named F] where
  Inv : ℕ → Vec F S4096x256 .bf16 → Vec F S4096x64 .f32 → Vec F S4096x1 .f32 → Vec F S4096x10 .f32 → Vec F S4096x4096 .bf16 → Prop
  after : (w : Fin cfg0.W) → Fin cfg0.N → (Y X : (cfg0.win w).block.Idx → Elt F (cfg0.win w).elt) → Prop

variable (T : Track F)

/-- The invariant before point `n`: the scratch buffers at contents that `Inv n` allows, the generator register at some state. -/
def PhiT (c : Dev nD) (n : ℕ) : sProp 𝕄 :=
  iprop(∃ S0, ∃ S1, ∃ S2, ∃ S3, ∃ S4, ⌜T.Inv n S0 S1 S2 S3 S4⌝ ∗ owns (c : Thread nD τ) sc0 fullShare S0 ∗ owns (c : Thread nD τ) sc1 fullShare S1
    ∗ owns (c : Thread nD τ) sc2 fullShare S2 ∗ owns (c : Thread nD τ) sc3 fullShare S3 ∗ owns (c : Thread nD τ) sc4 fullShare S4 ∗ ∃ r, prngReg c r)

/-- The relational proof data of the call. -/
def rdat (c : Dev nD) : RDat τ (Elt F) Unit ℕ (UR sig nD τ) ℕ cfg0 c where
  A w := V m c (Pipeline.arrRef spec0 w)
  after := T.after
  Φ n := PhiT T c n.val
  q _ := fullShare
  owed _ := 0

/-- The four kinds of point keep what is tracked. -/
structure StepOK (c : Dev nD) : Prop where
  inp : ∀ (w : Fin cfg0.W), w.val < 26 → ∀ t Y, T.after w t Y Y
  stepA : ∀ (t : Fin cfg0.N) (h : t.val < 8) (Y : Stg F) (S0 : Vec F S4096x256 .bf16) (S1 : Vec F S4096x64 .f32) (S2 : Vec F S4096x1 .f32) (S3 : Vec F S4096x10 .f32) (S4 : Vec F S4096x4096 .bf16), (∀ w, (rdat m T c).Finds w t (Y w)) → T.Inv t.val S0 S1 S2 S3 S4 →
    T.after 26 t (Y 26) (over (ms26 t) (hs26 t) (Y 26) (LA c t h Y S0 S1 S2 S3 S4).1)
    ∧ T.after 27 t (Y 27) (over (ms27 t) (hs27 t) (Y 27) (LA c t h Y S0 S1 S2 S3 S4).2.1)
    ∧ T.after 28 t (Y 28) (over (ms28 t) (hs28 t) (Y 28) (LA c t h Y S0 S1 S2 S3 S4).2.2.1)
    ∧ T.after 29 t (Y 29) (over (ms29 t) (hs29 t) (Y 29) (LA c t h Y S0 S1 S2 S3 S4).2.2.2.1)
    ∧ T.after 30 t (Y 30) (Y 30)
    ∧ T.Inv (t.val + 1) (over sc0 (Memref.isWhole_whole _) S0 (LA c t h Y S0 S1 S2 S3 S4).2.2.2.2.1) (over sc1 (Memref.isWhole_whole _) S1 (LA c t h Y S0 S1 S2 S3 S4).2.2.2.2.2) S2 S3 S4
  stepB : ∀ (t : Fin cfg0.N) (h : t.val = 8) (Y : Stg F) (S0 : Vec F S4096x256 .bf16) (S1 : Vec F S4096x64 .f32) (S2 : Vec F S4096x1 .f32) (S3 : Vec F S4096x10 .f32) (S4 : Vec F S4096x4096 .bf16), (∀ w, (rdat m T c).Finds w t (Y w)) → T.Inv t.val S0 S1 S2 S3 S4 →
    T.after 26 t (Y 26) (Y 26)
    ∧ T.after 27 t (Y 27) (Y 27)
    ∧ T.after 28 t (Y 28) (Y 28)
    ∧ T.after 29 t (Y 29) (Y 29)
    ∧ T.after 30 t (Y 30) (Y 30)
    ∧ T.Inv (t.val + 1) S0 S1 (over sc2 (Memref.isWhole_whole _) S2 (LB c t h Y S0 S1 S2 S3 S4).1) S3 (over sc4 (Memref.isWhole_whole _) S4 (LB c t h Y S0 S1 S2 S3 S4).2)
  stepC : ∀ (t : Fin cfg0.N) (h : t.val = 9) (Y : Stg F) (S0 : Vec F S4096x256 .bf16) (S1 : Vec F S4096x64 .f32) (S2 : Vec F S4096x1 .f32) (S3 : Vec F S4096x10 .f32) (S4 : Vec F S4096x4096 .bf16), (∀ w, (rdat m T c).Finds w t (Y w)) → T.Inv t.val S0 S1 S2 S3 S4 →
    T.after 26 t (Y 26) (Y 26)
    ∧ T.after 27 t (Y 27) (Y 27)
    ∧ T.after 28 t (Y 28) (Y 28)
    ∧ T.after 29 t (Y 29) (Y 29)
    ∧ T.after 30 t (Y 30) (Y 30)
    ∧ T.Inv (t.val + 1) S0 S1 S2 (over sc3 (Memref.isWhole_whole _) S3 (LC c t h Y S0 S1 S2 S3 S4)) S4
  stepD : ∀ (t : Fin cfg0.N) (h : t.val = 10) (Y : Stg F) (S0 : Vec F S4096x256 .bf16) (S1 : Vec F S4096x64 .f32) (S2 : Vec F S4096x1 .f32) (S3 : Vec F S4096x10 .f32) (S4 : Vec F S4096x4096 .bf16), (∀ w, (rdat m T c).Finds w t (Y w)) → T.Inv t.val S0 S1 S2 S3 S4 →
    T.after 26 t (Y 26) (Y 26)
    ∧ T.after 27 t (Y 27) (Y 27)
    ∧ T.after 28 t (Y 28) (Y 28)
    ∧ T.after 29 t (Y 29) (Y 29)
    ∧ T.after 30 t (Y 30) (over (ms30 t) (hs30 t) (Y 30) (LD c t h Y S0 S1 S2 S3 S4))
    ∧ T.Inv (t.val + 1) S0 S1 S2 S3 S4

end Cert.KernelIdeal.Hand

end
-- ==== Proof.Ideal.PointA.lean ====
/-
  The body at a point of kind A, from its run.
-/
module

public import proofs.«01_k».proof.Proof.Ideal.Track

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

variable (T : Track F)

set_option maxHeartbeats 4000000 in
theorem pointA (c : Dev nD) (ok : StepOK m T c) (t : Fin cfg0.N) (h : t.val < 8) (Y : Stg F) (hY : ∀ w, (rdat m T c).Finds w t (Y w)) :
    iprop(PhiT T c t.val ∗ (rdat m T c).owesAt () t.castSucc
      ∗ owns (c : Thread nD τ) (ms0 t) fullShare (Y 0) ∗ owns (c : Thread nD τ) (ms1 t) fullShare (Y 1) ∗ owns (c : Thread nD τ) (ms2 t) fullShare (Y 2) ∗ owns (c : Thread nD τ) (ms3 t) fullShare (Y 3) ∗ owns (c : Thread nD τ) (ms4 t) fullShare (Y 4) ∗ owns (c : Thread nD τ) (ms5 t) fullShare (Y 5) ∗ owns (c : Thread nD τ) (ms6 t) fullShare (Y 6) ∗ owns (c : Thread nD τ) (ms7 t) fullShare (Y 7) ∗ owns (c : Thread nD τ) (ms8 t) fullShare (Y 8) ∗ owns (c : Thread nD τ) (ms9 t) fullShare (Y 9) ∗ owns (c : Thread nD τ) (ms10 t) fullShare (Y 10) ∗ owns (c : Thread nD τ) (ms11 t) fullShare (Y 11) ∗ owns (c : Thread nD τ) (ms12 t) fullShare (Y 12) ∗ owns (c : Thread nD τ) (ms13 t) fullShare (Y 13) ∗ owns (c : Thread nD τ) (ms14 t) fullShare (Y 14) ∗ owns (c : Thread nD τ) (ms15 t) fullShare (Y 15) ∗ owns (c : Thread nD τ) (ms16 t) fullShare (Y 16) ∗ owns (c : Thread nD τ) (ms17 t) fullShare (Y 17) ∗ owns (c : Thread nD τ) (ms18 t) fullShare (Y 18) ∗ owns (c : Thread nD τ) (ms19 t) fullShare (Y 19) ∗ owns (c : Thread nD τ) (ms20 t) fullShare (Y 20) ∗ owns (c : Thread nD τ) (ms21 t) fullShare (Y 21) ∗ owns (c : Thread nD τ) (ms22 t) fullShare (Y 22) ∗ owns (c : Thread nD τ) (ms23 t) fullShare (Y 23) ∗ owns (c : Thread nD τ) (ms24 t) fullShare (Y 24) ∗ owns (c : Thread nD τ) (ms25 t) fullShare (Y 25) ∗ owns (c : Thread nD τ) (ms26 t) fullShare (Y 26) ∗ owns (c : Thread nD τ) (ms27 t) fullShare (Y 27) ∗ owns (c : Thread nD τ) (ms28 t) fullShare (Y 28) ∗ owns (c : Thread nD τ) (ms29 t) fullShare (Y 29) ∗ owns (c : Thread nD τ) (ms30 t) fullShare (Y 30))
    ⊢ wp frame (wpE (defs₀ (F := F)) Variants.none c none) Set.univ (bodyAt0 t) fun _ =>
      iprop(PhiT T c (t.val + 1) ∗ (rdat m T c).owesAt () t.succ
        ∗ (∃ X, ⌜T.after 0 t (Y 0) X⌝ ∗ owns (c : Thread nD τ) (ms0 t) fullShare X) ∗ (∃ X, ⌜T.after 1 t (Y 1) X⌝ ∗ owns (c : Thread nD τ) (ms1 t) fullShare X) ∗ (∃ X, ⌜T.after 2 t (Y 2) X⌝ ∗ owns (c : Thread nD τ) (ms2 t) fullShare X) ∗ (∃ X, ⌜T.after 3 t (Y 3) X⌝ ∗ owns (c : Thread nD τ) (ms3 t) fullShare X) ∗ (∃ X, ⌜T.after 4 t (Y 4) X⌝ ∗ owns (c : Thread nD τ) (ms4 t) fullShare X) ∗ (∃ X, ⌜T.after 5 t (Y 5) X⌝ ∗ owns (c : Thread nD τ) (ms5 t) fullShare X) ∗ (∃ X, ⌜T.after 6 t (Y 6) X⌝ ∗ owns (c : Thread nD τ) (ms6 t) fullShare X) ∗ (∃ X, ⌜T.after 7 t (Y 7) X⌝ ∗ owns (c : Thread nD τ) (ms7 t) fullShare X) ∗ (∃ X, ⌜T.after 8 t (Y 8) X⌝ ∗ owns (c : Thread nD τ) (ms8 t) fullShare X) ∗ (∃ X, ⌜T.after 9 t (Y 9) X⌝ ∗ owns (c : Thread nD τ) (ms9 t) fullShare X) ∗ (∃ X, ⌜T.after 10 t (Y 10) X⌝ ∗ owns (c : Thread nD τ) (ms10 t) fullShare X) ∗ (∃ X, ⌜T.after 11 t (Y 11) X⌝ ∗ owns (c : Thread nD τ) (ms11 t) fullShare X) ∗ (∃ X, ⌜T.after 12 t (Y 12) X⌝ ∗ owns (c : Thread nD τ) (ms12 t) fullShare X) ∗ (∃ X, ⌜T.after 13 t (Y 13) X⌝ ∗ owns (c : Thread nD τ) (ms13 t) fullShare X) ∗ (∃ X, ⌜T.after 14 t (Y 14) X⌝ ∗ owns (c : Thread nD τ) (ms14 t) fullShare X) ∗ (∃ X, ⌜T.after 15 t (Y 15) X⌝ ∗ owns (c : Thread nD τ) (ms15 t) fullShare X) ∗ (∃ X, ⌜T.after 16 t (Y 16) X⌝ ∗ owns (c : Thread nD τ) (ms16 t) fullShare X) ∗ (∃ X, ⌜T.after 17 t (Y 17) X⌝ ∗ owns (c : Thread nD τ) (ms17 t) fullShare X) ∗ (∃ X, ⌜T.after 18 t (Y 18) X⌝ ∗ owns (c : Thread nD τ) (ms18 t) fullShare X) ∗ (∃ X, ⌜T.after 19 t (Y 19) X⌝ ∗ owns (c : Thread nD τ) (ms19 t) fullShare X) ∗ (∃ X, ⌜T.after 20 t (Y 20) X⌝ ∗ owns (c : Thread nD τ) (ms20 t) fullShare X) ∗ (∃ X, ⌜T.after 21 t (Y 21) X⌝ ∗ owns (c : Thread nD τ) (ms21 t) fullShare X) ∗ (∃ X, ⌜T.after 22 t (Y 22) X⌝ ∗ owns (c : Thread nD τ) (ms22 t) fullShare X) ∗ (∃ X, ⌜T.after 23 t (Y 23) X⌝ ∗ owns (c : Thread nD τ) (ms23 t) fullShare X) ∗ (∃ X, ⌜T.after 24 t (Y 24) X⌝ ∗ owns (c : Thread nD τ) (ms24 t) fullShare X) ∗ (∃ X, ⌜T.after 25 t (Y 25) X⌝ ∗ owns (c : Thread nD τ) (ms25 t) fullShare X) ∗ (∃ X, ⌜T.after 26 t (Y 26) X⌝ ∗ owns (c : Thread nD τ) (ms26 t) fullShare X) ∗ (∃ X, ⌜T.after 27 t (Y 27) X⌝ ∗ owns (c : Thread nD τ) (ms27 t) fullShare X) ∗ (∃ X, ⌜T.after 28 t (Y 28) X⌝ ∗ owns (c : Thread nD τ) (ms28 t) fullShare X) ∗ (∃ X, ⌜T.after 29 t (Y 29) X⌝ ∗ owns (c : Thread nD τ) (ms29 t) fullShare X) ∗ (∃ X, ⌜T.after 30 t (Y 30) X⌝ ∗ owns (c : Thread nD τ) (ms30 t) fullShare X)) := by
  unfold PhiT bodyAt0
  iintro ⟨⟨%S0, %S1, %S2, %S3, %S4, %hI, HS0, HS1, HS2, HS3, HS4, Hg⟩, HW, H0, H1, H2, H3, H4, H5, H6, H7, H8, H9, H10, H11, H12, H13, H14, H15, H16, H17, H18, H19, H20, H21, H22, H23, H24, H25, H26, H27, H28, H29, H30⟩
  obtain ⟨a26, a27, a28, a29, a30, hI'⟩ := ok.stepA t h Y S0 S1 S2 S3 S4 hY hI
  unfold owns
  icases H2 with ⟨%f3, %e3, H2⟩
  obtain rfl := (hs2 t).eq_unread e3
  icases H3 with ⟨%f4, %e4, H3⟩
  obtain rfl := (hs3 t).eq_unread e4
  icases H4 with ⟨%f5, %e5, H4⟩
  obtain rfl := (hs4 t).eq_unread e5
  icases H5 with ⟨%f6, %e6, H5⟩
  obtain rfl := (hs5 t).eq_unread e6
  icases H6 with ⟨%f7, %e7, H6⟩
  obtain rfl := (hs6 t).eq_unread e7
  icases H7 with ⟨%f8, %e8, H7⟩
  obtain rfl := (hs7 t).eq_unread e8
  icases H8 with ⟨%f9, %e9, H8⟩
  obtain rfl := (hs8 t).eq_unread e9
  icases H9 with ⟨%f10, %e10, H9⟩
  obtain rfl := (hs9 t).eq_unread e10
  icases H10 with ⟨%f11, %e11, H10⟩
  obtain rfl := (hs10 t).eq_unread e11
  icases H11 with ⟨%f12, %e12, H11⟩
  obtain rfl := (hs11 t).eq_unread e12
  icases H12 with ⟨%f13, %e13, H12⟩
  obtain rfl := (hs12 t).eq_unread e13
  icases H13 with ⟨%f14, %e14, H13⟩
  obtain rfl := (hs13 t).eq_unread e14
  icases H14 with ⟨%f15, %e15, H14⟩
  obtain rfl := (hs14 t).eq_unread e15
  icases H15 with ⟨%f16, %e16, H15⟩
  obtain rfl := (hs15 t).eq_unread e16
  icases H16 with ⟨%f17, %e17, H16⟩
  obtain rfl := (hs16 t).eq_unread e17
  icases H17 with ⟨%f18, %e18, H17⟩
  obtain rfl := (hs17 t).eq_unread e18
  icases H18 with ⟨%f19, %e19, H18⟩
  obtain rfl := (hs18 t).eq_unread e19
  icases H19 with ⟨%f20, %e20, H19⟩
  obtain rfl := (hs19 t).eq_unread e20
  icases H20 with ⟨%f21, %e21, H20⟩
  obtain rfl := (hs20 t).eq_unread e21
  icases H21 with ⟨%f22, %e22, H21⟩
  obtain rfl := (hs21 t).eq_unread e22
  icases H22 with ⟨%f23, %e23, H22⟩
  obtain rfl := (hs22 t).eq_unread e23
  icases H26 with ⟨%f27, %e27, H26⟩
  obtain rfl := (hs26 t).eq_unread e27
  icases H27 with ⟨%f28, %e28, H27⟩
  obtain rfl := (hs27 t).eq_unread e28
  icases H28 with ⟨%f29, %e29, H28⟩
  obtain rfl := (hs28 t).eq_unread e29
  icases H29 with ⟨%f30, %e30, H29⟩
  obtain rfl := (hs29 t).eq_unread e30
  icases HS0 with ⟨%f32, %e32, HS0⟩
  obtain rfl := (Memref.isWhole_whole cc0_scratch0).eq_unread e32
  icases HS1 with ⟨%f33, %e33, HS1⟩
  obtain rfl := (Memref.isWhole_whole cc0_scratch1).eq_unread e33
  iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) sc0 (Memref.isWhole_whole _) sc1 (Memref.isWhole_whole _) sc2 (Memref.isWhole_whole _) sc3 (Memref.isWhole_whole _) sc4 (Memref.isWhole_whole _) (condA1 t h) (condA2 t h) (condA3 t h) (condA4 t h) (Y 2) (Y 3) (Y 4) (Y 5) (Y 6) (Y 7) (Y 8) (Y 9) (Y 10) (Y 11) (Y 12) (Y 13) (Y 14) (Y 15) (Y 16) (Y 17) (Y 18) (Y 19) (Y 20) (Y 21) (Y 22)).2 _ _ _ _ _ _ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H26]; · iexact H26
  isplitl [H27]; · iexact H27
  isplitl [H28]; · iexact H28
  isplitl [H29]; · iexact H29
  isplitl [HS0]; · iexact HS0
  isplitl [HS1]; · iexact HS1
  iintro ⟨H2, H3, H4, H5, H6, H7, H8, H9, H10, H11, H12, H13, H14, H15, H16, H17, H18, H19, H20, H21, H22, H26, H27, H28, H29, HS0, HS1⟩
  isplitl [HS0 HS1 HS2 HS3 HS4 Hg]
  · iexists _, _, _, _, _; isplitr; · ipureintro; exact hI'
    isplitl [HS0]
    · iexists _; isplitr; swap; · iexact HS0
      ipureintro; exact rfl
    isplitl [HS1]
    · iexists _; isplitr; swap; · iexact HS1
      ipureintro; exact rfl
    isplitl [HS2]
    · iexact HS2
    isplitl [HS3]
    · iexact HS3
    isplitl [HS4]
    · iexact HS4
    iexact Hg
  isplitl [HW]; · iexact HW
  isplitl [H0]
  · iexists _; isplitr; · ipureintro; exact ok.inp 0 (by decide) t _
    iexact H0
  isplitl [H1]
  · iexists _; isplitr; · ipureintro; exact ok.inp 1 (by decide) t _
    iexact H1
  isplitl [H2]
  · iexists _; isplitr; · ipureintro; exact ok.inp 2 (by decide) t _
    iexists _; isplitr; swap; · iexact H2
    ipureintro; exact e3
  isplitl [H3]
  · iexists _; isplitr; · ipureintro; exact ok.inp 3 (by decide) t _
    iexists _; isplitr; swap; · iexact H3
    ipureintro; exact e4
  isplitl [H4]
  · iexists _; isplitr; · ipureintro; exact ok.inp 4 (by decide) t _
    iexists _; isplitr; swap; · iexact H4
    ipureintro; exact e5
  isplitl [H5]
  · iexists _; isplitr; · ipureintro; exact ok.inp 5 (by decide) t _
    iexists _; isplitr; swap; · iexact H5
    ipureintro; exact e6
  isplitl [H6]
  · iexists _; isplitr; · ipureintro; exact ok.inp 6 (by decide) t _
    iexists _; isplitr; swap; · iexact H6
    ipureintro; exact e7
  isplitl [H7]
  · iexists _; isplitr; · ipureintro; exact ok.inp 7 (by decide) t _
    iexists _; isplitr; swap; · iexact H7
    ipureintro; exact e8
  isplitl [H8]
  · iexists _; isplitr; · ipureintro; exact ok.inp 8 (by decide) t _
    iexists _; isplitr; swap; · iexact H8
    ipureintro; exact e9
  isplitl [H9]
  · iexists _; isplitr; · ipureintro; exact ok.inp 9 (by decide) t _
    iexists _; isplitr; swap; · iexact H9
    ipureintro; exact e10
  isplitl [H10]
  · iexists _; isplitr; · ipureintro; exact ok.inp 10 (by decide) t _
    iexists _; isplitr; swap; · iexact H10
    ipureintro; exact e11
  isplitl [H11]
  · iexists _; isplitr; · ipureintro; exact ok.inp 11 (by decide) t _
    iexists _; isplitr; swap; · iexact H11
    ipureintro; exact e12
  isplitl [H12]
  · iexists _; isplitr; · ipureintro; exact ok.inp 12 (by decide) t _
    iexists _; isplitr; swap; · iexact H12
    ipureintro; exact e13
  isplitl [H13]
  · iexists _; isplitr; · ipureintro; exact ok.inp 13 (by decide) t _
    iexists _; isplitr; swap; · iexact H13
    ipureintro; exact e14
  isplitl [H14]
  · iexists _; isplitr; · ipureintro; exact ok.inp 14 (by decide) t _
    iexists _; isplitr; swap; · iexact H14
    ipureintro; exact e15
  isplitl [H15]
  · iexists _; isplitr; · ipureintro; exact ok.inp 15 (by decide) t _
    iexists _; isplitr; swap; · iexact H15
    ipureintro; exact e16
  isplitl [H16]
  · iexists _; isplitr; · ipureintro; exact ok.inp 16 (by decide) t _
    iexists _; isplitr; swap; · iexact H16
    ipureintro; exact e17
  isplitl [H17]
  · iexists _; isplitr; · ipureintro; exact ok.inp 17 (by decide) t _
    iexists _; isplitr; swap; · iexact H17
    ipureintro; exact e18
  isplitl [H18]
  · iexists _; isplitr; · ipureintro; exact ok.inp 18 (by decide) t _
    iexists _; isplitr; swap; · iexact H18
    ipureintro; exact e19
  isplitl [H19]
  · iexists _; isplitr; · ipureintro; exact ok.inp 19 (by decide) t _
    iexists _; isplitr; swap; · iexact H19
    ipureintro; exact e20
  isplitl [H20]
  · iexists _; isplitr; · ipureintro; exact ok.inp 20 (by decide) t _
    iexists _; isplitr; swap; · iexact H20
    ipureintro; exact e21
  isplitl [H21]
  · iexists _; isplitr; · ipureintro; exact ok.inp 21 (by decide) t _
    iexists _; isplitr; swap; · iexact H21
    ipureintro; exact e22
  isplitl [H22]
  · iexists _; isplitr; · ipureintro; exact ok.inp 22 (by decide) t _
    iexists _; isplitr; swap; · iexact H22
    ipureintro; exact e23
  isplitl [H23]
  · iexists _; isplitr; · ipureintro; exact ok.inp 23 (by decide) t _
    iexact H23
  isplitl [H24]
  · iexists _; isplitr; · ipureintro; exact ok.inp 24 (by decide) t _
    iexact H24
  isplitl [H25]
  · iexists _; isplitr; · ipureintro; exact ok.inp 25 (by decide) t _
    iexact H25
  isplitl [H26]
  · iexists _; isplitr; · ipureintro; exact a26
    iexists _; isplitr; swap; · iexact H26
    ipureintro; exact rfl
  isplitl [H27]
  · iexists _; isplitr; · ipureintro; exact a27
    iexists _; isplitr; swap; · iexact H27
    ipureintro; exact rfl
  isplitl [H28]
  · iexists _; isplitr; · ipureintro; exact a28
    iexists _; isplitr; swap; · iexact H28
    ipureintro; exact rfl
  isplitl [H29]
  · iexists _; isplitr; · ipureintro; exact a29
    iexists _; isplitr; swap; · iexact H29
    ipureintro; exact rfl
  iexists _; isplitr; · ipureintro; exact a30
  iexact H30

end Cert.KernelIdeal.Hand

end
-- ==== Proof.Ideal.PointB.lean ====
/-
  The body at a point of kind B, from its run.
-/
module

public import proofs.«01_k».proof.Proof.Ideal.Track

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

variable (T : Track F)

set_option maxHeartbeats 4000000 in
theorem pointB (c : Dev nD) (ok : StepOK m T c) (t : Fin cfg0.N) (h : t.val = 8) (Y : Stg F) (hY : ∀ w, (rdat m T c).Finds w t (Y w)) :
    iprop(PhiT T c t.val ∗ (rdat m T c).owesAt () t.castSucc
      ∗ owns (c : Thread nD τ) (ms0 t) fullShare (Y 0) ∗ owns (c : Thread nD τ) (ms1 t) fullShare (Y 1) ∗ owns (c : Thread nD τ) (ms2 t) fullShare (Y 2) ∗ owns (c : Thread nD τ) (ms3 t) fullShare (Y 3) ∗ owns (c : Thread nD τ) (ms4 t) fullShare (Y 4) ∗ owns (c : Thread nD τ) (ms5 t) fullShare (Y 5) ∗ owns (c : Thread nD τ) (ms6 t) fullShare (Y 6) ∗ owns (c : Thread nD τ) (ms7 t) fullShare (Y 7) ∗ owns (c : Thread nD τ) (ms8 t) fullShare (Y 8) ∗ owns (c : Thread nD τ) (ms9 t) fullShare (Y 9) ∗ owns (c : Thread nD τ) (ms10 t) fullShare (Y 10) ∗ owns (c : Thread nD τ) (ms11 t) fullShare (Y 11) ∗ owns (c : Thread nD τ) (ms12 t) fullShare (Y 12) ∗ owns (c : Thread nD τ) (ms13 t) fullShare (Y 13) ∗ owns (c : Thread nD τ) (ms14 t) fullShare (Y 14) ∗ owns (c : Thread nD τ) (ms15 t) fullShare (Y 15) ∗ owns (c : Thread nD τ) (ms16 t) fullShare (Y 16) ∗ owns (c : Thread nD τ) (ms17 t) fullShare (Y 17) ∗ owns (c : Thread nD τ) (ms18 t) fullShare (Y 18) ∗ owns (c : Thread nD τ) (ms19 t) fullShare (Y 19) ∗ owns (c : Thread nD τ) (ms20 t) fullShare (Y 20) ∗ owns (c : Thread nD τ) (ms21 t) fullShare (Y 21) ∗ owns (c : Thread nD τ) (ms22 t) fullShare (Y 22) ∗ owns (c : Thread nD τ) (ms23 t) fullShare (Y 23) ∗ owns (c : Thread nD τ) (ms24 t) fullShare (Y 24) ∗ owns (c : Thread nD τ) (ms25 t) fullShare (Y 25) ∗ owns (c : Thread nD τ) (ms26 t) fullShare (Y 26) ∗ owns (c : Thread nD τ) (ms27 t) fullShare (Y 27) ∗ owns (c : Thread nD τ) (ms28 t) fullShare (Y 28) ∗ owns (c : Thread nD τ) (ms29 t) fullShare (Y 29) ∗ owns (c : Thread nD τ) (ms30 t) fullShare (Y 30))
    ⊢ wp frame (wpE (defs₀ (F := F)) Variants.none c none) Set.univ (bodyAt0 t) fun _ =>
      iprop(PhiT T c (t.val + 1) ∗ (rdat m T c).owesAt () t.succ
        ∗ (∃ X, ⌜T.after 0 t (Y 0) X⌝ ∗ owns (c : Thread nD τ) (ms0 t) fullShare X) ∗ (∃ X, ⌜T.after 1 t (Y 1) X⌝ ∗ owns (c : Thread nD τ) (ms1 t) fullShare X) ∗ (∃ X, ⌜T.after 2 t (Y 2) X⌝ ∗ owns (c : Thread nD τ) (ms2 t) fullShare X) ∗ (∃ X, ⌜T.after 3 t (Y 3) X⌝ ∗ owns (c : Thread nD τ) (ms3 t) fullShare X) ∗ (∃ X, ⌜T.after 4 t (Y 4) X⌝ ∗ owns (c : Thread nD τ) (ms4 t) fullShare X) ∗ (∃ X, ⌜T.after 5 t (Y 5) X⌝ ∗ owns (c : Thread nD τ) (ms5 t) fullShare X) ∗ (∃ X, ⌜T.after 6 t (Y 6) X⌝ ∗ owns (c : Thread nD τ) (ms6 t) fullShare X) ∗ (∃ X, ⌜T.after 7 t (Y 7) X⌝ ∗ owns (c : Thread nD τ) (ms7 t) fullShare X) ∗ (∃ X, ⌜T.after 8 t (Y 8) X⌝ ∗ owns (c : Thread nD τ) (ms8 t) fullShare X) ∗ (∃ X, ⌜T.after 9 t (Y 9) X⌝ ∗ owns (c : Thread nD τ) (ms9 t) fullShare X) ∗ (∃ X, ⌜T.after 10 t (Y 10) X⌝ ∗ owns (c : Thread nD τ) (ms10 t) fullShare X) ∗ (∃ X, ⌜T.after 11 t (Y 11) X⌝ ∗ owns (c : Thread nD τ) (ms11 t) fullShare X) ∗ (∃ X, ⌜T.after 12 t (Y 12) X⌝ ∗ owns (c : Thread nD τ) (ms12 t) fullShare X) ∗ (∃ X, ⌜T.after 13 t (Y 13) X⌝ ∗ owns (c : Thread nD τ) (ms13 t) fullShare X) ∗ (∃ X, ⌜T.after 14 t (Y 14) X⌝ ∗ owns (c : Thread nD τ) (ms14 t) fullShare X) ∗ (∃ X, ⌜T.after 15 t (Y 15) X⌝ ∗ owns (c : Thread nD τ) (ms15 t) fullShare X) ∗ (∃ X, ⌜T.after 16 t (Y 16) X⌝ ∗ owns (c : Thread nD τ) (ms16 t) fullShare X) ∗ (∃ X, ⌜T.after 17 t (Y 17) X⌝ ∗ owns (c : Thread nD τ) (ms17 t) fullShare X) ∗ (∃ X, ⌜T.after 18 t (Y 18) X⌝ ∗ owns (c : Thread nD τ) (ms18 t) fullShare X) ∗ (∃ X, ⌜T.after 19 t (Y 19) X⌝ ∗ owns (c : Thread nD τ) (ms19 t) fullShare X) ∗ (∃ X, ⌜T.after 20 t (Y 20) X⌝ ∗ owns (c : Thread nD τ) (ms20 t) fullShare X) ∗ (∃ X, ⌜T.after 21 t (Y 21) X⌝ ∗ owns (c : Thread nD τ) (ms21 t) fullShare X) ∗ (∃ X, ⌜T.after 22 t (Y 22) X⌝ ∗ owns (c : Thread nD τ) (ms22 t) fullShare X) ∗ (∃ X, ⌜T.after 23 t (Y 23) X⌝ ∗ owns (c : Thread nD τ) (ms23 t) fullShare X) ∗ (∃ X, ⌜T.after 24 t (Y 24) X⌝ ∗ owns (c : Thread nD τ) (ms24 t) fullShare X) ∗ (∃ X, ⌜T.after 25 t (Y 25) X⌝ ∗ owns (c : Thread nD τ) (ms25 t) fullShare X) ∗ (∃ X, ⌜T.after 26 t (Y 26) X⌝ ∗ owns (c : Thread nD τ) (ms26 t) fullShare X) ∗ (∃ X, ⌜T.after 27 t (Y 27) X⌝ ∗ owns (c : Thread nD τ) (ms27 t) fullShare X) ∗ (∃ X, ⌜T.after 28 t (Y 28) X⌝ ∗ owns (c : Thread nD τ) (ms28 t) fullShare X) ∗ (∃ X, ⌜T.after 29 t (Y 29) X⌝ ∗ owns (c : Thread nD τ) (ms29 t) fullShare X) ∗ (∃ X, ⌜T.after 30 t (Y 30) X⌝ ∗ owns (c : Thread nD τ) (ms30 t) fullShare X)) := by
  unfold PhiT bodyAt0
  iintro ⟨⟨%S0, %S1, %S2, %S3, %S4, %hI, HS0, HS1, HS2, HS3, HS4, Hg⟩, HW, H0, H1, H2, H3, H4, H5, H6, H7, H8, H9, H10, H11, H12, H13, H14, H15, H16, H17, H18, H19, H20, H21, H22, H23, H24, H25, H26, H27, H28, H29, H30⟩
  obtain ⟨a26, a27, a28, a29, a30, hI'⟩ := ok.stepB t h Y S0 S1 S2 S3 S4 hY hI
  unfold owns
  icases H0 with ⟨%f1, %e1, H0⟩
  obtain rfl := (hs0 t).eq_unread e1
  icases H1 with ⟨%f2, %e2, H1⟩
  obtain rfl := (hs1 t).eq_unread e2
  icases HS0 with ⟨%f32, %e32, HS0⟩
  obtain rfl := (Memref.isWhole_whole cc0_scratch0).eq_unread e32
  icases HS2 with ⟨%f34, %e34, HS2⟩
  obtain rfl := (Memref.isWhole_whole cc0_scratch2).eq_unread e34
  icases HS4 with ⟨%f36, %e36, HS4⟩
  obtain rfl := (Memref.isWhole_whole cc0_scratch4).eq_unread e36
  iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) sc0 (Memref.isWhole_whole _) sc1 (Memref.isWhole_whole _) sc2 (Memref.isWhole_whole _) sc3 (Memref.isWhole_whole _) sc4 (Memref.isWhole_whole _) (condB1 t h) (condB2 t h) (condB3 t h) (condB4 t h) (Y 0) (Y 1) S0).2 _ _ _)
  isplitl [H0]; · iexact H0
  isplitl [H1]; · iexact H1
  isplitl [HS0]; · iexact HS0
  isplitl [HS2]; · iexact HS2
  isplitl [HS4]; · iexact HS4
  iintro ⟨H0, H1, HS0, HS2, HS4⟩
  isplitl [HS0 HS1 HS2 HS3 HS4 Hg]
  · iexists _, _, _, _, _; isplitr; · ipureintro; exact hI'
    isplitl [HS0]
    · iexists _; isplitr; swap; · iexact HS0
      ipureintro; exact e32
    isplitl [HS1]
    · iexact HS1
    isplitl [HS2]
    · iexists _; isplitr; swap; · iexact HS2
      ipureintro; exact rfl
    isplitl [HS3]
    · iexact HS3
    isplitl [HS4]
    · iexists _; isplitr; swap; · iexact HS4
      ipureintro; exact rfl
    iexact Hg
  isplitl [HW]; · iexact HW
  isplitl [H0]
  · iexists _; isplitr; · ipureintro; exact ok.inp 0 (by decide) t _
    iexists _; isplitr; swap; · iexact H0
    ipureintro; exact e1
  isplitl [H1]
  · iexists _; isplitr; · ipureintro; exact ok.inp 1 (by decide) t _
    iexists _; isplitr; swap; · iexact H1
    ipureintro; exact e2
  isplitl [H2]
  · iexists _; isplitr; · ipureintro; exact ok.inp 2 (by decide) t _
    iexact H2
  isplitl [H3]
  · iexists _; isplitr; · ipureintro; exact ok.inp 3 (by decide) t _
    iexact H3
  isplitl [H4]
  · iexists _; isplitr; · ipureintro; exact ok.inp 4 (by decide) t _
    iexact H4
  isplitl [H5]
  · iexists _; isplitr; · ipureintro; exact ok.inp 5 (by decide) t _
    iexact H5
  isplitl [H6]
  · iexists _; isplitr; · ipureintro; exact ok.inp 6 (by decide) t _
    iexact H6
  isplitl [H7]
  · iexists _; isplitr; · ipureintro; exact ok.inp 7 (by decide) t _
    iexact H7
  isplitl [H8]
  · iexists _; isplitr; · ipureintro; exact ok.inp 8 (by decide) t _
    iexact H8
  isplitl [H9]
  · iexists _; isplitr; · ipureintro; exact ok.inp 9 (by decide) t _
    iexact H9
  isplitl [H10]
  · iexists _; isplitr; · ipureintro; exact ok.inp 10 (by decide) t _
    iexact H10
  isplitl [H11]
  · iexists _; isplitr; · ipureintro; exact ok.inp 11 (by decide) t _
    iexact H11
  isplitl [H12]
  · iexists _; isplitr; · ipureintro; exact ok.inp 12 (by decide) t _
    iexact H12
  isplitl [H13]
  · iexists _; isplitr; · ipureintro; exact ok.inp 13 (by decide) t _
    iexact H13
  isplitl [H14]
  · iexists _; isplitr; · ipureintro; exact ok.inp 14 (by decide) t _
    iexact H14
  isplitl [H15]
  · iexists _; isplitr; · ipureintro; exact ok.inp 15 (by decide) t _
    iexact H15
  isplitl [H16]
  · iexists _; isplitr; · ipureintro; exact ok.inp 16 (by decide) t _
    iexact H16
  isplitl [H17]
  · iexists _; isplitr; · ipureintro; exact ok.inp 17 (by decide) t _
    iexact H17
  isplitl [H18]
  · iexists _; isplitr; · ipureintro; exact ok.inp 18 (by decide) t _
    iexact H18
  isplitl [H19]
  · iexists _; isplitr; · ipureintro; exact ok.inp 19 (by decide) t _
    iexact H19
  isplitl [H20]
  · iexists _; isplitr; · ipureintro; exact ok.inp 20 (by decide) t _
    iexact H20
  isplitl [H21]
  · iexists _; isplitr; · ipureintro; exact ok.inp 21 (by decide) t _
    iexact H21
  isplitl [H22]
  · iexists _; isplitr; · ipureintro; exact ok.inp 22 (by decide) t _
    iexact H22
  isplitl [H23]
  · iexists _; isplitr; · ipureintro; exact ok.inp 23 (by decide) t _
    iexact H23
  isplitl [H24]
  · iexists _; isplitr; · ipureintro; exact ok.inp 24 (by decide) t _
    iexact H24
  isplitl [H25]
  · iexists _; isplitr; · ipureintro; exact ok.inp 25 (by decide) t _
    iexact H25
  isplitl [H26]
  · iexists _; isplitr; · ipureintro; exact a26
    iexact H26
  isplitl [H27]
  · iexists _; isplitr; · ipureintro; exact a27
    iexact H27
  isplitl [H28]
  · iexists _; isplitr; · ipureintro; exact a28
    iexact H28
  isplitl [H29]
  · iexists _; isplitr; · ipureintro; exact a29
    iexact H29
  iexists _; isplitr; · ipureintro; exact a30
  iexact H30

end Cert.KernelIdeal.Hand

end
-- ==== Proof.Ideal.PointC.lean ====
/-
  The body at a point of kind C, from its run.
-/
module

public import proofs.«01_k».proof.Proof.Ideal.Track

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

variable (T : Track F)

set_option maxHeartbeats 4000000 in
theorem pointC (c : Dev nD) (ok : StepOK m T c) (t : Fin cfg0.N) (h : t.val = 9) (Y : Stg F) (hY : ∀ w, (rdat m T c).Finds w t (Y w)) :
    iprop(PhiT T c t.val ∗ (rdat m T c).owesAt () t.castSucc
      ∗ owns (c : Thread nD τ) (ms0 t) fullShare (Y 0) ∗ owns (c : Thread nD τ) (ms1 t) fullShare (Y 1) ∗ owns (c : Thread nD τ) (ms2 t) fullShare (Y 2) ∗ owns (c : Thread nD τ) (ms3 t) fullShare (Y 3) ∗ owns (c : Thread nD τ) (ms4 t) fullShare (Y 4) ∗ owns (c : Thread nD τ) (ms5 t) fullShare (Y 5) ∗ owns (c : Thread nD τ) (ms6 t) fullShare (Y 6) ∗ owns (c : Thread nD τ) (ms7 t) fullShare (Y 7) ∗ owns (c : Thread nD τ) (ms8 t) fullShare (Y 8) ∗ owns (c : Thread nD τ) (ms9 t) fullShare (Y 9) ∗ owns (c : Thread nD τ) (ms10 t) fullShare (Y 10) ∗ owns (c : Thread nD τ) (ms11 t) fullShare (Y 11) ∗ owns (c : Thread nD τ) (ms12 t) fullShare (Y 12) ∗ owns (c : Thread nD τ) (ms13 t) fullShare (Y 13) ∗ owns (c : Thread nD τ) (ms14 t) fullShare (Y 14) ∗ owns (c : Thread nD τ) (ms15 t) fullShare (Y 15) ∗ owns (c : Thread nD τ) (ms16 t) fullShare (Y 16) ∗ owns (c : Thread nD τ) (ms17 t) fullShare (Y 17) ∗ owns (c : Thread nD τ) (ms18 t) fullShare (Y 18) ∗ owns (c : Thread nD τ) (ms19 t) fullShare (Y 19) ∗ owns (c : Thread nD τ) (ms20 t) fullShare (Y 20) ∗ owns (c : Thread nD τ) (ms21 t) fullShare (Y 21) ∗ owns (c : Thread nD τ) (ms22 t) fullShare (Y 22) ∗ owns (c : Thread nD τ) (ms23 t) fullShare (Y 23) ∗ owns (c : Thread nD τ) (ms24 t) fullShare (Y 24) ∗ owns (c : Thread nD τ) (ms25 t) fullShare (Y 25) ∗ owns (c : Thread nD τ) (ms26 t) fullShare (Y 26) ∗ owns (c : Thread nD τ) (ms27 t) fullShare (Y 27) ∗ owns (c : Thread nD τ) (ms28 t) fullShare (Y 28) ∗ owns (c : Thread nD τ) (ms29 t) fullShare (Y 29) ∗ owns (c : Thread nD τ) (ms30 t) fullShare (Y 30))
    ⊢ wp frame (wpE (defs₀ (F := F)) Variants.none c none) Set.univ (bodyAt0 t) fun _ =>
      iprop(PhiT T c (t.val + 1) ∗ (rdat m T c).owesAt () t.succ
        ∗ (∃ X, ⌜T.after 0 t (Y 0) X⌝ ∗ owns (c : Thread nD τ) (ms0 t) fullShare X) ∗ (∃ X, ⌜T.after 1 t (Y 1) X⌝ ∗ owns (c : Thread nD τ) (ms1 t) fullShare X) ∗ (∃ X, ⌜T.after 2 t (Y 2) X⌝ ∗ owns (c : Thread nD τ) (ms2 t) fullShare X) ∗ (∃ X, ⌜T.after 3 t (Y 3) X⌝ ∗ owns (c : Thread nD τ) (ms3 t) fullShare X) ∗ (∃ X, ⌜T.after 4 t (Y 4) X⌝ ∗ owns (c : Thread nD τ) (ms4 t) fullShare X) ∗ (∃ X, ⌜T.after 5 t (Y 5) X⌝ ∗ owns (c : Thread nD τ) (ms5 t) fullShare X) ∗ (∃ X, ⌜T.after 6 t (Y 6) X⌝ ∗ owns (c : Thread nD τ) (ms6 t) fullShare X) ∗ (∃ X, ⌜T.after 7 t (Y 7) X⌝ ∗ owns (c : Thread nD τ) (ms7 t) fullShare X) ∗ (∃ X, ⌜T.after 8 t (Y 8) X⌝ ∗ owns (c : Thread nD τ) (ms8 t) fullShare X) ∗ (∃ X, ⌜T.after 9 t (Y 9) X⌝ ∗ owns (c : Thread nD τ) (ms9 t) fullShare X) ∗ (∃ X, ⌜T.after 10 t (Y 10) X⌝ ∗ owns (c : Thread nD τ) (ms10 t) fullShare X) ∗ (∃ X, ⌜T.after 11 t (Y 11) X⌝ ∗ owns (c : Thread nD τ) (ms11 t) fullShare X) ∗ (∃ X, ⌜T.after 12 t (Y 12) X⌝ ∗ owns (c : Thread nD τ) (ms12 t) fullShare X) ∗ (∃ X, ⌜T.after 13 t (Y 13) X⌝ ∗ owns (c : Thread nD τ) (ms13 t) fullShare X) ∗ (∃ X, ⌜T.after 14 t (Y 14) X⌝ ∗ owns (c : Thread nD τ) (ms14 t) fullShare X) ∗ (∃ X, ⌜T.after 15 t (Y 15) X⌝ ∗ owns (c : Thread nD τ) (ms15 t) fullShare X) ∗ (∃ X, ⌜T.after 16 t (Y 16) X⌝ ∗ owns (c : Thread nD τ) (ms16 t) fullShare X) ∗ (∃ X, ⌜T.after 17 t (Y 17) X⌝ ∗ owns (c : Thread nD τ) (ms17 t) fullShare X) ∗ (∃ X, ⌜T.after 18 t (Y 18) X⌝ ∗ owns (c : Thread nD τ) (ms18 t) fullShare X) ∗ (∃ X, ⌜T.after 19 t (Y 19) X⌝ ∗ owns (c : Thread nD τ) (ms19 t) fullShare X) ∗ (∃ X, ⌜T.after 20 t (Y 20) X⌝ ∗ owns (c : Thread nD τ) (ms20 t) fullShare X) ∗ (∃ X, ⌜T.after 21 t (Y 21) X⌝ ∗ owns (c : Thread nD τ) (ms21 t) fullShare X) ∗ (∃ X, ⌜T.after 22 t (Y 22) X⌝ ∗ owns (c : Thread nD τ) (ms22 t) fullShare X) ∗ (∃ X, ⌜T.after 23 t (Y 23) X⌝ ∗ owns (c : Thread nD τ) (ms23 t) fullShare X) ∗ (∃ X, ⌜T.after 24 t (Y 24) X⌝ ∗ owns (c : Thread nD τ) (ms24 t) fullShare X) ∗ (∃ X, ⌜T.after 25 t (Y 25) X⌝ ∗ owns (c : Thread nD τ) (ms25 t) fullShare X) ∗ (∃ X, ⌜T.after 26 t (Y 26) X⌝ ∗ owns (c : Thread nD τ) (ms26 t) fullShare X) ∗ (∃ X, ⌜T.after 27 t (Y 27) X⌝ ∗ owns (c : Thread nD τ) (ms27 t) fullShare X) ∗ (∃ X, ⌜T.after 28 t (Y 28) X⌝ ∗ owns (c : Thread nD τ) (ms28 t) fullShare X) ∗ (∃ X, ⌜T.after 29 t (Y 29) X⌝ ∗ owns (c : Thread nD τ) (ms29 t) fullShare X) ∗ (∃ X, ⌜T.after 30 t (Y 30) X⌝ ∗ owns (c : Thread nD τ) (ms30 t) fullShare X)) := by
  unfold PhiT bodyAt0
  iintro ⟨⟨%S0, %S1, %S2, %S3, %S4, %hI, HS0, HS1, HS2, HS3, HS4, Hg⟩, HW, H0, H1, H2, H3, H4, H5, H6, H7, H8, H9, H10, H11, H12, H13, H14, H15, H16, H17, H18, H19, H20, H21, H22, H23, H24, H25, H26, H27, H28, H29, H30⟩
  obtain ⟨a26, a27, a28, a29, a30, hI'⟩ := ok.stepC t h Y S0 S1 S2 S3 S4 hY hI
  unfold owns
  icases H23 with ⟨%f24, %e24, H23⟩
  obtain rfl := (hs23 t).eq_unread e24
  icases H24 with ⟨%f25, %e25, H24⟩
  obtain rfl := (hs24 t).eq_unread e25
  icases HS1 with ⟨%f33, %e33, HS1⟩
  obtain rfl := (Memref.isWhole_whole cc0_scratch1).eq_unread e33
  icases HS2 with ⟨%f34, %e34, HS2⟩
  obtain rfl := (Memref.isWhole_whole cc0_scratch2).eq_unread e34
  icases HS4 with ⟨%f36, %e36, HS4⟩
  obtain rfl := (Memref.isWhole_whole cc0_scratch4).eq_unread e36
  icases HS3 with ⟨%f35, %e35, HS3⟩
  obtain rfl := (Memref.isWhole_whole cc0_scratch3).eq_unread e35
  iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) sc0 (Memref.isWhole_whole _) sc1 (Memref.isWhole_whole _) sc2 (Memref.isWhole_whole _) sc3 (Memref.isWhole_whole _) sc4 (Memref.isWhole_whole _) (condC1 t h) (condC2 t h) (condC3 t h) (condC4 t h) (Y 23) (Y 24) S1 S2 S4).2 _ _)
  isplitl [H23]; · iexact H23
  isplitl [H24]; · iexact H24
  isplitl [HS1]; · iexact HS1
  isplitl [HS2]; · iexact HS2
  isplitl [HS4]; · iexact HS4
  isplitl [HS3]; · iexact HS3
  iintro ⟨H23, H24, HS1, HS2, HS4, HS3⟩
  isplitl [HS0 HS1 HS2 HS3 HS4 Hg]
  · iexists _, _, _, _, _; isplitr; · ipureintro; exact hI'
    isplitl [HS0]
    · iexact HS0
    isplitl [HS1]
    · iexists _; isplitr; swap; · iexact HS1
      ipureintro; exact e33
    isplitl [HS2]
    · iexists _; isplitr; swap; · iexact HS2
      ipureintro; exact e34
    isplitl [HS3]
    · iexists _; isplitr; swap; · iexact HS3
      ipureintro; exact rfl
    isplitl [HS4]
    · iexists _; isplitr; swap; · iexact HS4
      ipureintro; exact e36
    iexact Hg
  isplitl [HW]; · iexact HW
  isplitl [H0]
  · iexists _; isplitr; · ipureintro; exact ok.inp 0 (by decide) t _
    iexact H0
  isplitl [H1]
  · iexists _; isplitr; · ipureintro; exact ok.inp 1 (by decide) t _
    iexact H1
  isplitl [H2]
  · iexists _; isplitr; · ipureintro; exact ok.inp 2 (by decide) t _
    iexact H2
  isplitl [H3]
  · iexists _; isplitr; · ipureintro; exact ok.inp 3 (by decide) t _
    iexact H3
  isplitl [H4]
  · iexists _; isplitr; · ipureintro; exact ok.inp 4 (by decide) t _
    iexact H4
  isplitl [H5]
  · iexists _; isplitr; · ipureintro; exact ok.inp 5 (by decide) t _
    iexact H5
  isplitl [H6]
  · iexists _; isplitr; · ipureintro; exact ok.inp 6 (by decide) t _
    iexact H6
  isplitl [H7]
  · iexists _; isplitr; · ipureintro; exact ok.inp 7 (by decide) t _
    iexact H7
  isplitl [H8]
  · iexists _; isplitr; · ipureintro; exact ok.inp 8 (by decide) t _
    iexact H8
  isplitl [H9]
  · iexists _; isplitr; · ipureintro; exact ok.inp 9 (by decide) t _
    iexact H9
  isplitl [H10]
  · iexists _; isplitr; · ipureintro; exact ok.inp 10 (by decide) t _
    iexact H10
  isplitl [H11]
  · iexists _; isplitr; · ipureintro; exact ok.inp 11 (by decide) t _
    iexact H11
  isplitl [H12]
  · iexists _; isplitr; · ipureintro; exact ok.inp 12 (by decide) t _
    iexact H12
  isplitl [H13]
  · iexists _; isplitr; · ipureintro; exact ok.inp 13 (by decide) t _
    iexact H13
  isplitl [H14]
  · iexists _; isplitr; · ipureintro; exact ok.inp 14 (by decide) t _
    iexact H14
  isplitl [H15]
  · iexists _; isplitr; · ipureintro; exact ok.inp 15 (by decide) t _
    iexact H15
  isplitl [H16]
  · iexists _; isplitr; · ipureintro; exact ok.inp 16 (by decide) t _
    iexact H16
  isplitl [H17]
  · iexists _; isplitr; · ipureintro; exact ok.inp 17 (by decide) t _
    iexact H17
  isplitl [H18]
  · iexists _; isplitr; · ipureintro; exact ok.inp 18 (by decide) t _
    iexact H18
  isplitl [H19]
  · iexists _; isplitr; · ipureintro; exact ok.inp 19 (by decide) t _
    iexact H19
  isplitl [H20]
  · iexists _; isplitr; · ipureintro; exact ok.inp 20 (by decide) t _
    iexact H20
  isplitl [H21]
  · iexists _; isplitr; · ipureintro; exact ok.inp 21 (by decide) t _
    iexact H21
  isplitl [H22]
  · iexists _; isplitr; · ipureintro; exact ok.inp 22 (by decide) t _
    iexact H22
  isplitl [H23]
  · iexists _; isplitr; · ipureintro; exact ok.inp 23 (by decide) t _
    iexists _; isplitr; swap; · iexact H23
    ipureintro; exact e24
  isplitl [H24]
  · iexists _; isplitr; · ipureintro; exact ok.inp 24 (by decide) t _
    iexists _; isplitr; swap; · iexact H24
    ipureintro; exact e25
  isplitl [H25]
  · iexists _; isplitr; · ipureintro; exact ok.inp 25 (by decide) t _
    iexact H25
  isplitl [H26]
  · iexists _; isplitr; · ipureintro; exact a26
    iexact H26
  isplitl [H27]
  · iexists _; isplitr; · ipureintro; exact a27
    iexact H27
  isplitl [H28]
  · iexists _; isplitr; · ipureintro; exact a28
    iexact H28
  isplitl [H29]
  · iexists _; isplitr; · ipureintro; exact a29
    iexact H29
  iexists _; isplitr; · ipureintro; exact a30
  iexact H30

end Cert.KernelIdeal.Hand

end
-- ==== Proof.Ideal.PointD.lean ====
/-
  The body at a point of kind D, from its run.
-/
module

public import proofs.«01_k».proof.Proof.Ideal.Track

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

variable (T : Track F)

set_option maxHeartbeats 4000000 in
theorem pointD (c : Dev nD) (ok : StepOK m T c) (t : Fin cfg0.N) (h : t.val = 10) (Y : Stg F) (hY : ∀ w, (rdat m T c).Finds w t (Y w)) :
    iprop(PhiT T c t.val ∗ (rdat m T c).owesAt () t.castSucc
      ∗ owns (c : Thread nD τ) (ms0 t) fullShare (Y 0) ∗ owns (c : Thread nD τ) (ms1 t) fullShare (Y 1) ∗ owns (c : Thread nD τ) (ms2 t) fullShare (Y 2) ∗ owns (c : Thread nD τ) (ms3 t) fullShare (Y 3) ∗ owns (c : Thread nD τ) (ms4 t) fullShare (Y 4) ∗ owns (c : Thread nD τ) (ms5 t) fullShare (Y 5) ∗ owns (c : Thread nD τ) (ms6 t) fullShare (Y 6) ∗ owns (c : Thread nD τ) (ms7 t) fullShare (Y 7) ∗ owns (c : Thread nD τ) (ms8 t) fullShare (Y 8) ∗ owns (c : Thread nD τ) (ms9 t) fullShare (Y 9) ∗ owns (c : Thread nD τ) (ms10 t) fullShare (Y 10) ∗ owns (c : Thread nD τ) (ms11 t) fullShare (Y 11) ∗ owns (c : Thread nD τ) (ms12 t) fullShare (Y 12) ∗ owns (c : Thread nD τ) (ms13 t) fullShare (Y 13) ∗ owns (c : Thread nD τ) (ms14 t) fullShare (Y 14) ∗ owns (c : Thread nD τ) (ms15 t) fullShare (Y 15) ∗ owns (c : Thread nD τ) (ms16 t) fullShare (Y 16) ∗ owns (c : Thread nD τ) (ms17 t) fullShare (Y 17) ∗ owns (c : Thread nD τ) (ms18 t) fullShare (Y 18) ∗ owns (c : Thread nD τ) (ms19 t) fullShare (Y 19) ∗ owns (c : Thread nD τ) (ms20 t) fullShare (Y 20) ∗ owns (c : Thread nD τ) (ms21 t) fullShare (Y 21) ∗ owns (c : Thread nD τ) (ms22 t) fullShare (Y 22) ∗ owns (c : Thread nD τ) (ms23 t) fullShare (Y 23) ∗ owns (c : Thread nD τ) (ms24 t) fullShare (Y 24) ∗ owns (c : Thread nD τ) (ms25 t) fullShare (Y 25) ∗ owns (c : Thread nD τ) (ms26 t) fullShare (Y 26) ∗ owns (c : Thread nD τ) (ms27 t) fullShare (Y 27) ∗ owns (c : Thread nD τ) (ms28 t) fullShare (Y 28) ∗ owns (c : Thread nD τ) (ms29 t) fullShare (Y 29) ∗ owns (c : Thread nD τ) (ms30 t) fullShare (Y 30))
    ⊢ wp frame (wpE (defs₀ (F := F)) Variants.none c none) Set.univ (bodyAt0 t) fun _ =>
      iprop(PhiT T c (t.val + 1) ∗ (rdat m T c).owesAt () t.succ
        ∗ (∃ X, ⌜T.after 0 t (Y 0) X⌝ ∗ owns (c : Thread nD τ) (ms0 t) fullShare X) ∗ (∃ X, ⌜T.after 1 t (Y 1) X⌝ ∗ owns (c : Thread nD τ) (ms1 t) fullShare X) ∗ (∃ X, ⌜T.after 2 t (Y 2) X⌝ ∗ owns (c : Thread nD τ) (ms2 t) fullShare X) ∗ (∃ X, ⌜T.after 3 t (Y 3) X⌝ ∗ owns (c : Thread nD τ) (ms3 t) fullShare X) ∗ (∃ X, ⌜T.after 4 t (Y 4) X⌝ ∗ owns (c : Thread nD τ) (ms4 t) fullShare X) ∗ (∃ X, ⌜T.after 5 t (Y 5) X⌝ ∗ owns (c : Thread nD τ) (ms5 t) fullShare X) ∗ (∃ X, ⌜T.after 6 t (Y 6) X⌝ ∗ owns (c : Thread nD τ) (ms6 t) fullShare X) ∗ (∃ X, ⌜T.after 7 t (Y 7) X⌝ ∗ owns (c : Thread nD τ) (ms7 t) fullShare X) ∗ (∃ X, ⌜T.after 8 t (Y 8) X⌝ ∗ owns (c : Thread nD τ) (ms8 t) fullShare X) ∗ (∃ X, ⌜T.after 9 t (Y 9) X⌝ ∗ owns (c : Thread nD τ) (ms9 t) fullShare X) ∗ (∃ X, ⌜T.after 10 t (Y 10) X⌝ ∗ owns (c : Thread nD τ) (ms10 t) fullShare X) ∗ (∃ X, ⌜T.after 11 t (Y 11) X⌝ ∗ owns (c : Thread nD τ) (ms11 t) fullShare X) ∗ (∃ X, ⌜T.after 12 t (Y 12) X⌝ ∗ owns (c : Thread nD τ) (ms12 t) fullShare X) ∗ (∃ X, ⌜T.after 13 t (Y 13) X⌝ ∗ owns (c : Thread nD τ) (ms13 t) fullShare X) ∗ (∃ X, ⌜T.after 14 t (Y 14) X⌝ ∗ owns (c : Thread nD τ) (ms14 t) fullShare X) ∗ (∃ X, ⌜T.after 15 t (Y 15) X⌝ ∗ owns (c : Thread nD τ) (ms15 t) fullShare X) ∗ (∃ X, ⌜T.after 16 t (Y 16) X⌝ ∗ owns (c : Thread nD τ) (ms16 t) fullShare X) ∗ (∃ X, ⌜T.after 17 t (Y 17) X⌝ ∗ owns (c : Thread nD τ) (ms17 t) fullShare X) ∗ (∃ X, ⌜T.after 18 t (Y 18) X⌝ ∗ owns (c : Thread nD τ) (ms18 t) fullShare X) ∗ (∃ X, ⌜T.after 19 t (Y 19) X⌝ ∗ owns (c : Thread nD τ) (ms19 t) fullShare X) ∗ (∃ X, ⌜T.after 20 t (Y 20) X⌝ ∗ owns (c : Thread nD τ) (ms20 t) fullShare X) ∗ (∃ X, ⌜T.after 21 t (Y 21) X⌝ ∗ owns (c : Thread nD τ) (ms21 t) fullShare X) ∗ (∃ X, ⌜T.after 22 t (Y 22) X⌝ ∗ owns (c : Thread nD τ) (ms22 t) fullShare X) ∗ (∃ X, ⌜T.after 23 t (Y 23) X⌝ ∗ owns (c : Thread nD τ) (ms23 t) fullShare X) ∗ (∃ X, ⌜T.after 24 t (Y 24) X⌝ ∗ owns (c : Thread nD τ) (ms24 t) fullShare X) ∗ (∃ X, ⌜T.after 25 t (Y 25) X⌝ ∗ owns (c : Thread nD τ) (ms25 t) fullShare X) ∗ (∃ X, ⌜T.after 26 t (Y 26) X⌝ ∗ owns (c : Thread nD τ) (ms26 t) fullShare X) ∗ (∃ X, ⌜T.after 27 t (Y 27) X⌝ ∗ owns (c : Thread nD τ) (ms27 t) fullShare X) ∗ (∃ X, ⌜T.after 28 t (Y 28) X⌝ ∗ owns (c : Thread nD τ) (ms28 t) fullShare X) ∗ (∃ X, ⌜T.after 29 t (Y 29) X⌝ ∗ owns (c : Thread nD τ) (ms29 t) fullShare X) ∗ (∃ X, ⌜T.after 30 t (Y 30) X⌝ ∗ owns (c : Thread nD τ) (ms30 t) fullShare X)) := by
  unfold PhiT bodyAt0
  iintro ⟨⟨%S0, %S1, %S2, %S3, %S4, %hI, HS0, HS1, HS2, HS3, HS4, Hg⟩, HW, H0, H1, H2, H3, H4, H5, H6, H7, H8, H9, H10, H11, H12, H13, H14, H15, H16, H17, H18, H19, H20, H21, H22, H23, H24, H25, H26, H27, H28, H29, H30⟩
  obtain ⟨a26, a27, a28, a29, a30, hI'⟩ := ok.stepD t h Y S0 S1 S2 S3 S4 hY hI
  unfold owns
  icases H25 with ⟨%f26, %e26, H25⟩
  obtain rfl := (hs25 t).eq_unread e26
  icases HS2 with ⟨%f34, %e34, HS2⟩
  obtain rfl := (Memref.isWhole_whole cc0_scratch2).eq_unread e34
  icases HS3 with ⟨%f35, %e35, HS3⟩
  obtain rfl := (Memref.isWhole_whole cc0_scratch3).eq_unread e35
  icases HS4 with ⟨%f36, %e36, HS4⟩
  obtain rfl := (Memref.isWhole_whole cc0_scratch4).eq_unread e36
  icases H30 with ⟨%f31, %e31, H30⟩
  obtain rfl := (hs30 t).eq_unread e31
  iapply ((runD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) (ms19 t) (hs19 t) (ms20 t) (hs20 t) (ms21 t) (hs21 t) (ms22 t) (hs22 t) (ms23 t) (hs23 t) (ms24 t) (hs24 t) (ms25 t) (hs25 t) (ms26 t) (hs26 t) (ms27 t) (hs27 t) (ms28 t) (hs28 t) (ms29 t) (hs29 t) (ms30 t) (hs30 t) sc0 (Memref.isWhole_whole _) sc1 (Memref.isWhole_whole _) sc2 (Memref.isWhole_whole _) sc3 (Memref.isWhole_whole _) sc4 (Memref.isWhole_whole _) (condD1 t h) (condD2 t h) (condD3 t h) (condD4 t h) (Y 25) S2 S3 S4).2 _ _)
  isplitl [H25]; · iexact H25
  isplitl [HS2]; · iexact HS2
  isplitl [HS3]; · iexact HS3
  isplitl [HS4]; · iexact HS4
  isplitl [H30]; · iexact H30
  iintro ⟨H25, HS2, HS3, HS4, H30⟩
  isplitl [HS0 HS1 HS2 HS3 HS4 Hg]
  · iexists _, _, _, _, _; isplitr; · ipureintro; exact hI'
    isplitl [HS0]
    · iexact HS0
    isplitl [HS1]
    · iexact HS1
    isplitl [HS2]
    · iexists _; isplitr; swap; · iexact HS2
      ipureintro; exact e34
    isplitl [HS3]
    · iexists _; isplitr; swap; · iexact HS3
      ipureintro; exact e35
    isplitl [HS4]
    · iexists _; isplitr; swap; · iexact HS4
      ipureintro; exact e36
    iexact Hg
  isplitl [HW]; · iexact HW
  isplitl [H0]
  · iexists _; isplitr; · ipureintro; exact ok.inp 0 (by decide) t _
    iexact H0
  isplitl [H1]
  · iexists _; isplitr; · ipureintro; exact ok.inp 1 (by decide) t _
    iexact H1
  isplitl [H2]
  · iexists _; isplitr; · ipureintro; exact ok.inp 2 (by decide) t _
    iexact H2
  isplitl [H3]
  · iexists _; isplitr; · ipureintro; exact ok.inp 3 (by decide) t _
    iexact H3
  isplitl [H4]
  · iexists _; isplitr; · ipureintro; exact ok.inp 4 (by decide) t _
    iexact H4
  isplitl [H5]
  · iexists _; isplitr; · ipureintro; exact ok.inp 5 (by decide) t _
    iexact H5
  isplitl [H6]
  · iexists _; isplitr; · ipureintro; exact ok.inp 6 (by decide) t _
    iexact H6
  isplitl [H7]
  · iexists _; isplitr; · ipureintro; exact ok.inp 7 (by decide) t _
    iexact H7
  isplitl [H8]
  · iexists _; isplitr; · ipureintro; exact ok.inp 8 (by decide) t _
    iexact H8
  isplitl [H9]
  · iexists _; isplitr; · ipureintro; exact ok.inp 9 (by decide) t _
    iexact H9
  isplitl [H10]
  · iexists _; isplitr; · ipureintro; exact ok.inp 10 (by decide) t _
    iexact H10
  isplitl [H11]
  · iexists _; isplitr; · ipureintro; exact ok.inp 11 (by decide) t _
    iexact H11
  isplitl [H12]
  · iexists _; isplitr; · ipureintro; exact ok.inp 12 (by decide) t _
    iexact H12
  isplitl [H13]
  · iexists _; isplitr; · ipureintro; exact ok.inp 13 (by decide) t _
    iexact H13
  isplitl [H14]
  · iexists _; isplitr; · ipureintro; exact ok.inp 14 (by decide) t _
    iexact H14
  isplitl [H15]
  · iexists _; isplitr; · ipureintro; exact ok.inp 15 (by decide) t _
    iexact H15
  isplitl [H16]
  · iexists _; isplitr; · ipureintro; exact ok.inp 16 (by decide) t _
    iexact H16
  isplitl [H17]
  · iexists _; isplitr; · ipureintro; exact ok.inp 17 (by decide) t _
    iexact H17
  isplitl [H18]
  · iexists _; isplitr; · ipureintro; exact ok.inp 18 (by decide) t _
    iexact H18
  isplitl [H19]
  · iexists _; isplitr; · ipureintro; exact ok.inp 19 (by decide) t _
    iexact H19
  isplitl [H20]
  · iexists _; isplitr; · ipureintro; exact ok.inp 20 (by decide) t _
    iexact H20
  isplitl [H21]
  · iexists _; isplitr; · ipureintro; exact ok.inp 21 (by decide) t _
    iexact H21
  isplitl [H22]
  · iexists _; isplitr; · ipureintro; exact ok.inp 22 (by decide) t _
    iexact H22
  isplitl [H23]
  · iexists _; isplitr; · ipureintro; exact ok.inp 23 (by decide) t _
    iexact H23
  isplitl [H24]
  · iexists _; isplitr; · ipureintro; exact ok.inp 24 (by decide) t _
    iexact H24
  isplitl [H25]
  · iexists _; isplitr; · ipureintro; exact ok.inp 25 (by decide) t _
    iexists _; isplitr; swap; · iexact H25
    ipureintro; exact e26
  isplitl [H26]
  · iexists _; isplitr; · ipureintro; exact a26
    iexact H26
  isplitl [H27]
  · iexists _; isplitr; · ipureintro; exact a27
    iexact H27
  isplitl [H28]
  · iexists _; isplitr; · ipureintro; exact a28
    iexact H28
  isplitl [H29]
  · iexists _; isplitr; · ipureintro; exact a29
    iexact H29
  iexists _; isplitr; · ipureintro; exact a30
  iexists _; isplitr; swap; · iexact H30
  ipureintro; exact rfl

end Cert.KernelIdeal.Hand

end
-- ==== Proof.Ideal.Body.lean ====
/-
  The body obligation at every point, and the run of the whole kernel over the tracked proof data.
-/
module

public import proofs.«01_k».proof.Proof.Ideal.PointA
public import proofs.«01_k».proof.Proof.Ideal.PointB
public import proofs.«01_k».proof.Proof.Ideal.PointC
public import proofs.«01_k».proof.Proof.Ideal.PointD

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

variable (T : Track F)

theorem defs₀_row (t : Fin cfg0.N) : defs₀ (F := F) .tc cfg0.body (cfg0.bodyArgs t (cfg0.slots t)) = bodyAt0 t := by
  unfold defs₀; rw [Defs.onTc_tc]

theorem body_obligation (c : Dev nD) (ok : StepOK m T c) : (rdat m T c).BodyObligation (defs₀ (F := F)) Variants.none () Set.univ := fun t Y hY => by
  rw [bigSep_W0, bigSep_W0, defs₀_row]
  by_cases hA : t.val < 8
  · exact triple_restated (pointA m T c ok t hA Y hY) rfl .rfl fun _ => .rfl
  · by_cases hB : t.val = 8
    · exact triple_restated (pointB m T c ok t hB Y hY) rfl .rfl fun _ => .rfl
    · by_cases hC : t.val = 9
      · exact triple_restated (pointC m T c ok t hC Y hY) rfl .rfl fun _ => .rfl
      · have hD : t.val = 10 := by have := lt_of_lt_of_eq t.isLt (show cfg0.N = 11 from N_0); omega
        exact triple_restated (pointD m T c ok t hD Y hY) rfl .rfl fun _ => .rfl

theorem phi_in (c : Dev nD) (h0 : ∀ S0 S1 S2 S3 S4, T.Inv 0 S0 S1 S2 S3 S4) : (Pipeline.ΦA spec0 c : sProp 𝕄) ⊢ PhiT T c 0 := by
  unfold Pipeline.ΦA PhiT
  rw [scopedRest0_eq]
  simp only [owns_whole]
  iintro ⟨⟨⟨%S0, H0⟩, ⟨%S1, H1⟩, ⟨%S2, H2⟩, ⟨%S3, H3⟩, ⟨%S4, H4⟩⟩, Hg⟩
  iexists S0, S1, S2, S3, S4
  isplitr; · ipureintro; exact h0 _ _ _ _ _
  isplitl [H0]; · iexact H0
  isplitl [H1]; · iexact H1
  isplitl [H2]; · iexact H2
  isplitl [H3]; · iexact H3
  isplitl [H4]; · iexact H4
  iexact Hg

theorem phi_out (c : Dev nD) (n : ℕ) : PhiT T c n ⊢ (Pipeline.ΦA spec0 c : sProp 𝕄) := by
  unfold Pipeline.ΦA PhiT
  rw [scopedRest0_eq]
  simp only [owns_whole]
  iintro ⟨%S0, %S1, %S2, %S3, %S4, -, H0, H1, H2, H3, H4, Hg⟩
  isplitr [Hg]
  · isplitl [H0]; · iexists S0; iexact H0
    isplitl [H1]; · iexists S1; iexact H1
    isplitl [H2]; · iexists S2; iexact H2
    isplitl [H3]; · iexists S3; iexact H3
    iexists S4; iexact H4
  iexact Hg

set_option backward.isDefEq.respectTransparency.types false in
/-- The run: every window's array ends at contents the proof data allow, every other buffer unchanged, every counter at zero. -/
theorem run_main (ok : ∀ c, StepOK m T c) (h0 : ∀ S0 S1 S2 S3 S4, T.Inv 0 S0 S1 S2 S3 S4) :
    θ_run defs (onTc (τ := τ) (main (F := F))) (s₀ m ρ) (fun r => RDat.FramePost cfg0 (rdat m T) (V m) r ∧ r.2.sem = fun _ => 0) :=
  RDat.θ_run_frame_track (Q' := _) cfgs (0 : Fin 1) launch0 defs₀ Variants.none (rdat m T) m ρ main
    (hbody := fun c => body_obligation m T c (ok c))
    (hshare := fun c w => by unfold RDat.share; split <;> rfl)
    (howed := fun _ _ => rfl) (V := V m) (hmain := hmain m Variants.none) (hA := fun _ _ => rfl)
    (hin := fun c => phi_in T c h0) (hout := fun c => phi_out T c _)

end Cert.KernelIdeal.Hand

end
-- ==== Proof.Ideal.Frame.lean ====
/-
  The frame: whatever is tracked, a run leaves every argument buffer as launched and every counter at zero.
-/
module

public import proofs.«01_k».proof.Proof.Ideal.Body

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

variable (T : Track F)

/-- Every argument buffer is as launched. -/
def ArgsKept (c : Dev nD) (mem : (ℓ : Loc nD τ sig) → Buf (Elt F) ℓ) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)
  ∧ mem ((c.tc : Thread nD τ).loc main_arg10) = m ((c.tc : Thread nD τ).loc main_arg10)
  ∧ mem ((c.tc : Thread nD τ).loc main_arg11) = m ((c.tc : Thread nD τ).loc main_arg11)
  ∧ mem ((c.tc : Thread nD τ).loc main_arg12) = m ((c.tc : Thread nD τ).loc main_arg12)
  ∧ mem ((c.tc : Thread nD τ).loc main_arg13) = m ((c.tc : Thread nD τ).loc main_arg13)
  ∧ mem ((c.tc : Thread nD τ).loc main_arg14) = m ((c.tc : Thread nD τ).loc main_arg14)
  ∧ mem ((c.tc : Thread nD τ).loc main_arg15) = m ((c.tc : Thread nD τ).loc main_arg15)
  ∧ mem ((c.tc : Thread nD τ).loc main_arg16) = m ((c.tc : Thread nD τ).loc main_arg16)
  ∧ mem ((c.tc : Thread nD τ).loc main_arg17) = m ((c.tc : Thread nD τ).loc main_arg17)
  ∧ mem ((c.tc : Thread nD τ).loc main_arg18) = m ((c.tc : Thread nD τ).loc main_arg18)
  ∧ mem ((c.tc : Thread nD τ).loc main_arg19) = m ((c.tc : Thread nD τ).loc main_arg19)
  ∧ mem ((c.tc : Thread nD τ).loc main_arg20) = m ((c.tc : Thread nD τ).loc main_arg20)
  ∧ mem ((c.tc : Thread nD τ).loc main_arg21) = m ((c.tc : Thread nD τ).loc main_arg21)
  ∧ mem ((c.tc : Thread nD τ).loc main_arg22) = m ((c.tc : Thread nD τ).loc main_arg22)
  ∧ mem ((c.tc : Thread nD τ).loc main_arg23) = m ((c.tc : Thread nD τ).loc main_arg23)
  ∧ mem ((c.tc : Thread nD τ).loc main_arg24) = m ((c.tc : Thread nD τ).loc main_arg24)
  ∧ mem ((c.tc : Thread nD τ).loc main_arg25) = m ((c.tc : Thread nD τ).loc main_arg25)

theorem argsKept_of {r : PUnit × MemSt nD τ sig (Elt F)} (h : RDat.FramePost cfg0 (rdat m T) (V m) r) (c : Dev nD) : ArgsKept m c r.2.mem := by
  have hin : ∀ (w : Fin cfg0.W), (cfg0.win w).isOut = false → r.2.mem ((cfg0.spec w).arr.view.loc (c.tc : Thread nD τ)) = V m c (Pipeline.arrRef spec0 w) := fun w hw => by
    have := (h c).1 w; rw [(rdat m T c).ArrAt_in w hw] at this; exact this
  exact ⟨(hin 2 rfl).trans (V_main_arg0 m c),
    (hin 3 rfl).trans (V_main_arg1 m c),
    (hin 6 rfl).trans (V_main_arg2 m c),
    ((h c).2 main_arg3 (Pipeline.mem_restRefs_of main_arg3 (by decide) (by decide))).trans (V_main_arg3 m c),
    (hin 8 rfl).trans (V_main_arg4 m c),
    ((h c).2 main_arg5 (Pipeline.mem_restRefs_of main_arg5 (by decide) (by decide))).trans (V_main_arg5 m c),
    (hin 10 rfl).trans (V_main_arg6 m c),
    ((h c).2 main_arg7 (Pipeline.mem_restRefs_of main_arg7 (by decide) (by decide))).trans (V_main_arg7 m c),
    (hin 12 rfl).trans (V_main_arg8 m c),
    ((h c).2 main_arg9 (Pipeline.mem_restRefs_of main_arg9 (by decide) (by decide))).trans (V_main_arg9 m c),
    (hin 14 rfl).trans (V_main_arg10 m c),
    ((h c).2 main_arg11 (Pipeline.mem_restRefs_of main_arg11 (by decide) (by decide))).trans (V_main_arg11 m c),
    (hin 16 rfl).trans (V_main_arg12 m c),
    ((h c).2 main_arg13 (Pipeline.mem_restRefs_of main_arg13 (by decide) (by decide))).trans (V_main_arg13 m c),
    (hin 18 rfl).trans (V_main_arg14 m c),
    ((h c).2 main_arg15 (Pipeline.mem_restRefs_of main_arg15 (by decide) (by decide))).trans (V_main_arg15 m c),
    (hin 20 rfl).trans (V_main_arg16 m c),
    ((h c).2 main_arg17 (Pipeline.mem_restRefs_of main_arg17 (by decide) (by decide))).trans (V_main_arg17 m c),
    (hin 22 rfl).trans (V_main_arg18 m c),
    ((h c).2 main_arg19 (Pipeline.mem_restRefs_of main_arg19 (by decide) (by decide))).trans (V_main_arg19 m c),
    (hin 24 rfl).trans (V_main_arg20 m c),
    ((h c).2 main_arg21 (Pipeline.mem_restRefs_of main_arg21 (by decide) (by decide))).trans (V_main_arg21 m c),
    ((h c).2 main_arg22 (Pipeline.mem_restRefs_of main_arg22 (by decide) (by decide))).trans (V_main_arg22 m c),
    ((h c).2 main_arg23 (Pipeline.mem_restRefs_of main_arg23 (by decide) (by decide))).trans (V_main_arg23 m c),
    (hin 4 rfl).trans (V_main_arg24 m c),
    (hin 5 rfl).trans (V_main_arg25 m c)⟩

/-- Nothing tracked: inputs keep what was fetched, everything else is free. -/
def free (F : FTy → Type) [FloatOps F] [Named F] : Track F where
  Inv _ _ _ _ _ _ := True
  after w _ Y X := w.val < 26 → X = Y

theorem free_ok (c : Dev nD) : StepOK m (free F) c where
  inp := fun _ _ _ _ _ => rfl
  stepA := fun _ _ _ _ _ _ _ _ _ _ => ⟨fun h => absurd h (by decide), fun h => absurd h (by decide), fun h => absurd h (by decide), fun h => absurd h (by decide), fun h => absurd h (by decide), trivial⟩
  stepB := fun _ _ _ _ _ _ _ _ _ _ => ⟨fun h => absurd h (by decide), fun h => absurd h (by decide), fun h => absurd h (by decide), fun h => absurd h (by decide), fun h => absurd h (by decide), trivial⟩
  stepC := fun _ _ _ _ _ _ _ _ _ _ => ⟨fun h => absurd h (by decide), fun h => absurd h (by decide), fun h => absurd h (by decide), fun h => absurd h (by decide), fun h => absurd h (by decide), trivial⟩
  stepD := fun _ _ _ _ _ _ _ _ _ _ => ⟨fun h => absurd h (by decide), fun h => absurd h (by decide), fun h => absurd h (by decide), fun h => absurd h (by decide), fun h => absurd h (by decide), trivial⟩

theorem frame :
    θ_run defs (onTc (τ := τ) (main (F := F))) ⟨m, fun _ => 0, ρ⟩ (fun r => (∀ c : Dev nD, ArgsKept m c r.2.mem) ∧ r.2.sem = fun _ => 0) :=
  (θ_run defs _ _).mono (fun _ h => ⟨fun c => argsKept_of m (free F) h.1 c, h.2⟩)
    (run_main m ρ (free F) (free_ok m) (fun _ _ _ _ _ => trivial))

end Cert.KernelIdeal.Hand

end
-- ==== Proof.Math.Real.lean ====
/-
  Facts about extended reals used by the value claim: multiplying by a non-negative real distributes over sums, the
  half-tanh form of the logistic function, inverse square roots of reals at least one, and "is a real number" closed
  under the operations of the two programs.
-/
module

public import Idealize.ShloMosaic.PureOps.Ideal.Laws
public import Idealize.ShloMosaic.Lib.IdealHost
public import Mathlib.Data.EReal.Inv
public import Mathlib.Analysis.SpecialFunctions.Trigonometric.Basic

@[expose] public section

noncomputable section

namespace Cert.Math

open Idealize.ShloMosaic
open scoped BigOperators

/-- The constant one half as printed. -/
def half : EReal := Ideal.ofBits .f32 0x3F000000#32

/-- The constant one as printed. -/
def one : EReal := Ideal.ofBits .f32 0x3F800000#32

theorem one_eq : one = 1 := Ideal.ofBits_one_f32

theorem half_eq : half = ((1 / 2 : ℝ) : EReal) := by
  unfold half
  simp [Ideal.ofBits, Ideal.ieee, -EReal.coe_mul]; norm_num

/-! ## Distribution -/

theorem mul_sum {n : ℕ} (d : EReal) (h0 : 0 ≤ d) (h1 : d ≠ ⊤) (f : Fin n → EReal) : d * ∑ k, f k = ∑ k, d * f k := by
  classical
  induction (Finset.univ : Finset (Fin n)) using Finset.induction_on with
  | empty => simp
  | insert a s ha ih => rw [Finset.sum_insert ha, Finset.sum_insert ha, EReal.left_distrib_of_nonneg_of_ne_top h0 h1, ih]

/-! ## Real numbers -/

/-- `x` is a real number. -/
def IsReal (x : EReal) : Prop := ∃ r : ℝ, x = (r : EReal)

theorem IsReal.add {x y : EReal} : IsReal x → IsReal y → IsReal (x + y) := by
  rintro ⟨a, rfl⟩ ⟨b, rfl⟩; exact ⟨a + b, (EReal.coe_add a b).symm⟩

theorem IsReal.mul {x y : EReal} : IsReal x → IsReal y → IsReal (x * y) := by
  rintro ⟨a, rfl⟩ ⟨b, rfl⟩; exact ⟨a * b, (EReal.coe_mul a b).symm⟩

theorem IsReal.max {x y : EReal} (hx : IsReal x) (hy : IsReal y) : IsReal (max x y) := by
  rcases max_choice x y with h | h <;> rw [h] <;> assumption

theorem IsReal.exp {x : EReal} : IsReal x → IsReal (Ideal.exp x) := by
  rintro ⟨a, rfl⟩; exact ⟨Real.exp a, rfl⟩

theorem IsReal.tanh {x : EReal} : IsReal x → IsReal (Ideal.tanh x) := by
  rintro ⟨a, rfl⟩; exact ⟨Real.tanh a, rfl⟩

theorem isReal_zero : IsReal 0 := ⟨0, rfl⟩
theorem isReal_half : IsReal half := ⟨1 / 2, half_eq⟩

theorem IsReal.sum {n : ℕ} {f : Fin n → EReal} (h : ∀ k, IsReal (f k)) : IsReal (∑ k, f k) := by
  classical
  induction (Finset.univ : Finset (Fin n)) using Finset.induction_on with
  | empty => simpa using isReal_zero
  | insert a s ha ih => rw [Finset.sum_insert ha]; exact (h a).add ih

theorem isReal_of_abs_lt_top {x : EReal} (h : max x (-x) < ⊤) : IsReal x := by
  induction x with
  | bot => simp at h
  | top => simp at h
  | coe a => exact ⟨a, rfl⟩

/-! ## The logistic function by half a tanh -/

theorem half_tanh (x : ℝ) : 1 / 2 * Real.tanh (1 / 2 * x) + 1 / 2 = 1 / (1 + Real.exp (-x)) := by
  have e : Real.exp (-x) = Real.exp (-(1 / 2 * x)) * Real.exp (-(1 / 2 * x)) := by rw [← Real.exp_add]; ring_nf
  have hp := Real.exp_pos (1 / 2 * x)
  have hn := Real.exp_pos (-(1 / 2 * x))
  have hm : Real.exp (1 / 2 * x) * Real.exp (-(1 / 2 * x)) = 1 := by rw [← Real.exp_add]; simp
  rw [Real.tanh_eq_sinh_div_cosh, Real.sinh_eq, Real.cosh_eq, e]
  generalize Real.exp (1 / 2 * x) = p at *
  generalize Real.exp (-(1 / 2 * x)) = q at *
  have h1 : (p + q) / 2 ≠ 0 := by positivity
  have h2 : 1 + q * q ≠ 0 := by positivity
  have hq : q ≠ 0 := ne_of_gt hn
  have h3 : p + q ≠ 0 := by positivity
  field_simp
  nlinarith

/-- Half a tanh of half the argument, plus one half, is the logistic function, at every extended real. -/
theorem logistic_eq (x : EReal) : half * Ideal.tanh (half * x) + half = Ideal.div one (one + Ideal.exp (-x)) := by
  rw [half_eq, one_eq]
  induction x with
  | bot =>
    rw [EReal.coe_mul_bot_of_pos (by norm_num)]
    show ((1 / 2 : ℝ) : EReal) * ((-1 : ℝ) : EReal) + ((1 / 2 : ℝ) : EReal) = Ideal.div 1 (1 + ⊤)
    rw [← EReal.coe_mul, ← EReal.coe_add, show (1 : EReal) + ⊤ = ⊤ by rfl, Ideal.div, if_neg (by simp), EReal.inv_top, mul_zero]
    norm_num
  | top =>
    rw [EReal.coe_mul_top_of_pos (by norm_num)]
    show ((1 / 2 : ℝ) : EReal) * ((1 : ℝ) : EReal) + ((1 / 2 : ℝ) : EReal) = Ideal.div 1 (1 + 0)
    rw [← EReal.coe_mul, ← EReal.coe_add]
    norm_num [Ideal.div]
  | coe a =>
    have h : (1 : ℝ) + Real.exp (-a) ≠ 0 := by positivity
    rw [← EReal.coe_mul, ← EReal.coe_neg]
    show ((1 / 2 : ℝ) : EReal) * ((Real.tanh (1 / 2 * a) : ℝ) : EReal) + ((1 / 2 : ℝ) : EReal) = Ideal.div 1 (((1 : ℝ) : EReal) + ((Real.exp (-a) : ℝ) : EReal))
    rw [← EReal.coe_mul, ← EReal.coe_add, ← EReal.coe_add, half_tanh a, Ideal.div, if_neg (by exact_mod_cast h), ← EReal.coe_inv, one_mul, one_div]

/-- The logistic function takes real values between zero and one. -/
theorem logistic_real (x : EReal) : ∃ a : ℝ, 0 ≤ a ∧ half * Ideal.tanh (half * x) + half = (a : EReal) := by
  rw [half_eq]
  induction x with
  | bot =>
    refine ⟨0, le_refl _, ?_⟩
    rw [EReal.coe_mul_bot_of_pos (by norm_num)]
    show ((1 / 2 : ℝ) : EReal) * ((-1 : ℝ) : EReal) + ((1 / 2 : ℝ) : EReal) = _
    rw [← EReal.coe_mul, ← EReal.coe_add]; norm_num
  | top =>
    refine ⟨1, zero_le_one, ?_⟩
    rw [EReal.coe_mul_top_of_pos (by norm_num)]
    show ((1 / 2 : ℝ) : EReal) * ((1 : ℝ) : EReal) + ((1 / 2 : ℝ) : EReal) = _
    rw [← EReal.coe_mul, ← EReal.coe_add]; norm_num
  | coe a =>
    refine ⟨1 / (1 + Real.exp (-a)), by positivity, ?_⟩
    rw [← EReal.coe_mul]
    show ((1 / 2 : ℝ) : EReal) * ((Real.tanh (1 / 2 * a) : ℝ) : EReal) + ((1 / 2 : ℝ) : EReal) = _
    rw [← EReal.coe_mul, ← EReal.coe_add, half_tanh a]

/-! ## The square root of one half, and inverse square roots -/

theorem sqrt_half_sq : (Real.sqrt (1 / 2) : EReal) * (Real.sqrt (1 / 2) : EReal) = half := by
  rw [half_eq, ← EReal.coe_mul, Real.mul_self_sqrt (by norm_num)]

/-- At a real number at least one, the inverse square root is a positive real, and is the quotient of one by the square root. -/
theorem rsqrt_of_one_le {r : ℝ} (h : 1 ≤ r) : ∃ d : ℝ, 0 < d ∧ Ideal.rsqrt (r : EReal) = (d : EReal) ∧ Ideal.div one (Ideal.sqrt (r : EReal)) = (d : EReal) := by
  have h0 : 0 < r := lt_of_lt_of_le one_pos h
  have hs : 0 < Real.sqrt r := Real.sqrt_pos.mpr h0
  refine ⟨(Real.sqrt r)⁻¹, inv_pos.mpr hs, ?_, ?_⟩
  · show (if r < 0 then (⊥ : EReal) else if r = 0 then ⊤ else ((Real.sqrt r)⁻¹ : ℝ)) = _
    rw [if_neg (not_lt.mpr h0.le), if_neg h0.ne']
  · have : Ideal.sqrt (r : EReal) = (Real.sqrt r : EReal) := by
      show (if r < 0 then (⊥ : EReal) else (Real.sqrt r : EReal)) = _
      rw [if_neg (not_lt.mpr h0.le)]
    rw [this, one_eq, Ideal.div, if_neg (by exact_mod_cast hs.ne'), one_mul, EReal.coe_inv]

end Cert.Math

end
-- ==== Proof.Math.Gcn.lean ====
/-
  The mathematics of the two programs over extended reals, as functions of row and column: the encoder both share, the
  adjacency matrix, its degrees and the two propagation layers as the kernel computes them, the same as the reference
  computes them, and the equations between the two.
-/
module

public import proofs.«01_k».proof.Proof.Math.Real

@[expose] public section

noncomputable section

namespace Cert.Math

open Idealize.ShloMosaic
open scoped BigOperators

/-- A matrix by row and column. -/
abbrev Mat (M N : ℕ) : Type := Fin M → Fin N → EReal

/-! ## What both programs compute alike -/

def mm {M K N : ℕ} (X : Mat M K) (W : Mat K N) : Mat M N := fun r c => ∑ k, X r k * W k c
def dense {M K N : ℕ} (X : Mat M K) (W : Mat K N) (b : Fin N → EReal) : Mat M N := fun r c => mm X W r c + b c
def relu {M N : ℕ} (X : Mat M N) : Mat M N := fun r c => max (X r c) 0

/-- The two hidden layers of an encoder. -/
def hidden {M : ℕ} (X : Mat M 512) (Wa : Mat 512 256) (ba : Fin 256 → EReal) (Wb : Mat 256 256) (bb : Fin 256 → EReal) : Mat M 256 :=
  relu (dense (relu (dense X Wa ba)) Wb bb)

/-- A sample of the latent normal variable. -/
def sample {M : ℕ} (mu lv eps : Mat M 128) : Mat M 128 := fun r c => mu r c + eps r c * Ideal.exp (half * lv r c)

/-- The mean of the two views. -/
def joint {M : ℕ} (z0 z1 : Mat M 128) : Mat M 128 := fun r c => half * (z0 r c + z1 r c)

/-! ## The kernel -/

/-- The two samples side by side, times the square root of one half. -/
def wide {M : ℕ} (z0 z1 : Mat M 128) : Mat M 256 := fun r k =>
  (if h : k.val < 128 then z0 r ⟨k.val, h⟩ else z1 r ⟨k.val - 128, by have := k.isLt; omega⟩) * (Real.sqrt (1 / 2) : EReal)

/-- The adjacency matrix by half a tanh. -/
def adjK {M : ℕ} (t th : EReal) (wm : Mat M 256) : Mat M M := fun r c =>
  half * Ideal.tanh ((half * t) * ((∑ k, wm r k * wm c k) + th)) + half

/-- The degree of a row, the two column halves one after the other. -/
def degK (A : Mat 4096 4096) (r : Fin 4096) : EReal :=
  (one + ∑ c : Fin 2048, A r ⟨c.val, by have := c.isLt; omega⟩) + ∑ c : Fin 2048, A r ⟨2048 + c.val, by have := c.isLt; omega⟩

def dinvK (A : Mat 4096 4096) (r : Fin 4096) : EReal := Ideal.rsqrt (degK A r)

/-- The first layer, its output already through the second layer's weights and scaled. -/
def layer1K (A : Mat 4096 4096) (d : Fin 4096 → EReal) (g1 : Mat 4096 64) (bg1 : Fin 64 → EReal) (Wg2 : Mat 64 10) : Mat 4096 10 := fun r c =>
  d r * ∑ f, max (d r * ((∑ k, A r k * (g1 k f * d k)) + g1 r f * d r) + bg1 f) 0 * Wg2 f c

/-- The logits. -/
def outK (A : Mat 4096 4096) (d : Fin 4096 → EReal) (z2 : Mat 4096 10) (bg2 : Fin 10 → EReal) : Mat 4096 10 := fun r c =>
  d r * ((∑ k, A r k * z2 k c) + z2 r c) + bg2 c

/-- The greatest entry of a row. -/
def rowMax (O : Mat 4096 10) (r : Fin 4096) : EReal := Finset.univ.fold max ⊥ (O r)

/-- The logarithm of the softmax as the kernel writes it. -/
def logSoftmaxK (O : Mat 4096 10) : Mat 4096 10 := fun r c =>
  O r c - (Ideal.log (∑ j, Ideal.exp (O r j - rowMax O r)) + rowMax O r)

/-! ## The reference -/

def adjR {M : ℕ} (t th : EReal) (z0 z1 : Mat M 128) : Mat M M := fun r c =>
  Ideal.div one (one + Ideal.exp (-t * (half * ((∑ k, z0 r k * z0 c k) + ∑ k, z1 r k * z1 c k) + th)))

/-- The identity matrix. -/
def eye (r c : Fin 4096) : EReal := if r = c then 1 else 0

def degR (A : Mat 4096 4096) (r : Fin 4096) : EReal := ∑ c, (A r c + eye r c)

def dinvR (A : Mat 4096 4096) (r : Fin 4096) : EReal := Ideal.div one (Ideal.sqrt (degR A r))

/-- The normalized adjacency matrix with self-loops. -/
def normR (A : Mat 4096 4096) : Mat 4096 4096 := fun r c => (A r c + eye r c) * dinvR A r * dinvR A c

def logSoftmaxR (O : Mat 4096 10) : Mat 4096 10 := fun r c =>
  (O r c - rowMax O r) - Ideal.log (∑ j, Ideal.exp (O r j - rowMax O r))

/-! ## The equations -/

theorem sum_wide {M : ℕ} (z0 z1 : Mat M 128) (r c : Fin M) :
    (∑ k, wide z0 z1 r k * wide z0 z1 c k) = half * ((∑ k, z0 r k * z0 c k) + ∑ k, z1 r k * z1 c k) := by
  have hs : ∀ a b : EReal, a * (Real.sqrt (1 / 2) : EReal) * (b * (Real.sqrt (1 / 2) : EReal)) = half * (a * b) := fun a b => by
    rw [← sqrt_half_sq]; ac_rfl
  have h0 : (0 : EReal) ≤ half := by rw [half_eq]; exact_mod_cast (by norm_num : (0 : ℝ) ≤ 1 / 2)
  have h1 : half ≠ ⊤ := by rw [half_eq]; exact EReal.coe_ne_top _
  rw [EReal.left_distrib_of_nonneg_of_ne_top h0 h1, mul_sum _ h0 h1, mul_sum _ h0 h1]
  rw [show (∑ k : Fin 256, wide z0 z1 r k * wide z0 z1 c k) = ∑ k : Fin (128 + 128), wide z0 z1 r k * wide z0 z1 c k from rfl, Fin.sum_univ_add]
  refine congrArg₂ (· + ·) (Finset.sum_congr rfl fun k _ => ?_) (Finset.sum_congr rfl fun k _ => ?_)
  · have hk : (Fin.castAdd 128 k).val < 128 := k.isLt
    unfold wide
    rw [dif_pos hk, dif_pos hk]; exact hs _ _
  · have hk : ¬ (Fin.natAdd 128 k).val < 128 := by simp
    have e : (⟨(Fin.natAdd 128 k).val - 128, by have := k.isLt; simp⟩ : Fin 128) = k := Fin.ext (by simp)
    unfold wide
    rw [dif_neg hk, dif_neg hk, e]; exact hs _ _

theorem adj_eq {M : ℕ} (t th : EReal) (z0 z1 : Mat M 128) : adjK t th (wide z0 z1) = adjR t th z0 z1 := by
  funext r c
  unfold adjK adjR
  rw [sum_wide, mul_assoc half t, logistic_eq, EReal.neg_mul]

theorem adjK_real {M : ℕ} (t th : EReal) (wm : Mat M 256) : ∃ a : Fin M → Fin M → ℝ, (∀ r c, 0 ≤ a r c) ∧ ∀ r c, adjK t th wm r c = (a r c : EReal) := by
  have h : ∀ r c, ∃ a : ℝ, 0 ≤ a ∧ adjK t th wm r c = (a : EReal) := fun r c => by
    unfold adjK; rw [mul_assoc half t]; exact logistic_real _
  choose a h0 h1 using h
  exact ⟨a, h0, h1⟩

/-- What the equations ask of the adjacency matrix: non-negative reals. -/
def Adj (A : Mat 4096 4096) : Prop := ∃ a : Fin 4096 → Fin 4096 → ℝ, (∀ r c, 0 ≤ a r c) ∧ ∀ r c, A r c = (a r c : EReal)

theorem coe_sum {n : ℕ} (f : Fin n → ℝ) : (∑ k, (f k : EReal)) = ((∑ k, f k : ℝ) : EReal) := by
  classical
  induction (Finset.univ : Finset (Fin n)) using Finset.induction_on with
  | empty => simp
  | insert a s ha ih => rw [Finset.sum_insert ha, Finset.sum_insert ha, ih, EReal.coe_add]

theorem degK_eq_one_add (A : Mat 4096 4096) (r : Fin 4096) : degK A r = 1 + ∑ c, A r c := by
  unfold degK
  rw [one_eq, add_assoc, show (∑ c : Fin 4096, A r c) = ∑ c : Fin (2048 + 2048), A r c from rfl, Fin.sum_univ_add]
  rfl

theorem degR_eq_one_add (A : Mat 4096 4096) (r : Fin 4096) : degR A r = 1 + ∑ c, A r c := by
  unfold degR eye
  rw [Finset.sum_add_distrib, Finset.sum_ite_eq Finset.univ r, if_pos (Finset.mem_univ r), add_comm]

theorem deg_real {A : Mat 4096 4096} (hA : Adj A) (r : Fin 4096) : ∃ x : ℝ, 1 ≤ x ∧ 1 + ∑ c, A r c = (x : EReal) := by
  obtain ⟨a, h0, h1⟩ := hA
  refine ⟨1 + ∑ c, a r c, le_add_of_nonneg_right (Finset.sum_nonneg fun c _ => h0 r c), ?_⟩
  rw [Finset.sum_congr rfl fun c _ => h1 r c, coe_sum, EReal.coe_add]; rfl

theorem dinv_eq {A : Mat 4096 4096} (hA : Adj A) (r : Fin 4096) : ∃ d : ℝ, 0 < d ∧ dinvK A r = (d : EReal) ∧ dinvR A r = (d : EReal) := by
  obtain ⟨x, hx, e⟩ := deg_real hA r
  obtain ⟨d, h0, h1, h2⟩ := rsqrt_of_one_le hx
  refine ⟨d, h0, ?_, ?_⟩
  · unfold dinvK; rw [degK_eq_one_add, e, h1]
  · unfold dinvR; rw [degR_eq_one_add, e, h2]

/-- One propagation: scaling, multiplying by the adjacency matrix, adding the row itself and scaling again is multiplying by
    the normalized matrix with self-loops. -/
theorem propagate {A : Mat 4096 4096} (hA : Adj A) {N : ℕ} (g : Mat 4096 N) (r : Fin 4096) (f : Fin N) :
    dinvK A r * ((∑ k, A r k * (g k f * dinvK A k)) + g r f * dinvK A r) = mm (normR A) g r f := by
  choose d hd hK hR using fun r => dinv_eq hA r
  obtain ⟨a, ha, hA⟩ := hA
  have h0 : ∀ r, (0 : EReal) ≤ (d r : EReal) := fun r => by exact_mod_cast (hd r).le
  have h1 : ∀ r, (d r : EReal) ≠ ⊤ := fun r => EReal.coe_ne_top _
  unfold mm normR
  simp only [hK, hR, hA]
  have hterm : ∀ k, ((a r k : EReal) + eye r k) * (d r : EReal) * (d k : EReal) * g k f
      = (d r : EReal) * ((a r k : EReal) * (g k f * (d k : EReal))) + (if r = k then (d r : EReal) * (g r f * (d r : EReal)) else 0) := fun k => by
    have hak : (0 : EReal) ≤ (a r k : EReal) := by exact_mod_cast ha r k
    have hek : (0 : EReal) ≤ eye r k := by unfold eye; split <;> norm_num
    rw [show ((a r k : EReal) + eye r k) * (d r : EReal) * (d k : EReal) * g k f = ((a r k : EReal) + eye r k) * ((d r : EReal) * (d k : EReal) * g k f) by ac_rfl,
      EReal.right_distrib_of_nonneg hak hek]
    refine congrArg₂ (· + ·) (by ac_rfl) ?_
    unfold eye
    split
    · next h => subst h; rw [one_mul]; ac_rfl
    · rw [zero_mul]
  rw [Finset.sum_congr rfl fun k _ => hterm k, Finset.sum_add_distrib, Finset.sum_ite_eq Finset.univ r, if_pos (Finset.mem_univ r),
    EReal.left_distrib_of_nonneg_of_ne_top (h0 r) (h1 r), mul_sum _ (h0 r) (h1 r)]

/-- The logits agree. -/
theorem out_eq {A : Mat 4096 4096} (hA : Adj A) (g1 : Mat 4096 64) (bg1 : Fin 64 → EReal) (Wg2 : Mat 64 10) (bg2 : Fin 10 → EReal) :
    outK A (dinvK A) (layer1K A (dinvK A) g1 bg1 Wg2) bg2 = dense (normR A) (mm (relu (dense (normR A) g1 bg1)) Wg2) bg2 := by
  have h1 : layer1K A (dinvK A) g1 bg1 Wg2 = fun r c => mm (relu (dense (normR A) g1 bg1)) Wg2 r c * dinvK A r := by
    funext r c
    unfold layer1K
    simp only [propagate hA]
    exact mul_comm _ _
  funext r c
  unfold outK
  rw [h1, propagate hA (mm (relu (dense (normR A) g1 bg1)) Wg2) r c]
  rfl

/-! ## Real logits, and the two forms of the logarithm of the softmax -/

theorem mm_real {M K N : ℕ} {X : Mat M K} {W : Mat K N} (hX : ∀ r c, IsReal (X r c)) (hW : ∀ r c, IsReal (W r c)) : ∀ r c, IsReal (mm X W r c) :=
  fun r c => IsReal.sum fun k => (hX r k).mul (hW k c)

theorem dense_real {M K N : ℕ} {X : Mat M K} {W : Mat K N} {b : Fin N → EReal} (hX : ∀ r c, IsReal (X r c)) (hW : ∀ r c, IsReal (W r c))
    (hb : ∀ c, IsReal (b c)) : ∀ r c, IsReal (dense X W b r c) := fun r c => (mm_real hX hW r c).add (hb c)

theorem relu_real {M N : ℕ} {X : Mat M N} (hX : ∀ r c, IsReal (X r c)) : ∀ r c, IsReal (relu X r c) := fun r c => (hX r c).max isReal_zero

theorem sample_real {M : ℕ} {mu lv eps : Mat M 128} (h1 : ∀ r c, IsReal (mu r c)) (h2 : ∀ r c, IsReal (lv r c)) (h3 : ∀ r c, IsReal (eps r c)) :
    ∀ r c, IsReal (sample mu lv eps r c) := fun r c => (h1 r c).add ((h3 r c).mul (isReal_half.mul (h2 r c)).exp)

theorem joint_real {M : ℕ} {z0 z1 : Mat M 128} (h1 : ∀ r c, IsReal (z0 r c)) (h2 : ∀ r c, IsReal (z1 r c)) :
    ∀ r c, IsReal (joint z0 z1 r c) := fun r c => isReal_half.mul ((h1 r c).add (h2 r c))

theorem normR_real {A : Mat 4096 4096} (hA : Adj A) : ∀ r c, IsReal (normR A r c) := fun r c => by
  obtain ⟨d, -, -, e⟩ := dinv_eq hA r
  obtain ⟨d', -, -, e'⟩ := dinv_eq hA c
  obtain ⟨a, -, ha⟩ := hA
  refine IsReal.mul (IsReal.mul (IsReal.add ⟨_, ha r c⟩ ?_) ⟨_, e⟩) ⟨_, e'⟩
  unfold eye; split
  · exact ⟨1, rfl⟩
  · exact isReal_zero

theorem rowMax_real {O : Mat 4096 10} {r : Fin 4096} (h : ∀ c, IsReal (O r c)) : IsReal (rowMax O r) := by
  have key : ∀ (s : Finset (Fin 10)), s.Nonempty → IsReal (s.fold max ⊥ (O r)) := fun s hs => by
    classical
    induction hs using Finset.Nonempty.cons_induction with
    | singleton a => rw [Finset.fold_singleton, max_bot_right]; exact h a
    | cons a s ha hs ih => rw [Finset.fold_cons]; exact (h a).max ih
  exact key _ Finset.univ_nonempty

theorem logSoftmax_eq {O : Mat 4096 10} (h : ∀ r c, IsReal (O r c)) : logSoftmaxK O = logSoftmaxR O := by
  funext r c
  unfold logSoftmaxK logSoftmaxR
  obtain ⟨m, hm⟩ := rowMax_real (h r)
  choose o ho using h r
  rw [hm]
  have hsum : (∑ j, Ideal.exp (O r j - (m : EReal))) = ((∑ j, Real.exp (o j - m) : ℝ) : EReal) := by
    rw [← coe_sum]
    refine Finset.sum_congr rfl fun j _ => ?_
    rw [ho j, ← EReal.coe_sub]; rfl
  have hpos : 0 < ∑ j : Fin 10, Real.exp (o j - m) := Finset.sum_pos (fun j _ => Real.exp_pos _) Finset.univ_nonempty
  have hlog : Ideal.log ((∑ j, Real.exp (o j - m) : ℝ) : EReal) = (Real.log (∑ j, Real.exp (o j - m)) : EReal) := by
    show (if (∑ j, Real.exp (o j - m)) ≤ 0 then (⊥ : EReal) else _) = _
    rw [if_neg (not_le.mpr hpos)]
  rw [hsum, hlog, ho c, ← EReal.coe_add, ← EReal.coe_sub, ← EReal.coe_sub, ← EReal.coe_sub]
  congr 1; ring

end Cert.Math

end
-- ==== Proof.Math.Spec.lean ====
/-
  The arguments of the two programs by row and column, and the two sides' results as functions of them.
-/
module

public import proofs.«01_k».proof.Proof.Math.Gcn

@[expose] public section

noncomputable section

namespace Cert.Math

open Idealize.ShloMosaic
open scoped BigOperators

/-- The arguments: two views, two noises, the weights of two encoders and of two graph layers, and the two scalars of the
    adjacency. -/
structure Inputs where
  x0 : Mat 4096 512
  x1 : Mat 4096 512
  eps0 : Mat 4096 128
  eps1 : Mat 4096 128
  Wa0 : Mat 512 256
  ba0 : Fin 256 → EReal
  Wb0 : Mat 256 256
  bb0 : Fin 256 → EReal
  Wmu0 : Mat 256 128
  bmu0 : Fin 128 → EReal
  Wlv0 : Mat 256 128
  blv0 : Fin 128 → EReal
  Wa1 : Mat 512 256
  ba1 : Fin 256 → EReal
  Wb1 : Mat 256 256
  bb1 : Fin 256 → EReal
  Wmu1 : Mat 256 128
  bmu1 : Fin 128 → EReal
  Wlv1 : Mat 256 128
  blv1 : Fin 128 → EReal
  Wg1 : Mat 128 64
  bg1 : Fin 64 → EReal
  Wg2 : Mat 64 10
  bg2 : Fin 10 → EReal
  t : EReal
  th : EReal

namespace Inputs

variable (I : Inputs)

def mu0 : Mat 4096 128 := dense (Cert.Math.hidden I.x0 I.Wa0 I.ba0 I.Wb0 I.bb0) I.Wmu0 I.bmu0
def lv0 : Mat 4096 128 := dense (Cert.Math.hidden I.x0 I.Wa0 I.ba0 I.Wb0 I.bb0) I.Wlv0 I.blv0
def z0 : Mat 4096 128 := sample I.mu0 I.lv0 I.eps0
def mu1 : Mat 4096 128 := dense (Cert.Math.hidden I.x1 I.Wa1 I.ba1 I.Wb1 I.bb1) I.Wmu1 I.bmu1
def lv1 : Mat 4096 128 := dense (Cert.Math.hidden I.x1 I.Wa1 I.ba1 I.Wb1 I.bb1) I.Wlv1 I.blv1
def z1 : Mat 4096 128 := sample I.mu1 I.lv1 I.eps1
def wm : Mat 4096 256 := wide I.z0 I.z1
def g1 : Mat 4096 64 := mm (joint I.z0 I.z1) I.Wg1

/-- The kernel's adjacency matrix. -/
def adj : Mat 4096 4096 := adjK I.t I.th I.wm

/-- The kernel's first layer. -/
def lay : Mat 4096 10 := layer1K I.adj (dinvK I.adj) I.g1 I.bg1 I.Wg2

/-- The kernel's log-probabilities. -/
def pred : Mat 4096 10 := logSoftmaxK (outK I.adj (dinvK I.adj) I.lay I.bg2)

/-- The reference's log-probabilities. -/
def predR : Mat 4096 10 :=
  logSoftmaxR (dense (normR (adjR I.t I.th I.z0 I.z1)) (mm (relu (dense (normR (adjR I.t I.th I.z0 I.z1)) I.g1 I.bg1)) I.Wg2) I.bg2)

/-- Every argument but the two scalars of the adjacency is real. -/
structure Real : Prop where
  x0 : ∀ r c, IsReal (I.x0 r c)
  eps0 : ∀ r c, IsReal (I.eps0 r c)
  Wa0 : ∀ r c, IsReal (I.Wa0 r c)
  ba0 : ∀ c, IsReal (I.ba0 c)
  Wb0 : ∀ r c, IsReal (I.Wb0 r c)
  bb0 : ∀ c, IsReal (I.bb0 c)
  Wmu0 : ∀ r c, IsReal (I.Wmu0 r c)
  bmu0 : ∀ c, IsReal (I.bmu0 c)
  Wlv0 : ∀ r c, IsReal (I.Wlv0 r c)
  blv0 : ∀ c, IsReal (I.blv0 c)
  x1 : ∀ r c, IsReal (I.x1 r c)
  eps1 : ∀ r c, IsReal (I.eps1 r c)
  Wa1 : ∀ r c, IsReal (I.Wa1 r c)
  ba1 : ∀ c, IsReal (I.ba1 c)
  Wb1 : ∀ r c, IsReal (I.Wb1 r c)
  bb1 : ∀ c, IsReal (I.bb1 c)
  Wmu1 : ∀ r c, IsReal (I.Wmu1 r c)
  bmu1 : ∀ c, IsReal (I.bmu1 c)
  Wlv1 : ∀ r c, IsReal (I.Wlv1 r c)
  blv1 : ∀ c, IsReal (I.blv1 c)
  Wg1 : ∀ r c, IsReal (I.Wg1 r c)
  bg1 : ∀ c, IsReal (I.bg1 c)
  Wg2 : ∀ r c, IsReal (I.Wg2 r c)
  bg2 : ∀ c, IsReal (I.bg2 c)

variable {I}

theorem Real.hidden0 (h : I.Real) : ∀ r c, IsReal (Cert.Math.hidden I.x0 I.Wa0 I.ba0 I.Wb0 I.bb0 r c) :=
  relu_real (dense_real (relu_real (dense_real h.x0 h.Wa0 h.ba0)) h.Wb0 h.bb0)
theorem Real.z0 (h : I.Real) : ∀ r c, IsReal (I.z0 r c) :=
  sample_real (dense_real h.hidden0 h.Wmu0 h.bmu0) (dense_real h.hidden0 h.Wlv0 h.blv0) h.eps0
theorem Real.hidden1 (h : I.Real) : ∀ r c, IsReal (Cert.Math.hidden I.x1 I.Wa1 I.ba1 I.Wb1 I.bb1 r c) :=
  relu_real (dense_real (relu_real (dense_real h.x1 h.Wa1 h.ba1)) h.Wb1 h.bb1)
theorem Real.z1 (h : I.Real) : ∀ r c, IsReal (I.z1 r c) :=
  sample_real (dense_real h.hidden1 h.Wmu1 h.bmu1) (dense_real h.hidden1 h.Wlv1 h.blv1) h.eps1

theorem adj_adj : Adj I.adj := adjK_real I.t I.th I.wm

/-- The two sides' log-probabilities agree. -/
theorem pred_eq (h : I.Real) : I.pred = I.predR := by
  have hadj : adjR I.t I.th I.z0 I.z1 = I.adj := (adj_eq I.t I.th I.z0 I.z1).symm
  have hg : ∀ r c, IsReal (I.g1 r c) := mm_real (joint_real h.z0 h.z1) h.Wg1
  have hn := normR_real (A := I.adj) adj_adj
  unfold pred predR lay
  rw [out_eq adj_adj, hadj]
  exact logSoftmax_eq (dense_real hn (mm_real (relu_real (dense_real hn hg h.bg1)) h.Wg2) h.bg2)

end Inputs

end Cert.Math

end
-- ==== Proof.Reference.lean ====
/-
  The reference's results, entry by entry, in the terms of the mathematics.
-/
module

public import proofs.«01_k».proof.Proof.Gen.ReferenceIdeal.Read
public import proofs.«01_k».proof.Proof.Gen.ReferenceIdeal.Run
public import proofs.«01_k».proof.Proof.Math.Spec
public import Idealize.ShloMosaic.Lib.Pointwise

@[expose] public section

set_option maxRecDepth 16384
set_option maxHeartbeats 1000000

noncomputable section

namespace Cert.ReferenceIdeal.Hand

open Cert.ReferenceIdeal Cert.ReferenceIdeal.Gen Cert.ReferenceIdeal.Read Cert.Math
open Idealize.ShloMosaic Idealize.ShloMosaic.StableHlo Idealize.SL.Sem
open scoped BigOperators

/-- An array of two axes by row and column. -/
abbrev mat {M N : ℕ} (X : (⟨2, ![M, N]⟩ : Shape).Idx → EReal) : Mat M N := fun r c => X (ix2 r c)

/-- An array of one axis by its index. -/
abbrev vec {N : ℕ} (X : (⟨1, ![N]⟩ : Shape).Idx → EReal) : Fin N → EReal := fun c => X (ix1 c)

variable (x0 : (⟨S4096x512, .f32⟩ : BufTy).Contents (Elt Ideal)) (x1 : (⟨S4096x512, .f32⟩ : BufTy).Contents (Elt Ideal)) (x2 : (⟨S512x256, .f32⟩ : BufTy).Contents (Elt Ideal)) (x3 : (⟨S256, .f32⟩ : BufTy).Contents (Elt Ideal)) (x4 : (⟨S256x256, .f32⟩ : BufTy).Contents (Elt Ideal)) (x5 : (⟨S256, .f32⟩ : BufTy).Contents (Elt Ideal)) (x6 : (⟨S256x128, .f32⟩ : BufTy).Contents (Elt Ideal)) (x7 : (⟨S128, .f32⟩ : BufTy).Contents (Elt Ideal)) (x8 : (⟨S256x128, .f32⟩ : BufTy).Contents (Elt Ideal)) (x9 : (⟨S128, .f32⟩ : BufTy).Contents (Elt Ideal)) (x10 : (⟨S512x256, .f32⟩ : BufTy).Contents (Elt Ideal)) (x11 : (⟨S256, .f32⟩ : BufTy).Contents (Elt Ideal)) (x12 : (⟨S256x256, .f32⟩ : BufTy).Contents (Elt Ideal)) (x13 : (⟨S256, .f32⟩ : BufTy).Contents (Elt Ideal)) (x14 : (⟨S256x128, .f32⟩ : BufTy).Contents (Elt Ideal)) (x15 : (⟨S128, .f32⟩ : BufTy).Contents (Elt Ideal)) (x16 : (⟨S256x128, .f32⟩ : BufTy).Contents (Elt Ideal)) (x17 : (⟨S128, .f32⟩ : BufTy).Contents (Elt Ideal)) (x18 : (⟨S128x64, .f32⟩ : BufTy).Contents (Elt Ideal)) (x19 : (⟨S64, .f32⟩ : BufTy).Contents (Elt Ideal)) (x20 : (⟨S64x10, .f32⟩ : BufTy).Contents (Elt Ideal)) (x21 : (⟨S10, .f32⟩ : BufTy).Contents (Elt Ideal)) (x22 : (⟨S1, .f32⟩ : BufTy).Contents (Elt Ideal)) (x23 : (⟨S1, .f32⟩ : BufTy).Contents (Elt Ideal)) (x24 : (⟨S4096x128, .f32⟩ : BufTy).Contents (Elt Ideal)) (x25 : (⟨S4096x128, .f32⟩ : BufTy).Contents (Elt Ideal))

/-- The arguments by row and column. -/
def inX : Inputs where
  x0 := mat x0
  x1 := mat x1
  eps0 := mat x24
  eps1 := mat x25
  Wa0 := mat x2
  ba0 := vec x3
  Wb0 := mat x4
  bb0 := vec x5
  Wmu0 := mat x6
  bmu0 := vec x7
  Wlv0 := mat x8
  blv0 := vec x9
  Wa1 := mat x10
  ba1 := vec x11
  Wb1 := mat x12
  bb1 := vec x13
  Wmu1 := mat x14
  bmu1 := vec x15
  Wlv1 := mat x16
  blv1 := vec x17
  Wg1 := mat x18
  bg1 := vec x19
  Wg2 := mat x20
  bg2 := vec x21
  t := x22 (ix1 0)
  th := x23 (ix1 0)

theorem hid0 (r : Fin 4096) (c : Fin 256) : (val_main_v9 (F := Ideal) x0 x2 x3 x4 x5) (ix2 r c) = Cert.Math.hidden (inX x0 x1 x2 x3 x4 x5 x6 x7 x8 x9 x10 x11 x12 x13 x14 x15 x16 x17 x18 x19 x20 x21 x22 x23 x24 x25).x0 (inX x0 x1 x2 x3 x4 x5 x6 x7 x8 x9 x10 x11 x12 x13 x14 x15 x16 x17 x18 x19 x20 x21 x22 x23 x24 x25).Wa0 (inX x0 x1 x2 x3 x4 x5 x6 x7 x8 x9 x10 x11 x12 x13 x14 x15 x16 x17 x18 x19 x20 x21 x22 x23 x24 x25).ba0 (inX x0 x1 x2 x3 x4 x5 x6 x7 x8 x9 x10 x11 x12 x13 x14 x15 x16 x17 x18 x19 x20 x21 x22 x23 x24 x25).Wb0 (inX x0 x1 x2 x3 x4 x5 x6 x7 x8 x9 x10 x11 x12 x13 x14 x15 x16 x17 x18 x19 x20 x21 x22 x23 x24 x25).bb0 r c := by
  unfold Cert.Math.hidden relu dense mm inX mat vec
  pointwise [val_main_v0, val_main_v1, val_main_v2, val_main_v3, val_main_v4, val_main_v5, val_main_v6, val_main_v7, val_main_v8, val_main_v9, val_main_call0_cst, val_main_call0_v0, val_main_call1_cst, val_main_call1_v0]

theorem mu0_eq (r : Fin 4096) (c : Fin 128) : (val_main_v13 (F := Ideal) x0 x2 x3 x4 x5 x6 x7) (ix2 r c) = (inX x0 x1 x2 x3 x4 x5 x6 x7 x8 x9 x10 x11 x12 x13 x14 x15 x16 x17 x18 x19 x20 x21 x22 x23 x24 x25).mu0 r c := by
  unfold Inputs.mu0 dense mm
  pointwise [val_main_v10, val_main_v11, val_main_v12, val_main_v13, hid0 x0 x1 x2 x3 x4 x5 x6 x7 x8 x9 x10 x11 x12 x13 x14 x15 x16 x17 x18 x19 x20 x21 x22 x23 x24 x25]
  rfl

theorem lv0_eq (r : Fin 4096) (c : Fin 128) : (val_main_v17 (F := Ideal) x0 x2 x3 x4 x5 x8 x9) (ix2 r c) = (inX x0 x1 x2 x3 x4 x5 x6 x7 x8 x9 x10 x11 x12 x13 x14 x15 x16 x17 x18 x19 x20 x21 x22 x23 x24 x25).lv0 r c := by
  unfold Inputs.lv0 dense mm
  pointwise [val_main_v14, val_main_v15, val_main_v16, val_main_v17, hid0 x0 x1 x2 x3 x4 x5 x6 x7 x8 x9 x10 x11 x12 x13 x14 x15 x16 x17 x18 x19 x20 x21 x22 x23 x24 x25]
  rfl

theorem z0_eq (r : Fin 4096) (c : Fin 128) : (val_main_v40 (F := Ideal) x0 x2 x3 x4 x5 x6 x7 x8 x9 x24) (ix2 r c) = (inX x0 x1 x2 x3 x4 x5 x6 x7 x8 x9 x10 x11 x12 x13 x14 x15 x16 x17 x18 x19 x20 x21 x22 x23 x24 x25).z0 r c := by
  unfold Inputs.z0 sample half
  pointwise [val_main_cst, val_main_v36, val_main_v37, val_main_v38, val_main_v39, val_main_v40, mu0_eq x0 x1 x2 x3 x4 x5 x6 x7 x8 x9 x10 x11 x12 x13 x14 x15 x16 x17 x18 x19 x20 x21 x22 x23 x24 x25, lv0_eq x0 x1 x2 x3 x4 x5 x6 x7 x8 x9 x10 x11 x12 x13 x14 x15 x16 x17 x18 x19 x20 x21 x22 x23 x24 x25]
  rfl

theorem hid1 (r : Fin 4096) (c : Fin 256) : (val_main_v27 (F := Ideal) x1 x10 x11 x12 x13) (ix2 r c) = Cert.Math.hidden (inX x0 x1 x2 x3 x4 x5 x6 x7 x8 x9 x10 x11 x12 x13 x14 x15 x16 x17 x18 x19 x20 x21 x22 x23 x24 x25).x1 (inX x0 x1 x2 x3 x4 x5 x6 x7 x8 x9 x10 x11 x12 x13 x14 x15 x16 x17 x18 x19 x20 x21 x22 x23 x24 x25).Wa1 (inX x0 x1 x2 x3 x4 x5 x6 x7 x8 x9 x10 x11 x12 x13 x14 x15 x16 x17 x18 x19 x20 x21 x22 x23 x24 x25).ba1 (inX x0 x1 x2 x3 x4 x5 x6 x7 x8 x9 x10 x11 x12 x13 x14 x15 x16 x17 x18 x19 x20 x21 x22 x23 x24 x25).Wb1 (inX x0 x1 x2 x3 x4 x5 x6 x7 x8 x9 x10 x11 x12 x13 x14 x15 x16 x17 x18 x19 x20 x21 x22 x23 x24 x25).bb1 r c := by
  unfold Cert.Math.hidden relu dense mm inX mat vec
  pointwise [val_main_v18, val_main_v19, val_main_v20, val_main_v21, val_main_v22, val_main_v23, val_main_v24, val_main_v25, val_main_v26, val_main_v27, val_main_call2_cst, val_main_call2_v0, val_main_call3_cst, val_main_call3_v0]

theorem mu1_eq (r : Fin 4096) (c : Fin 128) : (val_main_v31 (F := Ideal) x1 x10 x11 x12 x13 x14 x15) (ix2 r c) = (inX x0 x1 x2 x3 x4 x5 x6 x7 x8 x9 x10 x11 x12 x13 x14 x15 x16 x17 x18 x19 x20 x21 x22 x23 x24 x25).mu1 r c := by
  unfold Inputs.mu1 dense mm
  pointwise [val_main_v28, val_main_v29, val_main_v30, val_main_v31, hid1 x0 x1 x2 x3 x4 x5 x6 x7 x8 x9 x10 x11 x12 x13 x14 x15 x16 x17 x18 x19 x20 x21 x22 x23 x24 x25]
  rfl

theorem lv1_eq (r : Fin 4096) (c : Fin 128) : (val_main_v35 (F := Ideal) x1 x10 x11 x12 x13 x16 x17) (ix2 r c) = (inX x0 x1 x2 x3 x4 x5 x6 x7 x8 x9 x10 x11 x12 x13 x14 x15 x16 x17 x18 x19 x20 x21 x22 x23 x24 x25).lv1 r c := by
  unfold Inputs.lv1 dense mm
  pointwise [val_main_v32, val_main_v33, val_main_v34, val_main_v35, hid1 x0 x1 x2 x3 x4 x5 x6 x7 x8 x9 x10 x11 x12 x13 x14 x15 x16 x17 x18 x19 x20 x21 x22 x23 x24 x25]
  rfl

theorem z1_eq (r : Fin 4096) (c : Fin 128) : (val_main_v45 (F := Ideal) x1 x10 x11 x12 x13 x14 x15 x16 x17 x25) (ix2 r c) = (inX x0 x1 x2 x3 x4 x5 x6 x7 x8 x9 x10 x11 x12 x13 x14 x15 x16 x17 x18 x19 x20 x21 x22 x23 x24 x25).z1 r c := by
  unfold Inputs.z1 sample half
  pointwise [val_main_cst_0, val_main_v41, val_main_v42, val_main_v43, val_main_v44, val_main_v45, mu1_eq x0 x1 x2 x3 x4 x5 x6 x7 x8 x9 x10 x11 x12 x13 x14 x15 x16 x17 x18 x19 x20 x21 x22 x23 x24 x25, lv1_eq x0 x1 x2 x3 x4 x5 x6 x7 x8 x9 x10 x11 x12 x13 x14 x15 x16 x17 x18 x19 x20 x21 x22 x23 x24 x25]
  rfl

theorem joint_eq (r : Fin 4096) (c : Fin 128) : (val_main_v48 (F := Ideal) x0 x1 x2 x3 x4 x5 x6 x7 x8 x9 x10 x11 x12 x13 x14 x15 x16 x17 x24 x25) (ix2 r c) = joint (inX x0 x1 x2 x3 x4 x5 x6 x7 x8 x9 x10 x11 x12 x13 x14 x15 x16 x17 x18 x19 x20 x21 x22 x23 x24 x25).z0 (inX x0 x1 x2 x3 x4 x5 x6 x7 x8 x9 x10 x11 x12 x13 x14 x15 x16 x17 x18 x19 x20 x21 x22 x23 x24 x25).z1 r c := by
  unfold joint half
  pointwise [val_main_v46, val_main_cst_1, val_main_v47, val_main_v48, z0_eq x0 x1 x2 x3 x4 x5 x6 x7 x8 x9 x10 x11 x12 x13 x14 x15 x16 x17 x18 x19 x20 x21 x22 x23 x24 x25, z1_eq x0 x1 x2 x3 x4 x5 x6 x7 x8 x9 x10 x11 x12 x13 x14 x15 x16 x17 x18 x19 x20 x21 x22 x23 x24 x25]

theorem g1_eq (r : Fin 4096) (c : Fin 64) : (val_main_v85 (F := Ideal) x0 x1 x2 x3 x4 x5 x6 x7 x8 x9 x10 x11 x12 x13 x14 x15 x16 x17 x18 x24 x25) (ix2 r c) = (inX x0 x1 x2 x3 x4 x5 x6 x7 x8 x9 x10 x11 x12 x13 x14 x15 x16 x17 x18 x19 x20 x21 x22 x23 x24 x25).g1 r c := by
  unfold Inputs.g1 mm
  pointwise [val_main_v85, joint_eq x0 x1 x2 x3 x4 x5 x6 x7 x8 x9 x10 x11 x12 x13 x14 x15 x16 x17 x18 x19 x20 x21 x22 x23 x24 x25]
  rfl

theorem adj_eq (r : Fin 4096) (c : Fin 4096) : (val_main_v67 (F := Ideal) x0 x1 x2 x3 x4 x5 x6 x7 x8 x9 x10 x11 x12 x13 x14 x15 x16 x17 x22 x23 x24 x25) (ix2 r c) = (adjR (inX x0 x1 x2 x3 x4 x5 x6 x7 x8 x9 x10 x11 x12 x13 x14 x15 x16 x17 x18 x19 x20 x21 x22 x23 x24 x25).t (inX x0 x1 x2 x3 x4 x5 x6 x7 x8 x9 x10 x11 x12 x13 x14 x15 x16 x17 x18 x19 x20 x21 x22 x23 x24 x25).th (inX x0 x1 x2 x3 x4 x5 x6 x7 x8 x9 x10 x11 x12 x13 x14 x15 x16 x17 x18 x19 x20 x21 x22 x23 x24 x25).z0 (inX x0 x1 x2 x3 x4 x5 x6 x7 x8 x9 x10 x11 x12 x13 x14 x15 x16 x17 x18 x19 x20 x21 x22 x23 x24 x25).z1) r c := by
  unfold adjR one half
  pointwise [val_main_v49, val_main_v50, val_main_v51, val_main_v52, val_main_v53, val_main_cst_2, val_main_v54, val_main_v55, val_main_v56, val_main_v57, val_main_v58, val_main_v59, val_main_v60, val_main_v61, val_main_v62, val_main_v63, val_main_cst_3, val_main_v64, val_main_v65, val_main_cst_4, val_main_v66, val_main_v67, z0_eq x0 x1 x2 x3 x4 x5 x6 x7 x8 x9 x10 x11 x12 x13 x14 x15 x16 x17 x18 x19 x20 x21 x22 x23 x24 x25, z1_eq x0 x1 x2 x3 x4 x5 x6 x7 x8 x9 x10 x11 x12 x13 x14 x15 x16 x17 x18 x19 x20 x21 x22 x23 x24 x25]
  rfl

theorem eye_eq (r : Fin 4096) (c : Fin 4096) : (val_main_v73 (F := Ideal)) (ix2 r c) = eye r c := by
  unfold eye
  pointwise [val_main_v68, val_main_v69, val_main_c, val_main_v70, val_main_v71, val_main_v72, val_main_v73]
  have e : IntOp.cmpi CmpIPredicate.eq (IntOp.addi (BitVec.ofNat 32 r.val) 0#32) (BitVec.ofNat 32 c.val) = if r = c then 1#1 else 0#1 := by
    have hr := r.isLt
    have hc := c.isLt
    have hi : BitVec.ofNat 32 r.val = BitVec.ofNat 32 c.val ↔ r = c := by
      refine ⟨fun h => ?_, fun h => by rw [h]⟩
      have h2 := congrArg BitVec.toNat h
      rw [BitVec.toNat_ofNat, BitVec.toNat_ofNat, Nat.mod_eq_of_lt (by omega), Nat.mod_eq_of_lt (by omega)] at h2
      exact Fin.ext h2
    by_cases h : r = c
    · subst h; simp [IntOp.cmpi, IntOp.addi]
    · have hne : (BitVec.ofNat 32 r.val == BitVec.ofNat 32 c.val) = false := by
        rw [beq_eq_false_iff_ne]; exact fun e => h (hi.mp e)
      simp [IntOp.cmpi, IntOp.addi, hne, h]
  rw [e]
  by_cases h : r = c
  · rw [if_pos h, if_pos h]; simp [FloatOps.uitofp]
  · rw [if_neg h, if_neg h]; simp [FloatOps.uitofp]

theorem deg_eq (r : Fin 4096) : (val_main_v75 (F := Ideal) x0 x1 x2 x3 x4 x5 x6 x7 x8 x9 x10 x11 x12 x13 x14 x15 x16 x17 x22 x23 x24 x25) (ix1 r) = degR (adjR (inX x0 x1 x2 x3 x4 x5 x6 x7 x8 x9 x10 x11 x12 x13 x14 x15 x16 x17 x18 x19 x20 x21 x22 x23 x24 x25).t (inX x0 x1 x2 x3 x4 x5 x6 x7 x8 x9 x10 x11 x12 x13 x14 x15 x16 x17 x18 x19 x20 x21 x22 x23 x24 x25).th (inX x0 x1 x2 x3 x4 x5 x6 x7 x8 x9 x10 x11 x12 x13 x14 x15 x16 x17 x18 x19 x20 x21 x22 x23 x24 x25).z0 (inX x0 x1 x2 x3 x4 x5 x6 x7 x8 x9 x10 x11 x12 x13 x14 x15 x16 x17 x18 x19 x20 x21 x22 x23 x24 x25).z1) r := by
  unfold degR
  pointwise [val_main_v74, val_main_cst_5, val_main_v75, adj_eq x0 x1 x2 x3 x4 x5 x6 x7 x8 x9 x10 x11 x12 x13 x14 x15 x16 x17 x18 x19 x20 x21 x22 x23 x24 x25, eye_eq]

theorem dinv_eq (r : Fin 4096) : (val_main_v78 (F := Ideal) x0 x1 x2 x3 x4 x5 x6 x7 x8 x9 x10 x11 x12 x13 x14 x15 x16 x17 x22 x23 x24 x25) (ix1 r) = dinvR (adjR (inX x0 x1 x2 x3 x4 x5 x6 x7 x8 x9 x10 x11 x12 x13 x14 x15 x16 x17 x18 x19 x20 x21 x22 x23 x24 x25).t (inX x0 x1 x2 x3 x4 x5 x6 x7 x8 x9 x10 x11 x12 x13 x14 x15 x16 x17 x18 x19 x20 x21 x22 x23 x24 x25).th (inX x0 x1 x2 x3 x4 x5 x6 x7 x8 x9 x10 x11 x12 x13 x14 x15 x16 x17 x18 x19 x20 x21 x22 x23 x24 x25).z0 (inX x0 x1 x2 x3 x4 x5 x6 x7 x8 x9 x10 x11 x12 x13 x14 x15 x16 x17 x18 x19 x20 x21 x22 x23 x24 x25).z1) r := by
  unfold dinvR one
  pointwise [val_main_v76, val_main_cst_6, val_main_v77, val_main_v78, deg_eq x0 x1 x2 x3 x4 x5 x6 x7 x8 x9 x10 x11 x12 x13 x14 x15 x16 x17 x18 x19 x20 x21 x22 x23 x24 x25]

theorem norm_eq (r : Fin 4096) (c : Fin 4096) : (val_main_v84 (F := Ideal) x0 x1 x2 x3 x4 x5 x6 x7 x8 x9 x10 x11 x12 x13 x14 x15 x16 x17 x22 x23 x24 x25) (ix2 r c) = normR (adjR (inX x0 x1 x2 x3 x4 x5 x6 x7 x8 x9 x10 x11 x12 x13 x14 x15 x16 x17 x18 x19 x20 x21 x22 x23 x24 x25).t (inX x0 x1 x2 x3 x4 x5 x6 x7 x8 x9 x10 x11 x12 x13 x14 x15 x16 x17 x18 x19 x20 x21 x22 x23 x24 x25).th (inX x0 x1 x2 x3 x4 x5 x6 x7 x8 x9 x10 x11 x12 x13 x14 x15 x16 x17 x18 x19 x20 x21 x22 x23 x24 x25).z0 (inX x0 x1 x2 x3 x4 x5 x6 x7 x8 x9 x10 x11 x12 x13 x14 x15 x16 x17 x18 x19 x20 x21 x22 x23 x24 x25).z1) r c := by
  unfold normR
  pointwise [val_main_v74, val_main_v79, val_main_v80, val_main_v81, val_main_v82, val_main_v83, val_main_v84, dinv_eq x0 x1 x2 x3 x4 x5 x6 x7 x8 x9 x10 x11 x12 x13 x14 x15 x16 x17 x18 x19 x20 x21 x22 x23 x24 x25, adj_eq x0 x1 x2 x3 x4 x5 x6 x7 x8 x9 x10 x11 x12 x13 x14 x15 x16 x17 x18 x19 x20 x21 x22 x23 x24 x25, eye_eq]

theorem layer1_eq (r : Fin 4096) (c : Fin 64) : (val_main_v90 (F := Ideal) x0 x1 x2 x3 x4 x5 x6 x7 x8 x9 x10 x11 x12 x13 x14 x15 x16 x17 x18 x19 x22 x23 x24 x25) (ix2 r c) = (relu (dense (normR (adjR (inX x0 x1 x2 x3 x4 x5 x6 x7 x8 x9 x10 x11 x12 x13 x14 x15 x16 x17 x18 x19 x20 x21 x22 x23 x24 x25).t (inX x0 x1 x2 x3 x4 x5 x6 x7 x8 x9 x10 x11 x12 x13 x14 x15 x16 x17 x18 x19 x20 x21 x22 x23 x24 x25).th (inX x0 x1 x2 x3 x4 x5 x6 x7 x8 x9 x10 x11 x12 x13 x14 x15 x16 x17 x18 x19 x20 x21 x22 x23 x24 x25).z0 (inX x0 x1 x2 x3 x4 x5 x6 x7 x8 x9 x10 x11 x12 x13 x14 x15 x16 x17 x18 x19 x20 x21 x22 x23 x24 x25).z1)) (inX x0 x1 x2 x3 x4 x5 x6 x7 x8 x9 x10 x11 x12 x13 x14 x15 x16 x17 x18 x19 x20 x21 x22 x23 x24 x25).g1 (inX x0 x1 x2 x3 x4 x5 x6 x7 x8 x9 x10 x11 x12 x13 x14 x15 x16 x17 x18 x19 x20 x21 x22 x23 x24 x25).bg1)) r c := by
  unfold relu dense mm
  pointwise [val_main_v86, val_main_v87, val_main_v88, val_main_v89, val_main_call4_cst, val_main_call4_v0, val_main_v90, norm_eq x0 x1 x2 x3 x4 x5 x6 x7 x8 x9 x10 x11 x12 x13 x14 x15 x16 x17 x18 x19 x20 x21 x22 x23 x24 x25, g1_eq x0 x1 x2 x3 x4 x5 x6 x7 x8 x9 x10 x11 x12 x13 x14 x15 x16 x17 x18 x19 x20 x21 x22 x23 x24 x25]
  rfl

theorem proj_eq (r : Fin 4096) (c : Fin 10) : (val_main_v91 (F := Ideal) x0 x1 x2 x3 x4 x5 x6 x7 x8 x9 x10 x11 x12 x13 x14 x15 x16 x17 x18 x19 x20 x22 x23 x24 x25) (ix2 r c) = mm (relu (dense (normR (adjR (inX x0 x1 x2 x3 x4 x5 x6 x7 x8 x9 x10 x11 x12 x13 x14 x15 x16 x17 x18 x19 x20 x21 x22 x23 x24 x25).t (inX x0 x1 x2 x3 x4 x5 x6 x7 x8 x9 x10 x11 x12 x13 x14 x15 x16 x17 x18 x19 x20 x21 x22 x23 x24 x25).th (inX x0 x1 x2 x3 x4 x5 x6 x7 x8 x9 x10 x11 x12 x13 x14 x15 x16 x17 x18 x19 x20 x21 x22 x23 x24 x25).z0 (inX x0 x1 x2 x3 x4 x5 x6 x7 x8 x9 x10 x11 x12 x13 x14 x15 x16 x17 x18 x19 x20 x21 x22 x23 x24 x25).z1)) (inX x0 x1 x2 x3 x4 x5 x6 x7 x8 x9 x10 x11 x12 x13 x14 x15 x16 x17 x18 x19 x20 x21 x22 x23 x24 x25).g1 (inX x0 x1 x2 x3 x4 x5 x6 x7 x8 x9 x10 x11 x12 x13 x14 x15 x16 x17 x18 x19 x20 x21 x22 x23 x24 x25).bg1)) (inX x0 x1 x2 x3 x4 x5 x6 x7 x8 x9 x10 x11 x12 x13 x14 x15 x16 x17 x18 x19 x20 x21 x22 x23 x24 x25).Wg2 r c := by
  unfold mm
  pointwise [val_main_v91, layer1_eq x0 x1 x2 x3 x4 x5 x6 x7 x8 x9 x10 x11 x12 x13 x14 x15 x16 x17 x18 x19 x20 x21 x22 x23 x24 x25]
  rfl

theorem out_eq (r : Fin 4096) (c : Fin 10) : (val_main_v95 (F := Ideal) x0 x1 x2 x3 x4 x5 x6 x7 x8 x9 x10 x11 x12 x13 x14 x15 x16 x17 x18 x19 x20 x21 x22 x23 x24 x25) (ix2 r c) = (dense (normR (adjR (inX x0 x1 x2 x3 x4 x5 x6 x7 x8 x9 x10 x11 x12 x13 x14 x15 x16 x17 x18 x19 x20 x21 x22 x23 x24 x25).t (inX x0 x1 x2 x3 x4 x5 x6 x7 x8 x9 x10 x11 x12 x13 x14 x15 x16 x17 x18 x19 x20 x21 x22 x23 x24 x25).th (inX x0 x1 x2 x3 x4 x5 x6 x7 x8 x9 x10 x11 x12 x13 x14 x15 x16 x17 x18 x19 x20 x21 x22 x23 x24 x25).z0 (inX x0 x1 x2 x3 x4 x5 x6 x7 x8 x9 x10 x11 x12 x13 x14 x15 x16 x17 x18 x19 x20 x21 x22 x23 x24 x25).z1)) (mm (relu (dense (normR (adjR (inX x0 x1 x2 x3 x4 x5 x6 x7 x8 x9 x10 x11 x12 x13 x14 x15 x16 x17 x18 x19 x20 x21 x22 x23 x24 x25).t (inX x0 x1 x2 x3 x4 x5 x6 x7 x8 x9 x10 x11 x12 x13 x14 x15 x16 x17 x18 x19 x20 x21 x22 x23 x24 x25).th (inX x0 x1 x2 x3 x4 x5 x6 x7 x8 x9 x10 x11 x12 x13 x14 x15 x16 x17 x18 x19 x20 x21 x22 x23 x24 x25).z0 (inX x0 x1 x2 x3 x4 x5 x6 x7 x8 x9 x10 x11 x12 x13 x14 x15 x16 x17 x18 x19 x20 x21 x22 x23 x24 x25).z1)) (inX x0 x1 x2 x3 x4 x5 x6 x7 x8 x9 x10 x11 x12 x13 x14 x15 x16 x17 x18 x19 x20 x21 x22 x23 x24 x25).g1 (inX x0 x1 x2 x3 x4 x5 x6 x7 x8 x9 x10 x11 x12 x13 x14 x15 x16 x17 x18 x19 x20 x21 x22 x23 x24 x25).bg1)) (inX x0 x1 x2 x3 x4 x5 x6 x7 x8 x9 x10 x11 x12 x13 x14 x15 x16 x17 x18 x19 x20 x21 x22 x23 x24 x25).Wg2) (inX x0 x1 x2 x3 x4 x5 x6 x7 x8 x9 x10 x11 x12 x13 x14 x15 x16 x17 x18 x19 x20 x21 x22 x23 x24 x25).bg2) r c := by
  unfold dense mm
  pointwise [val_main_v92, val_main_v93, val_main_v94, val_main_v95, norm_eq x0 x1 x2 x3 x4 x5 x6 x7 x8 x9 x10 x11 x12 x13 x14 x15 x16 x17 x18 x19 x20 x21 x22 x23 x24 x25, proj_eq x0 x1 x2 x3 x4 x5 x6 x7 x8 x9 x10 x11 x12 x13 x14 x15 x16 x17 x18 x19 x20 x21 x22 x23 x24 x25]
  rfl

theorem max_eq (r : Fin 4096) : (val_main_call5_v2 (F := Ideal) x0 x1 x2 x3 x4 x5 x6 x7 x8 x9 x10 x11 x12 x13 x14 x15 x16 x17 x18 x19 x20 x21 x22 x23 x24 x25) (ix1 r) = rowMax (dense (normR (adjR (inX x0 x1 x2 x3 x4 x5 x6 x7 x8 x9 x10 x11 x12 x13 x14 x15 x16 x17 x18 x19 x20 x21 x22 x23 x24 x25).t (inX x0 x1 x2 x3 x4 x5 x6 x7 x8 x9 x10 x11 x12 x13 x14 x15 x16 x17 x18 x19 x20 x21 x22 x23 x24 x25).th (inX x0 x1 x2 x3 x4 x5 x6 x7 x8 x9 x10 x11 x12 x13 x14 x15 x16 x17 x18 x19 x20 x21 x22 x23 x24 x25).z0 (inX x0 x1 x2 x3 x4 x5 x6 x7 x8 x9 x10 x11 x12 x13 x14 x15 x16 x17 x18 x19 x20 x21 x22 x23 x24 x25).z1)) (mm (relu (dense (normR (adjR (inX x0 x1 x2 x3 x4 x5 x6 x7 x8 x9 x10 x11 x12 x13 x14 x15 x16 x17 x18 x19 x20 x21 x22 x23 x24 x25).t (inX x0 x1 x2 x3 x4 x5 x6 x7 x8 x9 x10 x11 x12 x13 x14 x15 x16 x17 x18 x19 x20 x21 x22 x23 x24 x25).th (inX x0 x1 x2 x3 x4 x5 x6 x7 x8 x9 x10 x11 x12 x13 x14 x15 x16 x17 x18 x19 x20 x21 x22 x23 x24 x25).z0 (inX x0 x1 x2 x3 x4 x5 x6 x7 x8 x9 x10 x11 x12 x13 x14 x15 x16 x17 x18 x19 x20 x21 x22 x23 x24 x25).z1)) (inX x0 x1 x2 x3 x4 x5 x6 x7 x8 x9 x10 x11 x12 x13 x14 x15 x16 x17 x18 x19 x20 x21 x22 x23 x24 x25).g1 (inX x0 x1 x2 x3 x4 x5 x6 x7 x8 x9 x10 x11 x12 x13 x14 x15 x16 x17 x18 x19 x20 x21 x22 x23 x24 x25).bg1)) (inX x0 x1 x2 x3 x4 x5 x6 x7 x8 x9 x10 x11 x12 x13 x14 x15 x16 x17 x18 x19 x20 x21 x22 x23 x24 x25).Wg2) (inX x0 x1 x2 x3 x4 x5 x6 x7 x8 x9 x10 x11 x12 x13 x14 x15 x16 x17 x18 x19 x20 x21 x22 x23 x24 x25).bg2) r := by
  have hb : Ideal.ofBits .f32 4286578688#32 = (⊥ : EReal) := by simp [Ideal.ofBits, Ideal.ieee]
  unfold rowMax
  pointwise [val_main_call5_cst, val_main_call5_v0, val_main_call5_cst_0, val_main_call5_v1, val_main_call5_v2, out_eq x0 x1 x2 x3 x4 x5 x6 x7 x8 x9 x10 x11 x12 x13 x14 x15 x16 x17 x18 x19 x20 x21 x22 x23 x24 x25, hb]
  exact max_eq_right bot_le

theorem pred_eq (r : Fin 4096) (c : Fin 10) : (val_main_v96 (F := Ideal) x0 x1 x2 x3 x4 x5 x6 x7 x8 x9 x10 x11 x12 x13 x14 x15 x16 x17 x18 x19 x20 x21 x22 x23 x24 x25) (ix2 r c) = (inX x0 x1 x2 x3 x4 x5 x6 x7 x8 x9 x10 x11 x12 x13 x14 x15 x16 x17 x18 x19 x20 x21 x22 x23 x24 x25).predR r c := by
  unfold Inputs.predR logSoftmaxR
  pointwise [val_main_call5_v3, val_main_call5_v4, val_main_call5_v5, val_main_call5_v6, val_main_call5_cst_1, val_main_call5_v7, val_main_call5_v8, val_main_call5_v9, val_main_call5_v10, val_main_v96, max_eq x0 x1 x2 x3 x4 x5 x6 x7 x8 x9 x10 x11 x12 x13 x14 x15 x16 x17 x18 x19 x20 x21 x22 x23 x24 x25, out_eq x0 x1 x2 x3 x4 x5 x6 x7 x8 x9 x10 x11 x12 x13 x14 x15 x16 x17 x18 x19 x20 x21 x22 x23 x24 x25]

/-! ## After a run -/

variable (m : (ℓ : Loc nD τ sig) → Buf (Elt Ideal) ℓ)

/-- The launched arguments by row and column. -/
def inR (c : Dev nD) : Inputs :=
  inX (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))

/-- Every argument buffer is as launched. -/
def ArgsKept (c : Dev nD) (mem : (ℓ : Loc nD τ sig) → Buf (Elt Ideal) ℓ) : Prop :=
  mem ((c.tc : Thread nD τ).loc main_arg0) = m ((c.tc : Thread nD τ).loc main_arg0)
  ∧ mem ((c.tc : Thread nD τ).loc main_arg1) = m ((c.tc : Thread nD τ).loc main_arg1)
  ∧ mem ((c.tc : Thread nD τ).loc main_arg2) = m ((c.tc : Thread nD τ).loc main_arg2)
  ∧ mem ((c.tc : Thread nD τ).loc main_arg3) = m ((c.tc : Thread nD τ).loc main_arg3)
  ∧ mem ((c.tc : Thread nD τ).loc main_arg4) = m ((c.tc : Thread nD τ).loc main_arg4)
  ∧ mem ((c.tc : Thread nD τ).loc main_arg5) = m ((c.tc : Thread nD τ).loc main_arg5)
  ∧ mem ((c.tc : Thread nD τ).loc main_arg6) = m ((c.tc : Thread nD τ).loc main_arg6)
  ∧ mem ((c.tc : Thread nD τ).loc main_arg7) = m ((c.tc : Thread nD τ).loc main_arg7)
  ∧ mem ((c.tc : Thread nD τ).loc main_arg8) = m ((c.tc : Thread nD τ).loc main_arg8)
  ∧ mem ((c.tc : Thread nD τ).loc main_arg9) = m ((c.tc : Thread nD τ).loc main_arg9)
  ∧ mem ((c.tc : Thread nD τ).loc main_arg10) = m ((c.tc : Thread nD τ).loc main_arg10)
  ∧ mem ((c.tc : Thread nD τ).loc main_arg11) = m ((c.tc : Thread nD τ).loc main_arg11)
  ∧ mem ((c.tc : Thread nD τ).loc main_arg12) = m ((c.tc : Thread nD τ).loc main_arg12)
  ∧ mem ((c.tc : Thread nD τ).loc main_arg13) = m ((c.tc : Thread nD τ).loc main_arg13)
  ∧ mem ((c.tc : Thread nD τ).loc main_arg14) = m ((c.tc : Thread nD τ).loc main_arg14)
  ∧ mem ((c.tc : Thread nD τ).loc main_arg15) = m ((c.tc : Thread nD τ).loc main_arg15)
  ∧ mem ((c.tc : Thread nD τ).loc main_arg16) = m ((c.tc : Thread nD τ).loc main_arg16)
  ∧ mem ((c.tc : Thread nD τ).loc main_arg17) = m ((c.tc : Thread nD τ).loc main_arg17)
  ∧ mem ((c.tc : Thread nD τ).loc main_arg18) = m ((c.tc : Thread nD τ).loc main_arg18)
  ∧ mem ((c.tc : Thread nD τ).loc main_arg19) = m ((c.tc : Thread nD τ).loc main_arg19)
  ∧ mem ((c.tc : Thread nD τ).loc main_arg20) = m ((c.tc : Thread nD τ).loc main_arg20)
  ∧ mem ((c.tc : Thread nD τ).loc main_arg21) = m ((c.tc : Thread nD τ).loc main_arg21)
  ∧ mem ((c.tc : Thread nD τ).loc main_arg22) = m ((c.tc : Thread nD τ).loc main_arg22)
  ∧ mem ((c.tc : Thread nD τ).loc main_arg23) = m ((c.tc : Thread nD τ).loc main_arg23)
  ∧ mem ((c.tc : Thread nD τ).loc main_arg24) = m ((c.tc : Thread nD τ).loc main_arg24)
  ∧ mem ((c.tc : Thread nD τ).loc main_arg25) = m ((c.tc : Thread nD τ).loc main_arg25)

theorem run_results (ρ : Dev nD → PrngReg) :
    θ_run defs (onTc (τ := τ) (main (F := Ideal))) ⟨m, fun _ => 0, ρ⟩ (fun r => ∀ c : Dev nD,
      (r.2.mem ((c.tc : Thread nD τ).loc main_v96) = (fun i : S4096x10.Idx => (inR m c).predR (i 0) (i 1)))
      ∧ (r.2.mem ((c.tc : Thread nD τ).loc main_v13) = (fun i : S4096x128.Idx => (inR m c).mu0 (i 0) (i 1)))
      ∧ (r.2.mem ((c.tc : Thread nD τ).loc main_v31) = (fun i : S4096x128.Idx => (inR m c).mu1 (i 0) (i 1)))
      ∧ (r.2.mem ((c.tc : Thread nD τ).loc main_v17) = (fun i : S4096x128.Idx => (inR m c).lv0 (i 0) (i 1)))
      ∧ (r.2.mem ((c.tc : Thread nD τ).loc main_v35) = (fun i : S4096x128.Idx => (inR m c).lv1 (i 0) (i 1)))
      ∧ ArgsKept m c r.2.mem) := by
  refine (θ_run defs _ _).mono (fun r h c => ⟨?_, ?_, ?_, ?_, ?_, (h c).2.2.2.2.2⟩) (Cert.ReferenceIdeal.Value.run (F := Ideal) m ρ)
  · refine ((h c).1).trans ((val_main_v96_eq (launchContents m c)).trans (funext fun i => ?_))
    obtain ⟨p, q, rfl⟩ : ∃ (p : Fin 4096) (q : Fin 10), i = ix2 p q := ⟨i 0, i 1, eq_ix2 i⟩
    exact pred_eq (launchContents m c (Proc.devRef .tc main_arg0)) (launchContents m c (Proc.devRef .tc main_arg1)) (launchContents m c (Proc.devRef .tc main_arg2)) (launchContents m c (Proc.devRef .tc main_arg3)) (launchContents m c (Proc.devRef .tc main_arg4)) (launchContents m c (Proc.devRef .tc main_arg5)) (launchContents m c (Proc.devRef .tc main_arg6)) (launchContents m c (Proc.devRef .tc main_arg7)) (launchContents m c (Proc.devRef .tc main_arg8)) (launchContents m c (Proc.devRef .tc main_arg9)) (launchContents m c (Proc.devRef .tc main_arg10)) (launchContents m c (Proc.devRef .tc main_arg11)) (launchContents m c (Proc.devRef .tc main_arg12)) (launchContents m c (Proc.devRef .tc main_arg13)) (launchContents m c (Proc.devRef .tc main_arg14)) (launchContents m c (Proc.devRef .tc main_arg15)) (launchContents m c (Proc.devRef .tc main_arg16)) (launchContents m c (Proc.devRef .tc main_arg17)) (launchContents m c (Proc.devRef .tc main_arg18)) (launchContents m c (Proc.devRef .tc main_arg19)) (launchContents m c (Proc.devRef .tc main_arg20)) (launchContents m c (Proc.devRef .tc main_arg21)) (launchContents m c (Proc.devRef .tc main_arg22)) (launchContents m c (Proc.devRef .tc main_arg23)) (launchContents m c (Proc.devRef .tc main_arg24)) (launchContents m c (Proc.devRef .tc main_arg25)) p q
  · refine ((h c).2.1).trans ((val_main_v13_eq (launchContents m c)).trans (funext fun i => ?_))
    obtain ⟨p, q, rfl⟩ : ∃ (p : Fin 4096) (q : Fin 128), i = ix2 p q := ⟨i 0, i 1, eq_ix2 i⟩
    exact mu0_eq (launchContents m c (Proc.devRef .tc main_arg0)) (launchContents m c (Proc.devRef .tc main_arg1)) (launchContents m c (Proc.devRef .tc main_arg2)) (launchContents m c (Proc.devRef .tc main_arg3)) (launchContents m c (Proc.devRef .tc main_arg4)) (launchContents m c (Proc.devRef .tc main_arg5)) (launchContents m c (Proc.devRef .tc main_arg6)) (launchContents m c (Proc.devRef .tc main_arg7)) (launchContents m c (Proc.devRef .tc main_arg8)) (launchContents m c (Proc.devRef .tc main_arg9)) (launchContents m c (Proc.devRef .tc main_arg10)) (launchContents m c (Proc.devRef .tc main_arg11)) (launchContents m c (Proc.devRef .tc main_arg12)) (launchContents m c (Proc.devRef .tc main_arg13)) (launchContents m c (Proc.devRef .tc main_arg14)) (launchContents m c (Proc.devRef .tc main_arg15)) (launchContents m c (Proc.devRef .tc main_arg16)) (launchContents m c (Proc.devRef .tc main_arg17)) (launchContents m c (Proc.devRef .tc main_arg18)) (launchContents m c (Proc.devRef .tc main_arg19)) (launchContents m c (Proc.devRef .tc main_arg20)) (launchContents m c (Proc.devRef .tc main_arg21)) (launchContents m c (Proc.devRef .tc main_arg22)) (launchContents m c (Proc.devRef .tc main_arg23)) (launchContents m c (Proc.devRef .tc main_arg24)) (launchContents m c (Proc.devRef .tc main_arg25)) p q
  · refine ((h c).2.2.1).trans ((val_main_v31_eq (launchContents m c)).trans (funext fun i => ?_))
    obtain ⟨p, q, rfl⟩ : ∃ (p : Fin 4096) (q : Fin 128), i = ix2 p q := ⟨i 0, i 1, eq_ix2 i⟩
    exact mu1_eq (launchContents m c (Proc.devRef .tc main_arg0)) (launchContents m c (Proc.devRef .tc main_arg1)) (launchContents m c (Proc.devRef .tc main_arg2)) (launchContents m c (Proc.devRef .tc main_arg3)) (launchContents m c (Proc.devRef .tc main_arg4)) (launchContents m c (Proc.devRef .tc main_arg5)) (launchContents m c (Proc.devRef .tc main_arg6)) (launchContents m c (Proc.devRef .tc main_arg7)) (launchContents m c (Proc.devRef .tc main_arg8)) (launchContents m c (Proc.devRef .tc main_arg9)) (launchContents m c (Proc.devRef .tc main_arg10)) (launchContents m c (Proc.devRef .tc main_arg11)) (launchContents m c (Proc.devRef .tc main_arg12)) (launchContents m c (Proc.devRef .tc main_arg13)) (launchContents m c (Proc.devRef .tc main_arg14)) (launchContents m c (Proc.devRef .tc main_arg15)) (launchContents m c (Proc.devRef .tc main_arg16)) (launchContents m c (Proc.devRef .tc main_arg17)) (launchContents m c (Proc.devRef .tc main_arg18)) (launchContents m c (Proc.devRef .tc main_arg19)) (launchContents m c (Proc.devRef .tc main_arg20)) (launchContents m c (Proc.devRef .tc main_arg21)) (launchContents m c (Proc.devRef .tc main_arg22)) (launchContents m c (Proc.devRef .tc main_arg23)) (launchContents m c (Proc.devRef .tc main_arg24)) (launchContents m c (Proc.devRef .tc main_arg25)) p q
  · refine ((h c).2.2.2.1).trans ((val_main_v17_eq (launchContents m c)).trans (funext fun i => ?_))
    obtain ⟨p, q, rfl⟩ : ∃ (p : Fin 4096) (q : Fin 128), i = ix2 p q := ⟨i 0, i 1, eq_ix2 i⟩
    exact lv0_eq (launchContents m c (Proc.devRef .tc main_arg0)) (launchContents m c (Proc.devRef .tc main_arg1)) (launchContents m c (Proc.devRef .tc main_arg2)) (launchContents m c (Proc.devRef .tc main_arg3)) (launchContents m c (Proc.devRef .tc main_arg4)) (launchContents m c (Proc.devRef .tc main_arg5)) (launchContents m c (Proc.devRef .tc main_arg6)) (launchContents m c (Proc.devRef .tc main_arg7)) (launchContents m c (Proc.devRef .tc main_arg8)) (launchContents m c (Proc.devRef .tc main_arg9)) (launchContents m c (Proc.devRef .tc main_arg10)) (launchContents m c (Proc.devRef .tc main_arg11)) (launchContents m c (Proc.devRef .tc main_arg12)) (launchContents m c (Proc.devRef .tc main_arg13)) (launchContents m c (Proc.devRef .tc main_arg14)) (launchContents m c (Proc.devRef .tc main_arg15)) (launchContents m c (Proc.devRef .tc main_arg16)) (launchContents m c (Proc.devRef .tc main_arg17)) (launchContents m c (Proc.devRef .tc main_arg18)) (launchContents m c (Proc.devRef .tc main_arg19)) (launchContents m c (Proc.devRef .tc main_arg20)) (launchContents m c (Proc.devRef .tc main_arg21)) (launchContents m c (Proc.devRef .tc main_arg22)) (launchContents m c (Proc.devRef .tc main_arg23)) (launchContents m c (Proc.devRef .tc main_arg24)) (launchContents m c (Proc.devRef .tc main_arg25)) p q
  · refine ((h c).2.2.2.2.1).trans ((val_main_v35_eq (launchContents m c)).trans (funext fun i => ?_))
    obtain ⟨p, q, rfl⟩ : ∃ (p : Fin 4096) (q : Fin 128), i = ix2 p q := ⟨i 0, i 1, eq_ix2 i⟩
    exact lv1_eq (launchContents m c (Proc.devRef .tc main_arg0)) (launchContents m c (Proc.devRef .tc main_arg1)) (launchContents m c (Proc.devRef .tc main_arg2)) (launchContents m c (Proc.devRef .tc main_arg3)) (launchContents m c (Proc.devRef .tc main_arg4)) (launchContents m c (Proc.devRef .tc main_arg5)) (launchContents m c (Proc.devRef .tc main_arg6)) (launchContents m c (Proc.devRef .tc main_arg7)) (launchContents m c (Proc.devRef .tc main_arg8)) (launchContents m c (Proc.devRef .tc main_arg9)) (launchContents m c (Proc.devRef .tc main_arg10)) (launchContents m c (Proc.devRef .tc main_arg11)) (launchContents m c (Proc.devRef .tc main_arg12)) (launchContents m c (Proc.devRef .tc main_arg13)) (launchContents m c (Proc.devRef .tc main_arg14)) (launchContents m c (Proc.devRef .tc main_arg15)) (launchContents m c (Proc.devRef .tc main_arg16)) (launchContents m c (Proc.devRef .tc main_arg17)) (launchContents m c (Proc.devRef .tc main_arg18)) (launchContents m c (Proc.devRef .tc main_arg19)) (launchContents m c (Proc.devRef .tc main_arg20)) (launchContents m c (Proc.devRef .tc main_arg21)) (launchContents m c (Proc.devRef .tc main_arg22)) (launchContents m c (Proc.devRef .tc main_arg23)) (launchContents m c (Proc.devRef .tc main_arg24)) (launchContents m c (Proc.devRef .tc main_arg25)) p q

end Cert.ReferenceIdeal.Hand

end
-- ==== Proof.Ideal.Pay.lean ====
/-
  What each value stored by the kernel's body is, entry by entry, in the terms of the mathematics.
-/
module

public import proofs.«01_k».proof.Proof.Gen.KernelIdeal.Skeleton
public import proofs.«01_k».proof.Proof.Math.Gcn
public import Idealize.ShloMosaic.Lib.Pointwise

@[expose] public section

set_option maxRecDepth 16384

noncomputable section

namespace Cert.KernelIdeal.Hand

open Cert.KernelIdeal Cert.KernelIdeal.Gen Cert.Math
open Idealize.ShloMosaic
open scoped BigOperators

/-- An array of two axes by row and column. -/
abbrev mat {M N : ℕ} (X : (⟨2, ![M, N]⟩ : Shape).Idx → EReal) : Mat M N := fun r c => X (ix2 r c)

/-- An array of one row by column. -/
abbrev row {N : ℕ} (X : (⟨2, ![1, N]⟩ : Shape).Idx → EReal) : Fin N → EReal := fun c => X (ix2 0 c)

theorem pay9_apply (v14 : Vec Ideal S512x512 .f32) (v15 : Vec Ideal S512x256 .f32) (v16 : Vec Ideal S1x256 .f32) (v18 : Vec Ideal S256x256 .f32) (v19 : Vec Ideal S1x256 .f32) (r : Fin 512) (c : Fin 256) :
    k0_pay9 v14 v15 v16 v18 v19 (ix2 r c) = Cert.Math.hidden (mat v14) (mat v15) (row v16) (mat v18) (row v19) r c := by
  unfold Cert.Math.hidden relu dense mm
  pointwise [k0_pay9]

theorem pay12_eq (v14 : Vec Ideal S512x512 .f32) (v15 : Vec Ideal S512x256 .f32) (v16 : Vec Ideal S1x256 .f32) (v18 : Vec Ideal S256x256 .f32) (v19 : Vec Ideal S1x256 .f32) :
    k0_pay12 v14 v15 v16 v18 v19 = k0_pay9 v14 v15 v16 v18 v19 := rfl

theorem pay10_apply (v14 : Vec Ideal S512x512 .f32) (v15 : Vec Ideal S512x256 .f32) (v16 : Vec Ideal S1x256 .f32) (v18 : Vec Ideal S256x256 .f32) (v19 : Vec Ideal S1x256 .f32) (v21 : Vec Ideal S256x128 .f32) (v22 : Vec Ideal S1x128 .f32) (r : Fin 512) (c : Fin 128) :
    k0_pay10 v14 v15 v16 v18 v19 v21 v22 (ix2 r c) = dense (Cert.Math.hidden (mat v14) (mat v15) (row v16) (mat v18) (row v19)) (mat v21) (row v22) r c := by
  unfold dense mm
  pointwise [k0_pay10, pay9_apply]

theorem pay1_apply (mu lv : FVec Ideal S512x128 .f32) (eps : Vec Ideal S512x128 .f32) (r : Fin 512) (c : Fin 128) :
    k0_pay1 mu lv eps (ix2 r c) = sample (mat mu) (mat lv) (mat eps) r c := by
  unfold sample half
  pointwise [k0_pay1]

theorem pay2_apply (mu lv z : FVec Ideal S512x128 .f32) (eps : Vec Ideal S512x128 .f32) (r : Fin 512) (c : Fin 256) :
    k0_pay2 mu lv z eps (ix2 r c) = wide (mat z) (mat (k0_pay1 mu lv eps)) r c := by
  have hs : Named.named (F := Ideal) κ "s" (φ := .f32) 1060439283#32 = ((Real.sqrt (1 / 2) : ℝ) : EReal) := rfl
  unfold wide
  pointwise [k0_pay2]
  rw [hs]

theorem pay3_apply (mu lv z : FVec Ideal S512x128 .f32) (eps : Vec Ideal S512x128 .f32) (Wg : Vec Ideal S128x64 .f32) (r : Fin 512) (c : Fin 64) :
    k0_pay3 mu lv z eps Wg (ix2 r c) = mm (joint (mat z) (mat (k0_pay1 mu lv eps))) (mat Wg) r c := by
  unfold mm joint half
  pointwise [k0_pay3]

theorem pay32_apply (t th : EReal) (wi : Vec Ideal S512x256 .bf16) (wj : Vec Ideal S2048x256 .bf16) (r : Fin 512) (c : Fin 2048) :
    k0_pay32 (F := Ideal) t th wi wj (ix2 r c) = half * Ideal.tanh ((half * t) * ((∑ k, wi (ix2 r k) * wj (ix2 c k)) + th)) + half := by
  unfold half
  pointwise [k0_pay32]

theorem pay33_apply (t th : EReal) (wi : Vec Ideal S512x256 .bf16) (wj : Vec Ideal S2048x256 .bf16) (r : Fin 512) (c : Fin 2048) :
    k0_pay33 (F := Ideal) t th wi wj (ix2 r c) = k0_pay32 (F := Ideal) t th wi wj (ix2 r c) := by
  pointwise [k0_pay33]

theorem pay37_apply (t th : EReal) (wi : Vec Ideal S512x256 .bf16) (wj wj' : Vec Ideal S2048x256 .bf16) (r : Fin 512) :
    k0_pay37 (F := Ideal) t th wi (k0_pay34 (F := Ideal) t th wi wj) wj' (ix2 r 0)
      = (one + ∑ c, k0_pay32 (F := Ideal) t th wi wj (ix2 r c)) + ∑ c, k0_pay32 (F := Ideal) t th wi wj' (ix2 r c) := by
  have e : k0_pay35 (F := Ideal) t th wi wj' = k0_pay32 (F := Ideal) t th wi wj' := rfl
  unfold one
  pointwise [k0_pay37, k0_pay34, e]

theorem pay69_apply (g : Vec Ideal S4096x64 .f32) (rs : Vec Ideal S4096x1 .f32) (r : Fin 4096) (c : Fin 64) :
    k0_pay69 (F := Ideal) g rs (ix2 r c) = g (ix2 r c) * Ideal.rsqrt (rs (ix2 r 0)) := by
  pointwise [k0_pay69]

theorem pay78_apply (xs : FVec Ideal S4096x64 .bf16) (a : Vec Ideal S512x4096 .bf16) (rs : Vec Ideal S512x1 .f32) (g : Vec Ideal S512x64 .f32) (b : Vec Ideal S1x64 .f32) (W : Vec Ideal S64x10 .f32) (r : Fin 512) (c : Fin 10) :
    k0_pay78 (F := Ideal) xs a rs g b W (ix2 r c)
      = Ideal.rsqrt (rs (ix2 r 0)) * ∑ f, max (Ideal.rsqrt (rs (ix2 r 0)) * ((∑ k, a (ix2 r k) * xs (ix2 k f)) + g (ix2 r f) * Ideal.rsqrt (rs (ix2 r 0))) + b (ix2 0 f)) 0 * W (ix2 f c) := by
  pointwise [k0_pay78]

theorem pay88_eq (z : Vec Ideal S4096x10 .f32) : k0_pay88 (F := Ideal) z = z := by
  funext j
  pointwise [k0_pay88]

/-- The logits of one block of rows. -/
def blockOut (z : Mat 4096 10) (a : Mat 512 4096) (zi : Mat 512 10) (rs : Fin 512 → EReal) (b : Fin 10 → EReal) : Mat 512 10 := fun r c =>
  Ideal.rsqrt (rs r) * ((∑ k, a r k * z k c) + zi r c) + b c

theorem pay89_apply (z : Vec Ideal S4096x10 .f32) (a : Vec Ideal S512x4096 .bf16) (zi : Vec Ideal S512x10 .f32) (rs : Vec Ideal S512x1 .f32) (b : Vec Ideal S1x10 .f32) (r : Fin 512) (c : Fin 10) :
    k0_pay89 (F := Ideal) z a zi rs b (ix2 r c)
      = blockOut (mat z) (mat a) (mat zi) (fun r => rs (ix2 r 0)) (row b) r c
        - (Ideal.log (∑ j, Ideal.exp (blockOut (mat z) (mat a) (mat zi) (fun r => rs (ix2 r 0)) (row b) r j - Finset.univ.fold max ⊥ (blockOut (mat z) (mat a) (mat zi) (fun r => rs (ix2 r 0)) (row b) r)))
          + Finset.univ.fold max ⊥ (blockOut (mat z) (mat a) (mat zi) (fun r => rs (ix2 r 0)) (row b) r)) := by
  have hb : Ideal.ofBits .f32 4286578688#32 = (⊥ : EReal) := by simp [Ideal.ofBits, Ideal.ieee]
  unfold blockOut
  pointwise [k0_pay89, pay88_eq]
  rw [hb]

end Cert.KernelIdeal.Hand

end
-- ==== Proof.Ideal.Val.lean ====
/-
  How a part of a buffer reads, and how a buffer reads that a list of tiles has been stored over.
-/
module

public import proofs.«01_k».proof.Proof.Ideal.Track
public import proofs.«01_k».proof.Proof.Ideal.Pay
public import Idealize.ShloMosaic.Lib.Pipeline.ValueKit.Tiles

@[expose] public section

set_option maxRecDepth 16384

noncomputable section

namespace Cert.KernelIdeal.Hand

open Cert.KernelIdeal Cert.KernelIdeal.Gen Cert.Math
open Idealize.ShloMosaic Idealize.ShloMosaic.TcCoe
open scoped BigOperators

/-- What a load of the rectangle at `off` reads of a buffer that holds `X`. -/
def part {sp : Space} {s : Shape} {e : EltTy} (M : Memref sig .tc sp s e) (h : M.IsWhole) (X : s.Idx → Elt Ideal e) (off size : Fin s.rank → ℕ)
    (inb : ∀ a, off a + size a ≤ s.size a) : (⟨s.rank, size⟩ : Shape).Idx → Elt Ideal e :=
  View.readAt (Elt Ideal) M.view (Rect.unit off size inb).toLoadRect (h.unread X)

theorem part_apply {sp : Space} {s : Shape} {e : EltTy} (M : Memref sig .tc sp s e) (h : M.IsWhole) (X : s.Idx → Elt Ideal e) (off size : Fin s.rank → ℕ)
    (inb : ∀ a, off a + size a ≤ s.size a) (x : (⟨s.rank, size⟩ : Shape).Idx) (i : s.Idx) (hi : ∀ a, (i a : ℕ) = off a + x a) :
    part M h X off size inb x = X i := by
  show M.view.read (Elt Ideal) (h.unread X) ((Rect.unit off size inb).idx x) = X i
  rw [h.read_unread X]
  exact congrArg X (funext fun a => Fin.ext ((Rect.idx_unit_val off size inb x a).trans (hi a).symm))

/-- A load of `M` rows and `N` columns at row `o` and column `p`, by row and column. -/
theorem part2 {sp : Space} {e : EltTy} {P Q m n : ℕ} (M : Memref sig .tc sp ⟨2, ![P, Q]⟩ e) (h : M.IsWhole) (X : (⟨2, ![P, Q]⟩ : Shape).Idx → Elt Ideal e) (o p : ℕ)
    (inb : ∀ a, (![o, p] : Fin 2 → ℕ) a + (![m, n] : Fin 2 → ℕ) a ≤ (⟨2, ![P, Q]⟩ : Shape).size a) (r : Fin m) (c : Fin n) (r' : Fin P) (c' : Fin Q)
    (hr : r'.val = o + r.val) (hc : c'.val = p + c.val) : part M h X ![o, p] ![m, n] inb (ix2 r c) = X (ix2 r' c') := by
  refine part_apply M h X ![o, p] ![m, n] inb (ix2 r c) (ix2 r' c') fun a => ?_
  match a with
  | ⟨0, _⟩ => exact hr
  | ⟨1, _⟩ => exact hc

/-- A load of the whole buffer reads what it holds. -/
theorem part_whole {sp : Space} {e : EltTy} {P Q : ℕ} (M : Memref sig .tc sp ⟨2, ![P, Q]⟩ e) (h : M.IsWhole) (X : (⟨2, ![P, Q]⟩ : Shape).Idx → Elt Ideal e)
    (inb : ∀ a, (![0, 0] : Fin 2 → ℕ) a + (![P, Q] : Fin 2 → ℕ) a ≤ (⟨2, ![P, Q]⟩ : Shape).size a) : part M h X ![0, 0] ![P, Q] inb = X := by
  funext x
  refine part_apply M h X ![0, 0] ![P, Q] inb x x fun a => ?_
  match a with
  | ⟨0, _⟩ => exact (Nat.zero_add _).symm
  | ⟨1, _⟩ => exact (Nat.zero_add _).symm

/-- The pieces that cover a buffer leave each entry at the value every piece over it agrees on. -/
theorem over_eq {sp : Space} {s : Shape} {e : EltTy} (M : Memref sig .tc sp s e) (h : M.IsWhole) (X : s.Idx → Elt Ideal e) (L : List (View.Piece (Elt Ideal) s e))
    (G : s.Idx → Elt Ideal e) (hc : ∀ y, ∃ p ∈ L, y ∈ p.1.set) (hL : ∀ p ∈ L, ∀ x, p.2 x = G (p.1.emb x)) : over M h X L = G := by
  funext y
  refine (View.read_writes_apply_eq_canon _ _ _ _ (hc y)).trans (View.canon_eq_of_allAt L y (G y) (hc y) fun p hp x hx => ?_)
  rw [hL p hp x, hx]

theorem ix2_eta {m n : ℕ} (x : (⟨2, ![m, n]⟩ : Shape).Idx) : x = ix2 (x 0) (x 1) := by
  funext a
  match a with
  | ⟨0, _⟩ => rfl
  | ⟨1, _⟩ => rfl

theorem forall_ix2 {m n : ℕ} {p : (⟨2, ![m, n]⟩ : Shape).Idx → Prop} (h : ∀ r c, p (ix2 r c)) (x : (⟨2, ![m, n]⟩ : Shape).Idx) : p x :=
  ix2_eta x ▸ h (x 0) (x 1)

/-- An index of a tile at row `o` and column `p`, in the buffer. -/
theorem emb2 {P Q m n : ℕ} (o p : ℕ) (inb : ∀ a, (![o, p] : Fin 2 → ℕ) a + (![m, n] : Fin 2 → ℕ) a ≤ (⟨2, ![P, Q]⟩ : Shape).size a) (r : Fin m) (c : Fin n) (r' : Fin P) (c' : Fin Q)
    (hr : r'.val = o + r.val) (hc : c'.val = p + c.val) : (Rect.unit (s := ⟨2, ![P, Q]⟩) ![o, p] ![m, n] inb).emb (ix2 r c) = ix2 r' c' := by
  funext a
  refine Fin.ext (((Rect.emb_apply _ _ _).trans (by show _ = (![o, p] : Fin 2 → ℕ) a + 1 * (ix2 r c a).val; rfl)).trans ?_)
  match a with
  | ⟨0, _⟩ => show o + 1 * r.val = r'.val; omega
  | ⟨1, _⟩ => show p + 1 * c.val = c'.val; omega

end Cert.KernelIdeal.Hand

end
-- ==== Proof.Ideal.Blocks.lean ====
/-
  What each input window's block holds at a point, by the launched arguments.
-/
module

public import proofs.«01_k».proof.Proof.Ideal.Val
public import proofs.«01_k».proof.Proof.Math.Spec
public import Idealize.ShloMosaic.Lib.StableHlo.RunRead

@[expose] public section

set_option maxRecDepth 16384

noncomputable section

namespace Cert.KernelIdeal.Hand

open Cert.KernelIdeal Cert.KernelIdeal.Gen Cert.Math
open Idealize.ShloMosaic Idealize.ShloMosaic.TcCoe
open Idealize.ShloMosaic.Pipeline (RDat)

variable (m : (ℓ : Loc nD τ sig) → Buf (Elt Ideal) ℓ)

/-- A launched array of one axis by position. -/
abbrev vec1 {N : ℕ} (X : (⟨1, ![N]⟩ : Shape).Idx → EReal) : Fin N → EReal := fun c => X (ix1 c)

/-- Block `i` of 512 rows. -/
def sub {N : ℕ} (X : Mat 4096 N) (i : ℕ) (hi : i < 8) : Mat 512 N := fun r k => X ⟨512 * i + r.val, by have := r.isLt; omega⟩ k

theorem min7 (n : ℕ) : min n 7 < 8 := by omega

/-- The launched arguments. -/
def inK (c : Dev nD) : Inputs where
  x0 := mat (M := 4096) (N := 512) (m ((c : Thread nD τ).loc main_arg0))
  x1 := mat (M := 4096) (N := 512) (m ((c : Thread nD τ).loc main_arg1))
  eps0 := mat (M := 4096) (N := 128) (m ((c : Thread nD τ).loc main_arg24))
  eps1 := mat (M := 4096) (N := 128) (m ((c : Thread nD τ).loc main_arg25))
  Wa0 := mat (M := 512) (N := 256) (m ((c : Thread nD τ).loc main_arg2))
  ba0 := vec1 (N := 256) (m ((c : Thread nD τ).loc main_arg3))
  Wb0 := mat (M := 256) (N := 256) (m ((c : Thread nD τ).loc main_arg4))
  bb0 := vec1 (N := 256) (m ((c : Thread nD τ).loc main_arg5))
  Wmu0 := mat (M := 256) (N := 128) (m ((c : Thread nD τ).loc main_arg6))
  bmu0 := vec1 (N := 128) (m ((c : Thread nD τ).loc main_arg7))
  Wlv0 := mat (M := 256) (N := 128) (m ((c : Thread nD τ).loc main_arg8))
  blv0 := vec1 (N := 128) (m ((c : Thread nD τ).loc main_arg9))
  Wa1 := mat (M := 512) (N := 256) (m ((c : Thread nD τ).loc main_arg10))
  ba1 := vec1 (N := 256) (m ((c : Thread nD τ).loc main_arg11))
  Wb1 := mat (M := 256) (N := 256) (m ((c : Thread nD τ).loc main_arg12))
  bb1 := vec1 (N := 256) (m ((c : Thread nD τ).loc main_arg13))
  Wmu1 := mat (M := 256) (N := 128) (m ((c : Thread nD τ).loc main_arg14))
  bmu1 := vec1 (N := 128) (m ((c : Thread nD τ).loc main_arg15))
  Wlv1 := mat (M := 256) (N := 128) (m ((c : Thread nD τ).loc main_arg16))
  blv1 := vec1 (N := 128) (m ((c : Thread nD τ).loc main_arg17))
  Wg1 := mat (M := 128) (N := 64) (m ((c : Thread nD τ).loc main_arg18))
  bg1 := vec1 (N := 64) (m ((c : Thread nD τ).loc main_arg19))
  Wg2 := mat (M := 64) (N := 10) (m ((c : Thread nD τ).loc main_arg20))
  bg2 := vec1 (N := 10) (m ((c : Thread nD τ).loc main_arg21))
  t := m ((c : Thread nD τ).loc main_arg22) (ix1 (n0 := 1) 0)
  th := m ((c : Thread nD τ).loc main_arg23) (ix1 (n0 := 1) 0)

/-! ## The reshaped arguments -/

theorem V_main_v0 (c : Dev nD) (k : Fin 1) : V m c main_v0 (ix2 (n0 := 1) (n1 := 1) 0 k) = m ((c : Thread nD τ).loc main_arg22) (ix1 k) := by
  obtain rfl : k = 0 := Subsingleton.elim _ _
  have h : V m c main_v0 = _ := StableHlo.after_last_write (i := 0) [main_v1, main_v2, main_v3, main_v4, main_v5, main_v6, main_v7, main_v8, main_v9, main_v10, main_v11] (r := main_v0) (rfl : hostOps0.drop 0 = _ :: _) rfl (by decide) _
  rw [h, StableHlo.reshape_result]
  rw [StableHlo.upto_unwritten [] rfl (by decide)]
  show shapeCast S1x1 (m ((c : Thread nD τ).loc main_arg22)) shapeCasts_S1_S1x1 (ix2 0 0) = _
  pointwise []

theorem V_main_v1 (c : Dev nD) (k : Fin 1) : V m c main_v1 (ix2 (n0 := 1) (n1 := 1) 0 k) = m ((c : Thread nD τ).loc main_arg23) (ix1 k) := by
  obtain rfl : k = 0 := Subsingleton.elim _ _
  have h : V m c main_v1 = _ := StableHlo.after_last_write (i := 1) [main_v2, main_v3, main_v4, main_v5, main_v6, main_v7, main_v8, main_v9, main_v10, main_v11] (r := main_v1) (rfl : hostOps0.drop 1 = _ :: _) rfl (by decide) _
  rw [h, StableHlo.reshape_result]
  rw [StableHlo.upto_unwritten [main_v0] rfl (by decide)]
  show shapeCast S1x1 (m ((c : Thread nD τ).loc main_arg23)) shapeCasts_S1_S1x1 (ix2 0 0) = _
  pointwise []

theorem V_main_v2 (c : Dev nD) (k : Fin 256) : V m c main_v2 (ix2 (n0 := 1) (n1 := 256) 0 k) = m ((c : Thread nD τ).loc main_arg3) (ix1 k) := by
  have h : V m c main_v2 = _ := StableHlo.after_last_write (i := 2) [main_v3, main_v4, main_v5, main_v6, main_v7, main_v8, main_v9, main_v10, main_v11] (r := main_v2) (rfl : hostOps0.drop 2 = _ :: _) rfl (by decide) _
  rw [h, StableHlo.reshape_result]
  rw [StableHlo.upto_unwritten [main_v0, main_v1] rfl (by decide)]
  show shapeCast S1x256 (m ((c : Thread nD τ).loc main_arg3)) shapeCasts_S256_S1x256 (ix2 0 k) = _
  pointwise []

theorem V_main_v3 (c : Dev nD) (k : Fin 256) : V m c main_v3 (ix2 (n0 := 1) (n1 := 256) 0 k) = m ((c : Thread nD τ).loc main_arg5) (ix1 k) := by
  have h : V m c main_v3 = _ := StableHlo.after_last_write (i := 3) [main_v4, main_v5, main_v6, main_v7, main_v8, main_v9, main_v10, main_v11] (r := main_v3) (rfl : hostOps0.drop 3 = _ :: _) rfl (by decide) _
  rw [h, StableHlo.reshape_result]
  rw [StableHlo.upto_unwritten [main_v0, main_v1, main_v2] rfl (by decide)]
  show shapeCast S1x256 (m ((c : Thread nD τ).loc main_arg5)) shapeCasts_S256_S1x256 (ix2 0 k) = _
  pointwise []

theorem V_main_v4 (c : Dev nD) (k : Fin 128) : V m c main_v4 (ix2 (n0 := 1) (n1 := 128) 0 k) = m ((c : Thread nD τ).loc main_arg7) (ix1 k) := by
  have h : V m c main_v4 = _ := StableHlo.after_last_write (i := 4) [main_v5, main_v6, main_v7, main_v8, main_v9, main_v10, main_v11] (r := main_v4) (rfl : hostOps0.drop 4 = _ :: _) rfl (by decide) _
  rw [h, StableHlo.reshape_result]
  rw [StableHlo.upto_unwritten [main_v0, main_v1, main_v2, main_v3] rfl (by decide)]
  show shapeCast S1x128 (m ((c : Thread nD τ).loc main_arg7)) shapeCasts_S128_S1x128 (ix2 0 k) = _
  pointwise []

theorem V_main_v5 (c : Dev nD) (k : Fin 128) : V m c main_v5 (ix2 (n0 := 1) (n1 := 128) 0 k) = m ((c : Thread nD τ).loc main_arg9) (ix1 k) := by
  have h : V m c main_v5 = _ := StableHlo.after_last_write (i := 5) [main_v6, main_v7, main_v8, main_v9, main_v10, main_v11] (r := main_v5) (rfl : hostOps0.drop 5 = _ :: _) rfl (by decide) _
  rw [h, StableHlo.reshape_result]
  rw [StableHlo.upto_unwritten [main_v0, main_v1, main_v2, main_v3, main_v4] rfl (by decide)]
  show shapeCast S1x128 (m ((c : Thread nD τ).loc main_arg9)) shapeCasts_S128_S1x128 (ix2 0 k) = _
  pointwise []

theorem V_main_v6 (c : Dev nD) (k : Fin 256) : V m c main_v6 (ix2 (n0 := 1) (n1 := 256) 0 k) = m ((c : Thread nD τ).loc main_arg11) (ix1 k) := by
  have h : V m c main_v6 = _ := StableHlo.after_last_write (i := 6) [main_v7, main_v8, main_v9, main_v10, main_v11] (r := main_v6) (rfl : hostOps0.drop 6 = _ :: _) rfl (by decide) _
  rw [h, StableHlo.reshape_result]
  rw [StableHlo.upto_unwritten [main_v0, main_v1, main_v2, main_v3, main_v4, main_v5] rfl (by decide)]
  show shapeCast S1x256 (m ((c : Thread nD τ).loc main_arg11)) shapeCasts_S256_S1x256 (ix2 0 k) = _
  pointwise []

theorem V_main_v7 (c : Dev nD) (k : Fin 256) : V m c main_v7 (ix2 (n0 := 1) (n1 := 256) 0 k) = m ((c : Thread nD τ).loc main_arg13) (ix1 k) := by
  have h : V m c main_v7 = _ := StableHlo.after_last_write (i := 7) [main_v8, main_v9, main_v10, main_v11] (r := main_v7) (rfl : hostOps0.drop 7 = _ :: _) rfl (by decide) _
  rw [h, StableHlo.reshape_result]
  rw [StableHlo.upto_unwritten [main_v0, main_v1, main_v2, main_v3, main_v4, main_v5, main_v6] rfl (by decide)]
  show shapeCast S1x256 (m ((c : Thread nD τ).loc main_arg13)) shapeCasts_S256_S1x256 (ix2 0 k) = _
  pointwise []

theorem V_main_v8 (c : Dev nD) (k : Fin 128) : V m c main_v8 (ix2 (n0 := 1) (n1 := 128) 0 k) = m ((c : Thread nD τ).loc main_arg15) (ix1 k) := by
  have h : V m c main_v8 = _ := StableHlo.after_last_write (i := 8) [main_v9, main_v10, main_v11] (r := main_v8) (rfl : hostOps0.drop 8 = _ :: _) rfl (by decide) _
  rw [h, StableHlo.reshape_result]
  rw [StableHlo.upto_unwritten [main_v0, main_v1, main_v2, main_v3, main_v4, main_v5, main_v6, main_v7] rfl (by decide)]
  show shapeCast S1x128 (m ((c : Thread nD τ).loc main_arg15)) shapeCasts_S128_S1x128 (ix2 0 k) = _
  pointwise []

theorem V_main_v9 (c : Dev nD) (k : Fin 128) : V m c main_v9 (ix2 (n0 := 1) (n1 := 128) 0 k) = m ((c : Thread nD τ).loc main_arg17) (ix1 k) := by
  have h : V m c main_v9 = _ := StableHlo.after_last_write (i := 9) [main_v10, main_v11] (r := main_v9) (rfl : hostOps0.drop 9 = _ :: _) rfl (by decide) _
  rw [h, StableHlo.reshape_result]
  rw [StableHlo.upto_unwritten [main_v0, main_v1, main_v2, main_v3, main_v4, main_v5, main_v6, main_v7, main_v8] rfl (by decide)]
  show shapeCast S1x128 (m ((c : Thread nD τ).loc main_arg17)) shapeCasts_S128_S1x128 (ix2 0 k) = _
  pointwise []

theorem V_main_v10 (c : Dev nD) (k : Fin 64) : V m c main_v10 (ix2 (n0 := 1) (n1 := 64) 0 k) = m ((c : Thread nD τ).loc main_arg19) (ix1 k) := by
  have h : V m c main_v10 = _ := StableHlo.after_last_write (i := 10) [main_v11] (r := main_v10) (rfl : hostOps0.drop 10 = _ :: _) rfl (by decide) _
  rw [h, StableHlo.reshape_result]
  rw [StableHlo.upto_unwritten [main_v0, main_v1, main_v2, main_v3, main_v4, main_v5, main_v6, main_v7, main_v8, main_v9] rfl (by decide)]
  show shapeCast S1x64 (m ((c : Thread nD τ).loc main_arg19)) shapeCasts_S64_S1x64 (ix2 0 k) = _
  pointwise []

theorem V_main_v11 (c : Dev nD) (k : Fin 10) : V m c main_v11 (ix2 (n0 := 1) (n1 := 10) 0 k) = m ((c : Thread nD τ).loc main_arg21) (ix1 k) := by
  have h : V m c main_v11 = _ := StableHlo.after_last_write (i := 11) [] (r := main_v11) (rfl : hostOps0.drop 11 = _ :: _) rfl (by decide) _
  rw [h, StableHlo.reshape_result]
  rw [StableHlo.upto_unwritten [main_v0, main_v1, main_v2, main_v3, main_v4, main_v5, main_v6, main_v7, main_v8, main_v9, main_v10] rfl (by decide)]
  show shapeCast S1x10 (m ((c : Thread nD τ).loc main_arg21)) shapeCasts_S10_S1x10 (ix2 0 k) = _
  pointwise []

/-! ## The blocks -/

theorem index0_eq : ∀ t : Fin cfg0.N, cc0_transform_0 (grid0.coords t) = ![0, 0] := by decide +kernel

theorem iblk0_apply (c : Dev nD) (t : Fin cfg0.N) (r : Fin 1) (k : Fin 1) (r' : Fin 1) (hr : r'.val = r.val) :
    iblk m c 0 t (ix2 (n0 := 1) (n1 := 1) r k) = V m c main_v0 (ix2 (n0 := 1) (n1 := 1) r' k) := by
  refine congrArg (V m c main_v0) (funext fun a => Fin.ext ?_)
  match a with
  | ⟨0, _⟩ =>
    show cc0_transform_0 (grid0.coords t) 0 * 1 + 1 * r.val = r'.val
    rw [index0_eq]; simp only [Matrix.cons_val_zero]; omega
  | ⟨1, _⟩ =>
    show cc0_transform_0 (grid0.coords t) 1 * 1 + 1 * k.val = k.val
    rw [index0_eq]; simp only [Matrix.cons_val_one, Matrix.cons_val_zero]; omega

theorem blk0_eq (c : Dev nD) (t : Fin cfg0.N) : iblk m c 0 t (ix2 (n0 := 1) (n1 := 1) 0 0) = (inK m c).t :=
  (iblk0_apply m c t 0 0 0 rfl).trans (V_main_v0 m c 0)

theorem index1_eq : ∀ t : Fin cfg0.N, cc0_transform_1 (grid0.coords t) = ![0, 0] := by decide +kernel

theorem iblk1_apply (c : Dev nD) (t : Fin cfg0.N) (r : Fin 1) (k : Fin 1) (r' : Fin 1) (hr : r'.val = r.val) :
    iblk m c 1 t (ix2 (n0 := 1) (n1 := 1) r k) = V m c main_v1 (ix2 (n0 := 1) (n1 := 1) r' k) := by
  refine congrArg (V m c main_v1) (funext fun a => Fin.ext ?_)
  match a with
  | ⟨0, _⟩ =>
    show cc0_transform_1 (grid0.coords t) 0 * 1 + 1 * r.val = r'.val
    rw [index1_eq]; simp only [Matrix.cons_val_zero]; omega
  | ⟨1, _⟩ =>
    show cc0_transform_1 (grid0.coords t) 1 * 1 + 1 * k.val = k.val
    rw [index1_eq]; simp only [Matrix.cons_val_one, Matrix.cons_val_zero]; omega

theorem blk1_eq (c : Dev nD) (t : Fin cfg0.N) : iblk m c 1 t (ix2 (n0 := 1) (n1 := 1) 0 0) = (inK m c).th :=
  (iblk1_apply m c t 0 0 0 rfl).trans (V_main_v1 m c 0)

theorem index2_eq : ∀ t : Fin cfg0.N, cc0_transform_2 (grid0.coords t) = ![min t.val 7, 0] := by decide +kernel

theorem iblk2_apply (c : Dev nD) (t : Fin cfg0.N) (r : Fin 512) (k : Fin 512) (r' : Fin 4096) (hr : r'.val = 512 * min t.val 7 + r.val) :
    iblk m c 2 t (ix2 (n0 := 512) (n1 := 512) r k) = V m c main_arg0 (ix2 (n0 := 4096) (n1 := 512) r' k) := by
  refine congrArg (V m c main_arg0) (funext fun a => Fin.ext ?_)
  match a with
  | ⟨0, _⟩ =>
    show cc0_transform_2 (grid0.coords t) 0 * 512 + 1 * r.val = r'.val
    rw [index2_eq]; simp only [Matrix.cons_val_zero]; omega
  | ⟨1, _⟩ =>
    show cc0_transform_2 (grid0.coords t) 1 * 512 + 1 * k.val = k.val
    rw [index2_eq]; simp only [Matrix.cons_val_one, Matrix.cons_val_zero]; omega

theorem blk2_eq (c : Dev nD) (t : Fin cfg0.N) : mat (M := 512) (N := 512) (iblk m c 2 t) = sub (inK m c).x0 (min t.val 7) (min7 _) := by
  funext r k
  exact (iblk2_apply m c t r k ⟨512 * min t.val 7 + r.val, by have := r.isLt; omega⟩ rfl).trans (congrFun (V_main_arg0 m c) _)

theorem index3_eq : ∀ t : Fin cfg0.N, cc0_transform_3 (grid0.coords t) = ![min t.val 7, 0] := by decide +kernel

theorem iblk3_apply (c : Dev nD) (t : Fin cfg0.N) (r : Fin 512) (k : Fin 512) (r' : Fin 4096) (hr : r'.val = 512 * min t.val 7 + r.val) :
    iblk m c 3 t (ix2 (n0 := 512) (n1 := 512) r k) = V m c main_arg1 (ix2 (n0 := 4096) (n1 := 512) r' k) := by
  refine congrArg (V m c main_arg1) (funext fun a => Fin.ext ?_)
  match a with
  | ⟨0, _⟩ =>
    show cc0_transform_3 (grid0.coords t) 0 * 512 + 1 * r.val = r'.val
    rw [index3_eq]; simp only [Matrix.cons_val_zero]; omega
  | ⟨1, _⟩ =>
    show cc0_transform_3 (grid0.coords t) 1 * 512 + 1 * k.val = k.val
    rw [index3_eq]; simp only [Matrix.cons_val_one, Matrix.cons_val_zero]; omega

theorem blk3_eq (c : Dev nD) (t : Fin cfg0.N) : mat (M := 512) (N := 512) (iblk m c 3 t) = sub (inK m c).x1 (min t.val 7) (min7 _) := by
  funext r k
  exact (iblk3_apply m c t r k ⟨512 * min t.val 7 + r.val, by have := r.isLt; omega⟩ rfl).trans (congrFun (V_main_arg1 m c) _)

theorem index4_eq : ∀ t : Fin cfg0.N, cc0_transform_4 (grid0.coords t) = ![min t.val 7, 0] := by decide +kernel

theorem iblk4_apply (c : Dev nD) (t : Fin cfg0.N) (r : Fin 512) (k : Fin 128) (r' : Fin 4096) (hr : r'.val = 512 * min t.val 7 + r.val) :
    iblk m c 4 t (ix2 (n0 := 512) (n1 := 128) r k) = V m c main_arg24 (ix2 (n0 := 4096) (n1 := 128) r' k) := by
  refine congrArg (V m c main_arg24) (funext fun a => Fin.ext ?_)
  match a with
  | ⟨0, _⟩ =>
    show cc0_transform_4 (grid0.coords t) 0 * 512 + 1 * r.val = r'.val
    rw [index4_eq]; simp only [Matrix.cons_val_zero]; omega
  | ⟨1, _⟩ =>
    show cc0_transform_4 (grid0.coords t) 1 * 128 + 1 * k.val = k.val
    rw [index4_eq]; simp only [Matrix.cons_val_one, Matrix.cons_val_zero]; omega

theorem blk4_eq (c : Dev nD) (t : Fin cfg0.N) : mat (M := 512) (N := 128) (iblk m c 4 t) = sub (inK m c).eps0 (min t.val 7) (min7 _) := by
  funext r k
  exact (iblk4_apply m c t r k ⟨512 * min t.val 7 + r.val, by have := r.isLt; omega⟩ rfl).trans (congrFun (V_main_arg24 m c) _)

theorem index5_eq : ∀ t : Fin cfg0.N, cc0_transform_5 (grid0.coords t) = ![min t.val 7, 0] := by decide +kernel

theorem iblk5_apply (c : Dev nD) (t : Fin cfg0.N) (r : Fin 512) (k : Fin 128) (r' : Fin 4096) (hr : r'.val = 512 * min t.val 7 + r.val) :
    iblk m c 5 t (ix2 (n0 := 512) (n1 := 128) r k) = V m c main_arg25 (ix2 (n0 := 4096) (n1 := 128) r' k) := by
  refine congrArg (V m c main_arg25) (funext fun a => Fin.ext ?_)
  match a with
  | ⟨0, _⟩ =>
    show cc0_transform_5 (grid0.coords t) 0 * 512 + 1 * r.val = r'.val
    rw [index5_eq]; simp only [Matrix.cons_val_zero]; omega
  | ⟨1, _⟩ =>
    show cc0_transform_5 (grid0.coords t) 1 * 128 + 1 * k.val = k.val
    rw [index5_eq]; simp only [Matrix.cons_val_one, Matrix.cons_val_zero]; omega

theorem blk5_eq (c : Dev nD) (t : Fin cfg0.N) : mat (M := 512) (N := 128) (iblk m c 5 t) = sub (inK m c).eps1 (min t.val 7) (min7 _) := by
  funext r k
  exact (iblk5_apply m c t r k ⟨512 * min t.val 7 + r.val, by have := r.isLt; omega⟩ rfl).trans (congrFun (V_main_arg25 m c) _)

theorem index6_eq : ∀ t : Fin cfg0.N, cc0_transform_6 (grid0.coords t) = ![0, 0] := by decide +kernel

theorem iblk6_apply (c : Dev nD) (t : Fin cfg0.N) (r : Fin 512) (k : Fin 256) (r' : Fin 512) (hr : r'.val = r.val) :
    iblk m c 6 t (ix2 (n0 := 512) (n1 := 256) r k) = V m c main_arg2 (ix2 (n0 := 512) (n1 := 256) r' k) := by
  refine congrArg (V m c main_arg2) (funext fun a => Fin.ext ?_)
  match a with
  | ⟨0, _⟩ =>
    show cc0_transform_6 (grid0.coords t) 0 * 512 + 1 * r.val = r'.val
    rw [index6_eq]; simp only [Matrix.cons_val_zero]; omega
  | ⟨1, _⟩ =>
    show cc0_transform_6 (grid0.coords t) 1 * 256 + 1 * k.val = k.val
    rw [index6_eq]; simp only [Matrix.cons_val_one, Matrix.cons_val_zero]; omega

theorem blk6_eq (c : Dev nD) (t : Fin cfg0.N) : mat (M := 512) (N := 256) (iblk m c 6 t) = (inK m c).Wa0 := by
  funext r k
  exact (iblk6_apply m c t r k r rfl).trans (congrFun (V_main_arg2 m c) _)

theorem index7_eq : ∀ t : Fin cfg0.N, cc0_transform_7 (grid0.coords t) = ![0, 0] := by decide +kernel

theorem iblk7_apply (c : Dev nD) (t : Fin cfg0.N) (r : Fin 1) (k : Fin 256) (r' : Fin 1) (hr : r'.val = r.val) :
    iblk m c 7 t (ix2 (n0 := 1) (n1 := 256) r k) = V m c main_v2 (ix2 (n0 := 1) (n1 := 256) r' k) := by
  refine congrArg (V m c main_v2) (funext fun a => Fin.ext ?_)
  match a with
  | ⟨0, _⟩ =>
    show cc0_transform_7 (grid0.coords t) 0 * 1 + 1 * r.val = r'.val
    rw [index7_eq]; simp only [Matrix.cons_val_zero]; omega
  | ⟨1, _⟩ =>
    show cc0_transform_7 (grid0.coords t) 1 * 256 + 1 * k.val = k.val
    rw [index7_eq]; simp only [Matrix.cons_val_one, Matrix.cons_val_zero]; omega

theorem blk7_eq (c : Dev nD) (t : Fin cfg0.N) : row (N := 256) (iblk m c 7 t) = (inK m c).ba0 := by
  funext k
  exact (iblk7_apply m c t 0 k 0 rfl).trans (V_main_v2 m c k)

theorem index8_eq : ∀ t : Fin cfg0.N, cc0_transform_8 (grid0.coords t) = ![0, 0] := by decide +kernel

theorem iblk8_apply (c : Dev nD) (t : Fin cfg0.N) (r : Fin 256) (k : Fin 256) (r' : Fin 256) (hr : r'.val = r.val) :
    iblk m c 8 t (ix2 (n0 := 256) (n1 := 256) r k) = V m c main_arg4 (ix2 (n0 := 256) (n1 := 256) r' k) := by
  refine congrArg (V m c main_arg4) (funext fun a => Fin.ext ?_)
  match a with
  | ⟨0, _⟩ =>
    show cc0_transform_8 (grid0.coords t) 0 * 256 + 1 * r.val = r'.val
    rw [index8_eq]; simp only [Matrix.cons_val_zero]; omega
  | ⟨1, _⟩ =>
    show cc0_transform_8 (grid0.coords t) 1 * 256 + 1 * k.val = k.val
    rw [index8_eq]; simp only [Matrix.cons_val_one, Matrix.cons_val_zero]; omega

theorem blk8_eq (c : Dev nD) (t : Fin cfg0.N) : mat (M := 256) (N := 256) (iblk m c 8 t) = (inK m c).Wb0 := by
  funext r k
  exact (iblk8_apply m c t r k r rfl).trans (congrFun (V_main_arg4 m c) _)

theorem index9_eq : ∀ t : Fin cfg0.N, cc0_transform_9 (grid0.coords t) = ![0, 0] := by decide +kernel

theorem iblk9_apply (c : Dev nD) (t : Fin cfg0.N) (r : Fin 1) (k : Fin 256) (r' : Fin 1) (hr : r'.val = r.val) :
    iblk m c 9 t (ix2 (n0 := 1) (n1 := 256) r k) = V m c main_v3 (ix2 (n0 := 1) (n1 := 256) r' k) := by
  refine congrArg (V m c main_v3) (funext fun a => Fin.ext ?_)
  match a with
  | ⟨0, _⟩ =>
    show cc0_transform_9 (grid0.coords t) 0 * 1 + 1 * r.val = r'.val
    rw [index9_eq]; simp only [Matrix.cons_val_zero]; omega
  | ⟨1, _⟩ =>
    show cc0_transform_9 (grid0.coords t) 1 * 256 + 1 * k.val = k.val
    rw [index9_eq]; simp only [Matrix.cons_val_one, Matrix.cons_val_zero]; omega

theorem blk9_eq (c : Dev nD) (t : Fin cfg0.N) : row (N := 256) (iblk m c 9 t) = (inK m c).bb0 := by
  funext k
  exact (iblk9_apply m c t 0 k 0 rfl).trans (V_main_v3 m c k)

theorem index10_eq : ∀ t : Fin cfg0.N, cc0_transform_10 (grid0.coords t) = ![0, 0] := by decide +kernel

theorem iblk10_apply (c : Dev nD) (t : Fin cfg0.N) (r : Fin 256) (k : Fin 128) (r' : Fin 256) (hr : r'.val = r.val) :
    iblk m c 10 t (ix2 (n0 := 256) (n1 := 128) r k) = V m c main_arg6 (ix2 (n0 := 256) (n1 := 128) r' k) := by
  refine congrArg (V m c main_arg6) (funext fun a => Fin.ext ?_)
  match a with
  | ⟨0, _⟩ =>
    show cc0_transform_10 (grid0.coords t) 0 * 256 + 1 * r.val = r'.val
    rw [index10_eq]; simp only [Matrix.cons_val_zero]; omega
  | ⟨1, _⟩ =>
    show cc0_transform_10 (grid0.coords t) 1 * 128 + 1 * k.val = k.val
    rw [index10_eq]; simp only [Matrix.cons_val_one, Matrix.cons_val_zero]; omega

theorem blk10_eq (c : Dev nD) (t : Fin cfg0.N) : mat (M := 256) (N := 128) (iblk m c 10 t) = (inK m c).Wmu0 := by
  funext r k
  exact (iblk10_apply m c t r k r rfl).trans (congrFun (V_main_arg6 m c) _)

theorem index11_eq : ∀ t : Fin cfg0.N, cc0_transform_11 (grid0.coords t) = ![0, 0] := by decide +kernel

theorem iblk11_apply (c : Dev nD) (t : Fin cfg0.N) (r : Fin 1) (k : Fin 128) (r' : Fin 1) (hr : r'.val = r.val) :
    iblk m c 11 t (ix2 (n0 := 1) (n1 := 128) r k) = V m c main_v4 (ix2 (n0 := 1) (n1 := 128) r' k) := by
  refine congrArg (V m c main_v4) (funext fun a => Fin.ext ?_)
  match a with
  | ⟨0, _⟩ =>
    show cc0_transform_11 (grid0.coords t) 0 * 1 + 1 * r.val = r'.val
    rw [index11_eq]; simp only [Matrix.cons_val_zero]; omega
  | ⟨1, _⟩ =>
    show cc0_transform_11 (grid0.coords t) 1 * 128 + 1 * k.val = k.val
    rw [index11_eq]; simp only [Matrix.cons_val_one, Matrix.cons_val_zero]; omega

theorem blk11_eq (c : Dev nD) (t : Fin cfg0.N) : row (N := 128) (iblk m c 11 t) = (inK m c).bmu0 := by
  funext k
  exact (iblk11_apply m c t 0 k 0 rfl).trans (V_main_v4 m c k)

theorem index12_eq : ∀ t : Fin cfg0.N, cc0_transform_12 (grid0.coords t) = ![0, 0] := by decide +kernel

theorem iblk12_apply (c : Dev nD) (t : Fin cfg0.N) (r : Fin 256) (k : Fin 128) (r' : Fin 256) (hr : r'.val = r.val) :
    iblk m c 12 t (ix2 (n0 := 256) (n1 := 128) r k) = V m c main_arg8 (ix2 (n0 := 256) (n1 := 128) r' k) := by
  refine congrArg (V m c main_arg8) (funext fun a => Fin.ext ?_)
  match a with
  | ⟨0, _⟩ =>
    show cc0_transform_12 (grid0.coords t) 0 * 256 + 1 * r.val = r'.val
    rw [index12_eq]; simp only [Matrix.cons_val_zero]; omega
  | ⟨1, _⟩ =>
    show cc0_transform_12 (grid0.coords t) 1 * 128 + 1 * k.val = k.val
    rw [index12_eq]; simp only [Matrix.cons_val_one, Matrix.cons_val_zero]; omega

theorem blk12_eq (c : Dev nD) (t : Fin cfg0.N) : mat (M := 256) (N := 128) (iblk m c 12 t) = (inK m c).Wlv0 := by
  funext r k
  exact (iblk12_apply m c t r k r rfl).trans (congrFun (V_main_arg8 m c) _)

theorem index13_eq : ∀ t : Fin cfg0.N, cc0_transform_13 (grid0.coords t) = ![0, 0] := by decide +kernel

theorem iblk13_apply (c : Dev nD) (t : Fin cfg0.N) (r : Fin 1) (k : Fin 128) (r' : Fin 1) (hr : r'.val = r.val) :
    iblk m c 13 t (ix2 (n0 := 1) (n1 := 128) r k) = V m c main_v5 (ix2 (n0 := 1) (n1 := 128) r' k) := by
  refine congrArg (V m c main_v5) (funext fun a => Fin.ext ?_)
  match a with
  | ⟨0, _⟩ =>
    show cc0_transform_13 (grid0.coords t) 0 * 1 + 1 * r.val = r'.val
    rw [index13_eq]; simp only [Matrix.cons_val_zero]; omega
  | ⟨1, _⟩ =>
    show cc0_transform_13 (grid0.coords t) 1 * 128 + 1 * k.val = k.val
    rw [index13_eq]; simp only [Matrix.cons_val_one, Matrix.cons_val_zero]; omega

theorem blk13_eq (c : Dev nD) (t : Fin cfg0.N) : row (N := 128) (iblk m c 13 t) = (inK m c).blv0 := by
  funext k
  exact (iblk13_apply m c t 0 k 0 rfl).trans (V_main_v5 m c k)

theorem index14_eq : ∀ t : Fin cfg0.N, cc0_transform_14 (grid0.coords t) = ![0, 0] := by decide +kernel

theorem iblk14_apply (c : Dev nD) (t : Fin cfg0.N) (r : Fin 512) (k : Fin 256) (r' : Fin 512) (hr : r'.val = r.val) :
    iblk m c 14 t (ix2 (n0 := 512) (n1 := 256) r k) = V m c main_arg10 (ix2 (n0 := 512) (n1 := 256) r' k) := by
  refine congrArg (V m c main_arg10) (funext fun a => Fin.ext ?_)
  match a with
  | ⟨0, _⟩ =>
    show cc0_transform_14 (grid0.coords t) 0 * 512 + 1 * r.val = r'.val
    rw [index14_eq]; simp only [Matrix.cons_val_zero]; omega
  | ⟨1, _⟩ =>
    show cc0_transform_14 (grid0.coords t) 1 * 256 + 1 * k.val = k.val
    rw [index14_eq]; simp only [Matrix.cons_val_one, Matrix.cons_val_zero]; omega

theorem blk14_eq (c : Dev nD) (t : Fin cfg0.N) : mat (M := 512) (N := 256) (iblk m c 14 t) = (inK m c).Wa1 := by
  funext r k
  exact (iblk14_apply m c t r k r rfl).trans (congrFun (V_main_arg10 m c) _)

theorem index15_eq : ∀ t : Fin cfg0.N, cc0_transform_15 (grid0.coords t) = ![0, 0] := by decide +kernel

theorem iblk15_apply (c : Dev nD) (t : Fin cfg0.N) (r : Fin 1) (k : Fin 256) (r' : Fin 1) (hr : r'.val = r.val) :
    iblk m c 15 t (ix2 (n0 := 1) (n1 := 256) r k) = V m c main_v6 (ix2 (n0 := 1) (n1 := 256) r' k) := by
  refine congrArg (V m c main_v6) (funext fun a => Fin.ext ?_)
  match a with
  | ⟨0, _⟩ =>
    show cc0_transform_15 (grid0.coords t) 0 * 1 + 1 * r.val = r'.val
    rw [index15_eq]; simp only [Matrix.cons_val_zero]; omega
  | ⟨1, _⟩ =>
    show cc0_transform_15 (grid0.coords t) 1 * 256 + 1 * k.val = k.val
    rw [index15_eq]; simp only [Matrix.cons_val_one, Matrix.cons_val_zero]; omega

theorem blk15_eq (c : Dev nD) (t : Fin cfg0.N) : row (N := 256) (iblk m c 15 t) = (inK m c).ba1 := by
  funext k
  exact (iblk15_apply m c t 0 k 0 rfl).trans (V_main_v6 m c k)

theorem index16_eq : ∀ t : Fin cfg0.N, cc0_transform_16 (grid0.coords t) = ![0, 0] := by decide +kernel

theorem iblk16_apply (c : Dev nD) (t : Fin cfg0.N) (r : Fin 256) (k : Fin 256) (r' : Fin 256) (hr : r'.val = r.val) :
    iblk m c 16 t (ix2 (n0 := 256) (n1 := 256) r k) = V m c main_arg12 (ix2 (n0 := 256) (n1 := 256) r' k) := by
  refine congrArg (V m c main_arg12) (funext fun a => Fin.ext ?_)
  match a with
  | ⟨0, _⟩ =>
    show cc0_transform_16 (grid0.coords t) 0 * 256 + 1 * r.val = r'.val
    rw [index16_eq]; simp only [Matrix.cons_val_zero]; omega
  | ⟨1, _⟩ =>
    show cc0_transform_16 (grid0.coords t) 1 * 256 + 1 * k.val = k.val
    rw [index16_eq]; simp only [Matrix.cons_val_one, Matrix.cons_val_zero]; omega

theorem blk16_eq (c : Dev nD) (t : Fin cfg0.N) : mat (M := 256) (N := 256) (iblk m c 16 t) = (inK m c).Wb1 := by
  funext r k
  exact (iblk16_apply m c t r k r rfl).trans (congrFun (V_main_arg12 m c) _)

theorem index17_eq : ∀ t : Fin cfg0.N, cc0_transform_17 (grid0.coords t) = ![0, 0] := by decide +kernel

theorem iblk17_apply (c : Dev nD) (t : Fin cfg0.N) (r : Fin 1) (k : Fin 256) (r' : Fin 1) (hr : r'.val = r.val) :
    iblk m c 17 t (ix2 (n0 := 1) (n1 := 256) r k) = V m c main_v7 (ix2 (n0 := 1) (n1 := 256) r' k) := by
  refine congrArg (V m c main_v7) (funext fun a => Fin.ext ?_)
  match a with
  | ⟨0, _⟩ =>
    show cc0_transform_17 (grid0.coords t) 0 * 1 + 1 * r.val = r'.val
    rw [index17_eq]; simp only [Matrix.cons_val_zero]; omega
  | ⟨1, _⟩ =>
    show cc0_transform_17 (grid0.coords t) 1 * 256 + 1 * k.val = k.val
    rw [index17_eq]; simp only [Matrix.cons_val_one, Matrix.cons_val_zero]; omega

theorem blk17_eq (c : Dev nD) (t : Fin cfg0.N) : row (N := 256) (iblk m c 17 t) = (inK m c).bb1 := by
  funext k
  exact (iblk17_apply m c t 0 k 0 rfl).trans (V_main_v7 m c k)

theorem index18_eq : ∀ t : Fin cfg0.N, cc0_transform_18 (grid0.coords t) = ![0, 0] := by decide +kernel

theorem iblk18_apply (c : Dev nD) (t : Fin cfg0.N) (r : Fin 256) (k : Fin 128) (r' : Fin 256) (hr : r'.val = r.val) :
    iblk m c 18 t (ix2 (n0 := 256) (n1 := 128) r k) = V m c main_arg14 (ix2 (n0 := 256) (n1 := 128) r' k) := by
  refine congrArg (V m c main_arg14) (funext fun a => Fin.ext ?_)
  match a with
  | ⟨0, _⟩ =>
    show cc0_transform_18 (grid0.coords t) 0 * 256 + 1 * r.val = r'.val
    rw [index18_eq]; simp only [Matrix.cons_val_zero]; omega
  | ⟨1, _⟩ =>
    show cc0_transform_18 (grid0.coords t) 1 * 128 + 1 * k.val = k.val
    rw [index18_eq]; simp only [Matrix.cons_val_one, Matrix.cons_val_zero]; omega

theorem blk18_eq (c : Dev nD) (t : Fin cfg0.N) : mat (M := 256) (N := 128) (iblk m c 18 t) = (inK m c).Wmu1 := by
  funext r k
  exact (iblk18_apply m c t r k r rfl).trans (congrFun (V_main_arg14 m c) _)

theorem index19_eq : ∀ t : Fin cfg0.N, cc0_transform_19 (grid0.coords t) = ![0, 0] := by decide +kernel

theorem iblk19_apply (c : Dev nD) (t : Fin cfg0.N) (r : Fin 1) (k : Fin 128) (r' : Fin 1) (hr : r'.val = r.val) :
    iblk m c 19 t (ix2 (n0 := 1) (n1 := 128) r k) = V m c main_v8 (ix2 (n0 := 1) (n1 := 128) r' k) := by
  refine congrArg (V m c main_v8) (funext fun a => Fin.ext ?_)
  match a with
  | ⟨0, _⟩ =>
    show cc0_transform_19 (grid0.coords t) 0 * 1 + 1 * r.val = r'.val
    rw [index19_eq]; simp only [Matrix.cons_val_zero]; omega
  | ⟨1, _⟩ =>
    show cc0_transform_19 (grid0.coords t) 1 * 128 + 1 * k.val = k.val
    rw [index19_eq]; simp only [Matrix.cons_val_one, Matrix.cons_val_zero]; omega

theorem blk19_eq (c : Dev nD) (t : Fin cfg0.N) : row (N := 128) (iblk m c 19 t) = (inK m c).bmu1 := by
  funext k
  exact (iblk19_apply m c t 0 k 0 rfl).trans (V_main_v8 m c k)

theorem index20_eq : ∀ t : Fin cfg0.N, cc0_transform_20 (grid0.coords t) = ![0, 0] := by decide +kernel

theorem iblk20_apply (c : Dev nD) (t : Fin cfg0.N) (r : Fin 256) (k : Fin 128) (r' : Fin 256) (hr : r'.val = r.val) :
    iblk m c 20 t (ix2 (n0 := 256) (n1 := 128) r k) = V m c main_arg16 (ix2 (n0 := 256) (n1 := 128) r' k) := by
  refine congrArg (V m c main_arg16) (funext fun a => Fin.ext ?_)
  match a with
  | ⟨0, _⟩ =>
    show cc0_transform_20 (grid0.coords t) 0 * 256 + 1 * r.val = r'.val
    rw [index20_eq]; simp only [Matrix.cons_val_zero]; omega
  | ⟨1, _⟩ =>
    show cc0_transform_20 (grid0.coords t) 1 * 128 + 1 * k.val = k.val
    rw [index20_eq]; simp only [Matrix.cons_val_one, Matrix.cons_val_zero]; omega

theorem blk20_eq (c : Dev nD) (t : Fin cfg0.N) : mat (M := 256) (N := 128) (iblk m c 20 t) = (inK m c).Wlv1 := by
  funext r k
  exact (iblk20_apply m c t r k r rfl).trans (congrFun (V_main_arg16 m c) _)

theorem index21_eq : ∀ t : Fin cfg0.N, cc0_transform_21 (grid0.coords t) = ![0, 0] := by decide +kernel

theorem iblk21_apply (c : Dev nD) (t : Fin cfg0.N) (r : Fin 1) (k : Fin 128) (r' : Fin 1) (hr : r'.val = r.val) :
    iblk m c 21 t (ix2 (n0 := 1) (n1 := 128) r k) = V m c main_v9 (ix2 (n0 := 1) (n1 := 128) r' k) := by
  refine congrArg (V m c main_v9) (funext fun a => Fin.ext ?_)
  match a with
  | ⟨0, _⟩ =>
    show cc0_transform_21 (grid0.coords t) 0 * 1 + 1 * r.val = r'.val
    rw [index21_eq]; simp only [Matrix.cons_val_zero]; omega
  | ⟨1, _⟩ =>
    show cc0_transform_21 (grid0.coords t) 1 * 128 + 1 * k.val = k.val
    rw [index21_eq]; simp only [Matrix.cons_val_one, Matrix.cons_val_zero]; omega

theorem blk21_eq (c : Dev nD) (t : Fin cfg0.N) : row (N := 128) (iblk m c 21 t) = (inK m c).blv1 := by
  funext k
  exact (iblk21_apply m c t 0 k 0 rfl).trans (V_main_v9 m c k)

theorem index22_eq : ∀ t : Fin cfg0.N, cc0_transform_22 (grid0.coords t) = ![0, 0] := by decide +kernel

theorem iblk22_apply (c : Dev nD) (t : Fin cfg0.N) (r : Fin 128) (k : Fin 64) (r' : Fin 128) (hr : r'.val = r.val) :
    iblk m c 22 t (ix2 (n0 := 128) (n1 := 64) r k) = V m c main_arg18 (ix2 (n0 := 128) (n1 := 64) r' k) := by
  refine congrArg (V m c main_arg18) (funext fun a => Fin.ext ?_)
  match a with
  | ⟨0, _⟩ =>
    show cc0_transform_22 (grid0.coords t) 0 * 128 + 1 * r.val = r'.val
    rw [index22_eq]; simp only [Matrix.cons_val_zero]; omega
  | ⟨1, _⟩ =>
    show cc0_transform_22 (grid0.coords t) 1 * 64 + 1 * k.val = k.val
    rw [index22_eq]; simp only [Matrix.cons_val_one, Matrix.cons_val_zero]; omega

theorem blk22_eq (c : Dev nD) (t : Fin cfg0.N) : mat (M := 128) (N := 64) (iblk m c 22 t) = (inK m c).Wg1 := by
  funext r k
  exact (iblk22_apply m c t r k r rfl).trans (congrFun (V_main_arg18 m c) _)

theorem index23_eq : ∀ t : Fin cfg0.N, cc0_transform_23 (grid0.coords t) = ![0, 0] := by decide +kernel

theorem iblk23_apply (c : Dev nD) (t : Fin cfg0.N) (r : Fin 1) (k : Fin 64) (r' : Fin 1) (hr : r'.val = r.val) :
    iblk m c 23 t (ix2 (n0 := 1) (n1 := 64) r k) = V m c main_v10 (ix2 (n0 := 1) (n1 := 64) r' k) := by
  refine congrArg (V m c main_v10) (funext fun a => Fin.ext ?_)
  match a with
  | ⟨0, _⟩ =>
    show cc0_transform_23 (grid0.coords t) 0 * 1 + 1 * r.val = r'.val
    rw [index23_eq]; simp only [Matrix.cons_val_zero]; omega
  | ⟨1, _⟩ =>
    show cc0_transform_23 (grid0.coords t) 1 * 64 + 1 * k.val = k.val
    rw [index23_eq]; simp only [Matrix.cons_val_one, Matrix.cons_val_zero]; omega

theorem blk23_eq (c : Dev nD) (t : Fin cfg0.N) : row (N := 64) (iblk m c 23 t) = (inK m c).bg1 := by
  funext k
  exact (iblk23_apply m c t 0 k 0 rfl).trans (V_main_v10 m c k)

theorem index24_eq : ∀ t : Fin cfg0.N, cc0_transform_24 (grid0.coords t) = ![0, 0] := by decide +kernel

theorem iblk24_apply (c : Dev nD) (t : Fin cfg0.N) (r : Fin 64) (k : Fin 10) (r' : Fin 64) (hr : r'.val = r.val) :
    iblk m c 24 t (ix2 (n0 := 64) (n1 := 10) r k) = V m c main_arg20 (ix2 (n0 := 64) (n1 := 10) r' k) := by
  refine congrArg (V m c main_arg20) (funext fun a => Fin.ext ?_)
  match a with
  | ⟨0, _⟩ =>
    show cc0_transform_24 (grid0.coords t) 0 * 64 + 1 * r.val = r'.val
    rw [index24_eq]; simp only [Matrix.cons_val_zero]; omega
  | ⟨1, _⟩ =>
    show cc0_transform_24 (grid0.coords t) 1 * 10 + 1 * k.val = k.val
    rw [index24_eq]; simp only [Matrix.cons_val_one, Matrix.cons_val_zero]; omega

theorem blk24_eq (c : Dev nD) (t : Fin cfg0.N) : mat (M := 64) (N := 10) (iblk m c 24 t) = (inK m c).Wg2 := by
  funext r k
  exact (iblk24_apply m c t r k r rfl).trans (congrFun (V_main_arg20 m c) _)

theorem index25_eq : ∀ t : Fin cfg0.N, cc0_transform_25 (grid0.coords t) = ![0, 0] := by decide +kernel

theorem iblk25_apply (c : Dev nD) (t : Fin cfg0.N) (r : Fin 1) (k : Fin 10) (r' : Fin 1) (hr : r'.val = r.val) :
    iblk m c 25 t (ix2 (n0 := 1) (n1 := 10) r k) = V m c main_v11 (ix2 (n0 := 1) (n1 := 10) r' k) := by
  refine congrArg (V m c main_v11) (funext fun a => Fin.ext ?_)
  match a with
  | ⟨0, _⟩ =>
    show cc0_transform_25 (grid0.coords t) 0 * 1 + 1 * r.val = r'.val
    rw [index25_eq]; simp only [Matrix.cons_val_zero]; omega
  | ⟨1, _⟩ =>
    show cc0_transform_25 (grid0.coords t) 1 * 10 + 1 * k.val = k.val
    rw [index25_eq]; simp only [Matrix.cons_val_one, Matrix.cons_val_zero]; omega

theorem blk25_eq (c : Dev nD) (t : Fin cfg0.N) : row (N := 10) (iblk m c 25 t) = (inK m c).bg2 := by
  funext k
  exact (iblk25_apply m c t 0 k 0 rfl).trans (V_main_v11 m c k)

/-! ## What an input window's buffer holds -/

variable (T : Track Ideal)

theorem finds0 (c : Dev nD) (hk : ∀ t Y X, T.after 0 t Y X → X = Y) (t : Fin cfg0.N) (Y) (h : (rdat m T c).Finds 0 t Y) : Y = iblk m c 0 t := by
  obtain ⟨d, hd⟩ := RDat.finds_in_eq_fetched (rdat m T c) 0 rfl (fun _ _ _ => rfl) hk t Y h
  exact hd.trans rfl

theorem finds1 (c : Dev nD) (hk : ∀ t Y X, T.after 1 t Y X → X = Y) (t : Fin cfg0.N) (Y) (h : (rdat m T c).Finds 1 t Y) : Y = iblk m c 1 t := by
  obtain ⟨d, hd⟩ := RDat.finds_in_eq_fetched (rdat m T c) 1 rfl (fun _ _ _ => rfl) hk t Y h
  exact hd.trans rfl

theorem finds2 (c : Dev nD) (hk : ∀ t Y X, T.after 2 t Y X → X = Y) (t : Fin cfg0.N) (Y) (h : (rdat m T c).Finds 2 t Y) : Y = iblk m c 2 t := by
  obtain ⟨d, hd⟩ := RDat.finds_in_eq_fetched (rdat m T c) 2 rfl (fun _ _ _ => rfl) hk t Y h
  exact hd.trans rfl

theorem finds3 (c : Dev nD) (hk : ∀ t Y X, T.after 3 t Y X → X = Y) (t : Fin cfg0.N) (Y) (h : (rdat m T c).Finds 3 t Y) : Y = iblk m c 3 t := by
  obtain ⟨d, hd⟩ := RDat.finds_in_eq_fetched (rdat m T c) 3 rfl (fun _ _ _ => rfl) hk t Y h
  exact hd.trans rfl

theorem finds4 (c : Dev nD) (hk : ∀ t Y X, T.after 4 t Y X → X = Y) (t : Fin cfg0.N) (Y) (h : (rdat m T c).Finds 4 t Y) : Y = iblk m c 4 t := by
  obtain ⟨d, hd⟩ := RDat.finds_in_eq_fetched (rdat m T c) 4 rfl (fun _ _ _ => rfl) hk t Y h
  exact hd.trans rfl

theorem finds5 (c : Dev nD) (hk : ∀ t Y X, T.after 5 t Y X → X = Y) (t : Fin cfg0.N) (Y) (h : (rdat m T c).Finds 5 t Y) : Y = iblk m c 5 t := by
  obtain ⟨d, hd⟩ := RDat.finds_in_eq_fetched (rdat m T c) 5 rfl (fun _ _ _ => rfl) hk t Y h
  exact hd.trans rfl

theorem finds6 (c : Dev nD) (hk : ∀ t Y X, T.after 6 t Y X → X = Y) (t : Fin cfg0.N) (Y) (h : (rdat m T c).Finds 6 t Y) : Y = iblk m c 6 t := by
  obtain ⟨d, hd⟩ := RDat.finds_in_eq_fetched (rdat m T c) 6 rfl (fun _ _ _ => rfl) hk t Y h
  exact hd.trans rfl

theorem finds7 (c : Dev nD) (hk : ∀ t Y X, T.after 7 t Y X → X = Y) (t : Fin cfg0.N) (Y) (h : (rdat m T c).Finds 7 t Y) : Y = iblk m c 7 t := by
  obtain ⟨d, hd⟩ := RDat.finds_in_eq_fetched (rdat m T c) 7 rfl (fun _ _ _ => rfl) hk t Y h
  exact hd.trans rfl

theorem finds8 (c : Dev nD) (hk : ∀ t Y X, T.after 8 t Y X → X = Y) (t : Fin cfg0.N) (Y) (h : (rdat m T c).Finds 8 t Y) : Y = iblk m c 8 t := by
  obtain ⟨d, hd⟩ := RDat.finds_in_eq_fetched (rdat m T c) 8 rfl (fun _ _ _ => rfl) hk t Y h
  exact hd.trans rfl

theorem finds9 (c : Dev nD) (hk : ∀ t Y X, T.after 9 t Y X → X = Y) (t : Fin cfg0.N) (Y) (h : (rdat m T c).Finds 9 t Y) : Y = iblk m c 9 t := by
  obtain ⟨d, hd⟩ := RDat.finds_in_eq_fetched (rdat m T c) 9 rfl (fun _ _ _ => rfl) hk t Y h
  exact hd.trans rfl

theorem finds10 (c : Dev nD) (hk : ∀ t Y X, T.after 10 t Y X → X = Y) (t : Fin cfg0.N) (Y) (h : (rdat m T c).Finds 10 t Y) : Y = iblk m c 10 t := by
  obtain ⟨d, hd⟩ := RDat.finds_in_eq_fetched (rdat m T c) 10 rfl (fun _ _ _ => rfl) hk t Y h
  exact hd.trans rfl

theorem finds11 (c : Dev nD) (hk : ∀ t Y X, T.after 11 t Y X → X = Y) (t : Fin cfg0.N) (Y) (h : (rdat m T c).Finds 11 t Y) : Y = iblk m c 11 t := by
  obtain ⟨d, hd⟩ := RDat.finds_in_eq_fetched (rdat m T c) 11 rfl (fun _ _ _ => rfl) hk t Y h
  exact hd.trans rfl

theorem finds12 (c : Dev nD) (hk : ∀ t Y X, T.after 12 t Y X → X = Y) (t : Fin cfg0.N) (Y) (h : (rdat m T c).Finds 12 t Y) : Y = iblk m c 12 t := by
  obtain ⟨d, hd⟩ := RDat.finds_in_eq_fetched (rdat m T c) 12 rfl (fun _ _ _ => rfl) hk t Y h
  exact hd.trans rfl

theorem finds13 (c : Dev nD) (hk : ∀ t Y X, T.after 13 t Y X → X = Y) (t : Fin cfg0.N) (Y) (h : (rdat m T c).Finds 13 t Y) : Y = iblk m c 13 t := by
  obtain ⟨d, hd⟩ := RDat.finds_in_eq_fetched (rdat m T c) 13 rfl (fun _ _ _ => rfl) hk t Y h
  exact hd.trans rfl

theorem finds14 (c : Dev nD) (hk : ∀ t Y X, T.after 14 t Y X → X = Y) (t : Fin cfg0.N) (Y) (h : (rdat m T c).Finds 14 t Y) : Y = iblk m c 14 t := by
  obtain ⟨d, hd⟩ := RDat.finds_in_eq_fetched (rdat m T c) 14 rfl (fun _ _ _ => rfl) hk t Y h
  exact hd.trans rfl

theorem finds15 (c : Dev nD) (hk : ∀ t Y X, T.after 15 t Y X → X = Y) (t : Fin cfg0.N) (Y) (h : (rdat m T c).Finds 15 t Y) : Y = iblk m c 15 t := by
  obtain ⟨d, hd⟩ := RDat.finds_in_eq_fetched (rdat m T c) 15 rfl (fun _ _ _ => rfl) hk t Y h
  exact hd.trans rfl

theorem finds16 (c : Dev nD) (hk : ∀ t Y X, T.after 16 t Y X → X = Y) (t : Fin cfg0.N) (Y) (h : (rdat m T c).Finds 16 t Y) : Y = iblk m c 16 t := by
  obtain ⟨d, hd⟩ := RDat.finds_in_eq_fetched (rdat m T c) 16 rfl (fun _ _ _ => rfl) hk t Y h
  exact hd.trans rfl

theorem finds17 (c : Dev nD) (hk : ∀ t Y X, T.after 17 t Y X → X = Y) (t : Fin cfg0.N) (Y) (h : (rdat m T c).Finds 17 t Y) : Y = iblk m c 17 t := by
  obtain ⟨d, hd⟩ := RDat.finds_in_eq_fetched (rdat m T c) 17 rfl (fun _ _ _ => rfl) hk t Y h
  exact hd.trans rfl

theorem finds18 (c : Dev nD) (hk : ∀ t Y X, T.after 18 t Y X → X = Y) (t : Fin cfg0.N) (Y) (h : (rdat m T c).Finds 18 t Y) : Y = iblk m c 18 t := by
  obtain ⟨d, hd⟩ := RDat.finds_in_eq_fetched (rdat m T c) 18 rfl (fun _ _ _ => rfl) hk t Y h
  exact hd.trans rfl

theorem finds19 (c : Dev nD) (hk : ∀ t Y X, T.after 19 t Y X → X = Y) (t : Fin cfg0.N) (Y) (h : (rdat m T c).Finds 19 t Y) : Y = iblk m c 19 t := by
  obtain ⟨d, hd⟩ := RDat.finds_in_eq_fetched (rdat m T c) 19 rfl (fun _ _ _ => rfl) hk t Y h
  exact hd.trans rfl

theorem finds20 (c : Dev nD) (hk : ∀ t Y X, T.after 20 t Y X → X = Y) (t : Fin cfg0.N) (Y) (h : (rdat m T c).Finds 20 t Y) : Y = iblk m c 20 t := by
  obtain ⟨d, hd⟩ := RDat.finds_in_eq_fetched (rdat m T c) 20 rfl (fun _ _ _ => rfl) hk t Y h
  exact hd.trans rfl

theorem finds21 (c : Dev nD) (hk : ∀ t Y X, T.after 21 t Y X → X = Y) (t : Fin cfg0.N) (Y) (h : (rdat m T c).Finds 21 t Y) : Y = iblk m c 21 t := by
  obtain ⟨d, hd⟩ := RDat.finds_in_eq_fetched (rdat m T c) 21 rfl (fun _ _ _ => rfl) hk t Y h
  exact hd.trans rfl

theorem finds22 (c : Dev nD) (hk : ∀ t Y X, T.after 22 t Y X → X = Y) (t : Fin cfg0.N) (Y) (h : (rdat m T c).Finds 22 t Y) : Y = iblk m c 22 t := by
  obtain ⟨d, hd⟩ := RDat.finds_in_eq_fetched (rdat m T c) 22 rfl (fun _ _ _ => rfl) hk t Y h
  exact hd.trans rfl

theorem finds23 (c : Dev nD) (hk : ∀ t Y X, T.after 23 t Y X → X = Y) (t : Fin cfg0.N) (Y) (h : (rdat m T c).Finds 23 t Y) : Y = iblk m c 23 t := by
  obtain ⟨d, hd⟩ := RDat.finds_in_eq_fetched (rdat m T c) 23 rfl (fun _ _ _ => rfl) hk t Y h
  exact hd.trans rfl

theorem finds24 (c : Dev nD) (hk : ∀ t Y X, T.after 24 t Y X → X = Y) (t : Fin cfg0.N) (Y) (h : (rdat m T c).Finds 24 t Y) : Y = iblk m c 24 t := by
  obtain ⟨d, hd⟩ := RDat.finds_in_eq_fetched (rdat m T c) 24 rfl (fun _ _ _ => rfl) hk t Y h
  exact hd.trans rfl

theorem finds25 (c : Dev nD) (hk : ∀ t Y X, T.after 25 t Y X → X = Y) (t : Fin cfg0.N) (Y) (h : (rdat m T c).Finds 25 t Y) : Y = iblk m c 25 t := by
  obtain ⟨d, hd⟩ := RDat.finds_in_eq_fetched (rdat m T c) 25 rfl (fun _ _ _ => rfl) hk t Y h
  exact hd.trans rfl

end Cert.KernelIdeal.Hand

end
-- ==== Proof.Precondition.lean ====
/-
  The precondition by entry: every argument it asks about holds real numbers.
-/
module

public import proofs.«01_k».proof.Defs
public import proofs.«01_k».proof.Proof.Ideal.Blocks

@[expose] public section

set_option maxRecDepth 16384
set_option maxHeartbeats 1000000

noncomputable section

namespace Cert.Pre_real_inputs.Hand

open Cert.Math
open Idealize.ShloMosaic

/-- The shape relations the precondition takes. -/
theorem facts : Cert.Pre_real_inputs.Facts where
  bcast_S_S4096x512 := by decide
  bcast_S_S512x256 := by decide
  bcast_S_S256 := by decide
  bcast_S_S256x256 := by decide
  bcast_S_S256x128 := by decide
  bcast_S_S128 := by decide
  bcast_S_S128x64 := by decide
  bcast_S_S64 := by decide
  bcast_S_S64x10 := by decide
  bcast_S_S10 := by decide
  bcast_S_S4096x128 := by decide

/-- An array whose magnitudes are below infinity holds real numbers. -/
theorem real_of_mask {s : Shape} (x : FVec Ideal s .f32) (hb : Cert.Pre_real_inputs.S_.BroadcastsInDim s ![])
    (h : cmpf .olt (Host.absf x) (broadcastInDim s ![] hb (constant Cert.Pre_real_inputs.S_ .f32 0x7F800000#32)) = fun _ => 1#1) (j : s.Idx) : IsReal (x j) := by
  have htop : Ideal.ofBits .f32 0x7F800000#32 = (⊤ : EReal) := by simp [Ideal.ofBits, Ideal.ieee]
  have hj : FloatOps.cmpf (F := Ideal) .olt (max (x j) (-(x j)) : EReal) (Ideal.ofBits .f32 0x7F800000#32 : EReal) = 1#1 := congrFun h j
  rw [htop] at hj
  refine isReal_of_abs_lt_top ?_
  by_contra hn
  simp [FloatOps.cmpf, Ideal.cmp, hn] at hj

theorem both {s : Shape} {p q : IVec s 1} (h : andi p q = fun _ => 1#1) : p = (fun _ => 1#1) ∧ q = (fun _ => 1#1) := by
  have hb : ∀ a b : BitVec 1, a &&& b = 1#1 → a = 1#1 ∧ b = 1#1 := by decide
  exact ⟨funext fun j => (hb _ _ (congrFun h j)).1, funext fun j => (hb _ _ (congrFun h j)).2⟩

theorem all4 {s : Shape} {p q u v : IVec s 1} (h : andi (andi (andi p q) u) v = fun _ => 1#1) :
    p = (fun _ => 1#1) ∧ q = (fun _ => 1#1) ∧ u = (fun _ => 1#1) ∧ v = (fun _ => 1#1) :=
  ⟨(both (both (both h).1).1).1, (both (both (both h).1).1).2, (both (both h).1).2, (both h).2⟩

theorem real (m : (ℓ : Loc Cert.KernelIdeal.nD Cert.KernelIdeal.τ Cert.KernelIdeal.sig) → Buf (Elt Ideal) ℓ)
    (h : Cert.Pre_KernelIdeal_real_inputs (hPre_real_inputs := facts) m) (c : Dev Cert.KernelIdeal.nD) : (Cert.KernelIdeal.Hand.inK m c).Real := by
  obtain ⟨g0, g1, g2, g3, g4, g5, g6, g7, g8, g9, g10⟩ := h c
  obtain ⟨h0, h1⟩ := both g0
  obtain ⟨h24, h25⟩ := both g1
  obtain ⟨h2, h10⟩ := both g2
  obtain ⟨h4, h12⟩ := both g3
  obtain ⟨h6, h8, h14, h16⟩ := all4 g4
  obtain ⟨h3, h5, h11, h13⟩ := all4 g5
  obtain ⟨h7, h9, h15, h17⟩ := all4 g6
  have h18 := g7
  have h19 := g8
  have h20 := g9
  have h21 := g10
  exact {
    x0 := fun r k => real_of_mask _ _ h0 (ix2 r k)
    x1 := fun r k => real_of_mask _ _ h1 (ix2 r k)
    eps0 := fun r k => real_of_mask _ _ h24 (ix2 r k)
    eps1 := fun r k => real_of_mask _ _ h25 (ix2 r k)
    Wa0 := fun r k => real_of_mask _ _ h2 (ix2 r k)
    ba0 := fun k => real_of_mask _ _ h3 (ix1 k)
    Wb0 := fun r k => real_of_mask _ _ h4 (ix2 r k)
    bb0 := fun k => real_of_mask _ _ h5 (ix1 k)
    Wmu0 := fun r k => real_of_mask _ _ h6 (ix2 r k)
    bmu0 := fun k => real_of_mask _ _ h7 (ix1 k)
    Wlv0 := fun r k => real_of_mask _ _ h8 (ix2 r k)
    blv0 := fun k => real_of_mask _ _ h9 (ix1 k)
    Wa1 := fun r k => real_of_mask _ _ h10 (ix2 r k)
    ba1 := fun k => real_of_mask _ _ h11 (ix1 k)
    Wb1 := fun r k => real_of_mask _ _ h12 (ix2 r k)
    bb1 := fun k => real_of_mask _ _ h13 (ix1 k)
    Wmu1 := fun r k => real_of_mask _ _ h14 (ix2 r k)
    bmu1 := fun k => real_of_mask _ _ h15 (ix1 k)
    Wlv1 := fun r k => real_of_mask _ _ h16 (ix2 r k)
    blv1 := fun k => real_of_mask _ _ h17 (ix1 k)
    Wg1 := fun r k => real_of_mask _ _ h18 (ix2 r k)
    bg1 := fun k => real_of_mask _ _ h19 (ix1 k)
    Wg2 := fun r k => real_of_mask _ _ h20 (ix2 r k)
    bg2 := fun k => real_of_mask _ _ h21 (ix1 k)
  }

end Cert.Pre_real_inputs.Hand

end
-- ==== Proof.Ideal.ValA.lean ====
/-
  What a point of the encoder phase leaves: one block of rows of each encoder's mean and log-variance, of the scaled samples and of the first layer's input.
-/
module

public import proofs.«01_k».proof.Proof.Ideal.Val
public import Idealize.ShloMosaic.Lib.WritesUnit

@[expose] public section

set_option maxRecDepth 16384
set_option maxHeartbeats 1000000

noncomputable section

namespace Cert.KernelIdeal.Hand

open Cert.KernelIdeal Cert.KernelIdeal.Gen Cert.Math
open Idealize.ShloMosaic Idealize.ShloMosaic.TcCoe Idealize.ShloMosaic.Tactic
open scoped BigOperators

/-- The mean of the first view at a point. -/
def muA0 (t : Fin cfg0.N) (Y : Stg Ideal) : FVec Ideal S512x128 .f32 :=
  k0_pay10 (F := Ideal) (part (ms2 t) (hs2 t) (Y 2) ![0, 0] ![512, 512] (fun a => by match a with | ⟨0, _⟩ => exact le_refl 512 | ⟨1, _⟩ => exact le_refl 512)) (part (ms6 t) (hs6 t) (Y 6) ![0, 0] ![512, 256] (fun a => by match a with | ⟨0, _⟩ => exact le_refl 512 | ⟨1, _⟩ => exact le_refl 256)) (part (ms7 t) (hs7 t) (Y 7) ![0, 0] ![1, 256] (fun a => by match a with | ⟨0, _⟩ => exact le_refl 1 | ⟨1, _⟩ => exact le_refl 256)) (part (ms8 t) (hs8 t) (Y 8) ![0, 0] ![256, 256] (fun a => by match a with | ⟨0, _⟩ => exact le_refl 256 | ⟨1, _⟩ => exact le_refl 256)) (part (ms9 t) (hs9 t) (Y 9) ![0, 0] ![1, 256] (fun a => by match a with | ⟨0, _⟩ => exact le_refl 1 | ⟨1, _⟩ => exact le_refl 256)) (part (ms10 t) (hs10 t) (Y 10) ![0, 0] ![256, 128] (fun a => by match a with | ⟨0, _⟩ => exact le_refl 256 | ⟨1, _⟩ => exact le_refl 128)) (part (ms11 t) (hs11 t) (Y 11) ![0, 0] ![1, 128] (fun a => by match a with | ⟨0, _⟩ => exact le_refl 1 | ⟨1, _⟩ => exact le_refl 128))

theorem muA0_apply (t : Fin cfg0.N) (Y : Stg Ideal) :
    mat (muA0 t Y) = dense (Cert.Math.hidden (mat (M := 512) (N := 512) (Y 2)) (mat (M := 512) (N := 256) (Y 6)) (row (N := 256) (Y 7)) (mat (M := 256) (N := 256) (Y 8)) (row (N := 256) (Y 9))) (mat (M := 256) (N := 128) (Y 10)) (row (N := 128) (Y 11)) := by
  have e2 := part_whole (P := 512) (Q := 512) (ms2 t) (hs2 t) (Y 2) (fun a => by match a with | ⟨0, _⟩ => exact le_refl 512 | ⟨1, _⟩ => exact le_refl 512)
  have e6 := part_whole (P := 512) (Q := 256) (ms6 t) (hs6 t) (Y 6) (fun a => by match a with | ⟨0, _⟩ => exact le_refl 512 | ⟨1, _⟩ => exact le_refl 256)
  have e7 := part_whole (P := 1) (Q := 256) (ms7 t) (hs7 t) (Y 7) (fun a => by match a with | ⟨0, _⟩ => exact le_refl 1 | ⟨1, _⟩ => exact le_refl 256)
  have e8 := part_whole (P := 256) (Q := 256) (ms8 t) (hs8 t) (Y 8) (fun a => by match a with | ⟨0, _⟩ => exact le_refl 256 | ⟨1, _⟩ => exact le_refl 256)
  have e9 := part_whole (P := 1) (Q := 256) (ms9 t) (hs9 t) (Y 9) (fun a => by match a with | ⟨0, _⟩ => exact le_refl 1 | ⟨1, _⟩ => exact le_refl 256)
  have e10 := part_whole (P := 256) (Q := 128) (ms10 t) (hs10 t) (Y 10) (fun a => by match a with | ⟨0, _⟩ => exact le_refl 256 | ⟨1, _⟩ => exact le_refl 128)
  have e11 := part_whole (P := 1) (Q := 128) (ms11 t) (hs11 t) (Y 11) (fun a => by match a with | ⟨0, _⟩ => exact le_refl 1 | ⟨1, _⟩ => exact le_refl 128)
  unfold muA0
  rw [e2, e6, e7, e8, e9, e10, e11]
  funext r c
  exact pay10_apply _ _ _ _ _ _ _ r c

/-- The log-variance of the first view at a point. -/
def lvA0 (t : Fin cfg0.N) (Y : Stg Ideal) : FVec Ideal S512x128 .f32 :=
  k0_pay10 (F := Ideal) (part (ms2 t) (hs2 t) (Y 2) ![0, 0] ![512, 512] (fun a => by match a with | ⟨0, _⟩ => exact le_refl 512 | ⟨1, _⟩ => exact le_refl 512)) (part (ms6 t) (hs6 t) (Y 6) ![0, 0] ![512, 256] (fun a => by match a with | ⟨0, _⟩ => exact le_refl 512 | ⟨1, _⟩ => exact le_refl 256)) (part (ms7 t) (hs7 t) (Y 7) ![0, 0] ![1, 256] (fun a => by match a with | ⟨0, _⟩ => exact le_refl 1 | ⟨1, _⟩ => exact le_refl 256)) (part (ms8 t) (hs8 t) (Y 8) ![0, 0] ![256, 256] (fun a => by match a with | ⟨0, _⟩ => exact le_refl 256 | ⟨1, _⟩ => exact le_refl 256)) (part (ms9 t) (hs9 t) (Y 9) ![0, 0] ![1, 256] (fun a => by match a with | ⟨0, _⟩ => exact le_refl 1 | ⟨1, _⟩ => exact le_refl 256)) (part (ms12 t) (hs12 t) (Y 12) ![0, 0] ![256, 128] (fun a => by match a with | ⟨0, _⟩ => exact le_refl 256 | ⟨1, _⟩ => exact le_refl 128)) (part (ms13 t) (hs13 t) (Y 13) ![0, 0] ![1, 128] (fun a => by match a with | ⟨0, _⟩ => exact le_refl 1 | ⟨1, _⟩ => exact le_refl 128))

theorem lvA0_apply (t : Fin cfg0.N) (Y : Stg Ideal) :
    mat (lvA0 t Y) = dense (Cert.Math.hidden (mat (M := 512) (N := 512) (Y 2)) (mat (M := 512) (N := 256) (Y 6)) (row (N := 256) (Y 7)) (mat (M := 256) (N := 256) (Y 8)) (row (N := 256) (Y 9))) (mat (M := 256) (N := 128) (Y 12)) (row (N := 128) (Y 13)) := by
  have e2 := part_whole (P := 512) (Q := 512) (ms2 t) (hs2 t) (Y 2) (fun a => by match a with | ⟨0, _⟩ => exact le_refl 512 | ⟨1, _⟩ => exact le_refl 512)
  have e6 := part_whole (P := 512) (Q := 256) (ms6 t) (hs6 t) (Y 6) (fun a => by match a with | ⟨0, _⟩ => exact le_refl 512 | ⟨1, _⟩ => exact le_refl 256)
  have e7 := part_whole (P := 1) (Q := 256) (ms7 t) (hs7 t) (Y 7) (fun a => by match a with | ⟨0, _⟩ => exact le_refl 1 | ⟨1, _⟩ => exact le_refl 256)
  have e8 := part_whole (P := 256) (Q := 256) (ms8 t) (hs8 t) (Y 8) (fun a => by match a with | ⟨0, _⟩ => exact le_refl 256 | ⟨1, _⟩ => exact le_refl 256)
  have e9 := part_whole (P := 1) (Q := 256) (ms9 t) (hs9 t) (Y 9) (fun a => by match a with | ⟨0, _⟩ => exact le_refl 1 | ⟨1, _⟩ => exact le_refl 256)
  have e12 := part_whole (P := 256) (Q := 128) (ms12 t) (hs12 t) (Y 12) (fun a => by match a with | ⟨0, _⟩ => exact le_refl 256 | ⟨1, _⟩ => exact le_refl 128)
  have e13 := part_whole (P := 1) (Q := 128) (ms13 t) (hs13 t) (Y 13) (fun a => by match a with | ⟨0, _⟩ => exact le_refl 1 | ⟨1, _⟩ => exact le_refl 128)
  unfold lvA0
  rw [e2, e6, e7, e8, e9, e12, e13]
  funext r c
  exact pay10_apply _ _ _ _ _ _ _ r c

/-- The mean of the second view at a point. -/
def muA1 (t : Fin cfg0.N) (Y : Stg Ideal) : FVec Ideal S512x128 .f32 :=
  k0_pay10 (F := Ideal) (part (ms3 t) (hs3 t) (Y 3) ![0, 0] ![512, 512] (fun a => by match a with | ⟨0, _⟩ => exact le_refl 512 | ⟨1, _⟩ => exact le_refl 512)) (part (ms14 t) (hs14 t) (Y 14) ![0, 0] ![512, 256] (fun a => by match a with | ⟨0, _⟩ => exact le_refl 512 | ⟨1, _⟩ => exact le_refl 256)) (part (ms15 t) (hs15 t) (Y 15) ![0, 0] ![1, 256] (fun a => by match a with | ⟨0, _⟩ => exact le_refl 1 | ⟨1, _⟩ => exact le_refl 256)) (part (ms16 t) (hs16 t) (Y 16) ![0, 0] ![256, 256] (fun a => by match a with | ⟨0, _⟩ => exact le_refl 256 | ⟨1, _⟩ => exact le_refl 256)) (part (ms17 t) (hs17 t) (Y 17) ![0, 0] ![1, 256] (fun a => by match a with | ⟨0, _⟩ => exact le_refl 1 | ⟨1, _⟩ => exact le_refl 256)) (part (ms18 t) (hs18 t) (Y 18) ![0, 0] ![256, 128] (fun a => by match a with | ⟨0, _⟩ => exact le_refl 256 | ⟨1, _⟩ => exact le_refl 128)) (part (ms19 t) (hs19 t) (Y 19) ![0, 0] ![1, 128] (fun a => by match a with | ⟨0, _⟩ => exact le_refl 1 | ⟨1, _⟩ => exact le_refl 128))

theorem muA1_apply (t : Fin cfg0.N) (Y : Stg Ideal) :
    mat (muA1 t Y) = dense (Cert.Math.hidden (mat (M := 512) (N := 512) (Y 3)) (mat (M := 512) (N := 256) (Y 14)) (row (N := 256) (Y 15)) (mat (M := 256) (N := 256) (Y 16)) (row (N := 256) (Y 17))) (mat (M := 256) (N := 128) (Y 18)) (row (N := 128) (Y 19)) := by
  have e3 := part_whole (P := 512) (Q := 512) (ms3 t) (hs3 t) (Y 3) (fun a => by match a with | ⟨0, _⟩ => exact le_refl 512 | ⟨1, _⟩ => exact le_refl 512)
  have e14 := part_whole (P := 512) (Q := 256) (ms14 t) (hs14 t) (Y 14) (fun a => by match a with | ⟨0, _⟩ => exact le_refl 512 | ⟨1, _⟩ => exact le_refl 256)
  have e15 := part_whole (P := 1) (Q := 256) (ms15 t) (hs15 t) (Y 15) (fun a => by match a with | ⟨0, _⟩ => exact le_refl 1 | ⟨1, _⟩ => exact le_refl 256)
  have e16 := part_whole (P := 256) (Q := 256) (ms16 t) (hs16 t) (Y 16) (fun a => by match a with | ⟨0, _⟩ => exact le_refl 256 | ⟨1, _⟩ => exact le_refl 256)
  have e17 := part_whole (P := 1) (Q := 256) (ms17 t) (hs17 t) (Y 17) (fun a => by match a with | ⟨0, _⟩ => exact le_refl 1 | ⟨1, _⟩ => exact le_refl 256)
  have e18 := part_whole (P := 256) (Q := 128) (ms18 t) (hs18 t) (Y 18) (fun a => by match a with | ⟨0, _⟩ => exact le_refl 256 | ⟨1, _⟩ => exact le_refl 128)
  have e19 := part_whole (P := 1) (Q := 128) (ms19 t) (hs19 t) (Y 19) (fun a => by match a with | ⟨0, _⟩ => exact le_refl 1 | ⟨1, _⟩ => exact le_refl 128)
  unfold muA1
  rw [e3, e14, e15, e16, e17, e18, e19]
  funext r c
  exact pay10_apply _ _ _ _ _ _ _ r c

/-- The log-variance of the second view at a point. -/
def lvA1 (t : Fin cfg0.N) (Y : Stg Ideal) : FVec Ideal S512x128 .f32 :=
  k0_pay10 (F := Ideal) (part (ms3 t) (hs3 t) (Y 3) ![0, 0] ![512, 512] (fun a => by match a with | ⟨0, _⟩ => exact le_refl 512 | ⟨1, _⟩ => exact le_refl 512)) (part (ms14 t) (hs14 t) (Y 14) ![0, 0] ![512, 256] (fun a => by match a with | ⟨0, _⟩ => exact le_refl 512 | ⟨1, _⟩ => exact le_refl 256)) (part (ms15 t) (hs15 t) (Y 15) ![0, 0] ![1, 256] (fun a => by match a with | ⟨0, _⟩ => exact le_refl 1 | ⟨1, _⟩ => exact le_refl 256)) (part (ms16 t) (hs16 t) (Y 16) ![0, 0] ![256, 256] (fun a => by match a with | ⟨0, _⟩ => exact le_refl 256 | ⟨1, _⟩ => exact le_refl 256)) (part (ms17 t) (hs17 t) (Y 17) ![0, 0] ![1, 256] (fun a => by match a with | ⟨0, _⟩ => exact le_refl 1 | ⟨1, _⟩ => exact le_refl 256)) (part (ms20 t) (hs20 t) (Y 20) ![0, 0] ![256, 128] (fun a => by match a with | ⟨0, _⟩ => exact le_refl 256 | ⟨1, _⟩ => exact le_refl 128)) (part (ms21 t) (hs21 t) (Y 21) ![0, 0] ![1, 128] (fun a => by match a with | ⟨0, _⟩ => exact le_refl 1 | ⟨1, _⟩ => exact le_refl 128))

theorem lvA1_apply (t : Fin cfg0.N) (Y : Stg Ideal) :
    mat (lvA1 t Y) = dense (Cert.Math.hidden (mat (M := 512) (N := 512) (Y 3)) (mat (M := 512) (N := 256) (Y 14)) (row (N := 256) (Y 15)) (mat (M := 256) (N := 256) (Y 16)) (row (N := 256) (Y 17))) (mat (M := 256) (N := 128) (Y 20)) (row (N := 128) (Y 21)) := by
  have e3 := part_whole (P := 512) (Q := 512) (ms3 t) (hs3 t) (Y 3) (fun a => by match a with | ⟨0, _⟩ => exact le_refl 512 | ⟨1, _⟩ => exact le_refl 512)
  have e14 := part_whole (P := 512) (Q := 256) (ms14 t) (hs14 t) (Y 14) (fun a => by match a with | ⟨0, _⟩ => exact le_refl 512 | ⟨1, _⟩ => exact le_refl 256)
  have e15 := part_whole (P := 1) (Q := 256) (ms15 t) (hs15 t) (Y 15) (fun a => by match a with | ⟨0, _⟩ => exact le_refl 1 | ⟨1, _⟩ => exact le_refl 256)
  have e16 := part_whole (P := 256) (Q := 256) (ms16 t) (hs16 t) (Y 16) (fun a => by match a with | ⟨0, _⟩ => exact le_refl 256 | ⟨1, _⟩ => exact le_refl 256)
  have e17 := part_whole (P := 1) (Q := 256) (ms17 t) (hs17 t) (Y 17) (fun a => by match a with | ⟨0, _⟩ => exact le_refl 1 | ⟨1, _⟩ => exact le_refl 256)
  have e20 := part_whole (P := 256) (Q := 128) (ms20 t) (hs20 t) (Y 20) (fun a => by match a with | ⟨0, _⟩ => exact le_refl 256 | ⟨1, _⟩ => exact le_refl 128)
  have e21 := part_whole (P := 1) (Q := 128) (ms21 t) (hs21 t) (Y 21) (fun a => by match a with | ⟨0, _⟩ => exact le_refl 1 | ⟨1, _⟩ => exact le_refl 128)
  unfold lvA1
  rw [e3, e14, e15, e16, e17, e20, e21]
  funext r c
  exact pay10_apply _ _ _ _ _ _ _ r c

/-- The sample of the first view at a point. -/
def zA0 (t : Fin cfg0.N) (Y : Stg Ideal) : FVec Ideal S512x128 .f32 := k0_pay1 (F := Ideal) (muA0 t Y) (lvA0 t Y) (part (ms4 t) (hs4 t) (Y 4) ![0, 0] ![512, 128] (fun a => by match a with | ⟨0, _⟩ => exact le_refl 512 | ⟨1, _⟩ => exact le_refl 128))

/-- The sample of the second view at a point. -/
def zA1 (t : Fin cfg0.N) (Y : Stg Ideal) : FVec Ideal S512x128 .f32 := k0_pay1 (F := Ideal) (muA1 t Y) (lvA1 t Y) (part (ms5 t) (hs5 t) (Y 5) ![0, 0] ![512, 128] (fun a => by match a with | ⟨0, _⟩ => exact le_refl 512 | ⟨1, _⟩ => exact le_refl 128))

theorem zA0_apply (t : Fin cfg0.N) (Y : Stg Ideal) : mat (zA0 t Y) = sample (mat (muA0 t Y)) (mat (lvA0 t Y)) (mat (M := 512) (N := 128) (Y 4)) := by
  have e := part_whole (P := 512) (Q := 128) (ms4 t) (hs4 t) (Y 4) (fun a => by match a with | ⟨0, _⟩ => exact le_refl 512 | ⟨1, _⟩ => exact le_refl 128)
  unfold zA0
  rw [e]
  funext r c
  exact pay1_apply _ _ _ r c

theorem zA1_apply (t : Fin cfg0.N) (Y : Stg Ideal) : mat (zA1 t Y) = sample (mat (muA1 t Y)) (mat (lvA1 t Y)) (mat (M := 512) (N := 128) (Y 5)) := by
  have e := part_whole (P := 512) (Q := 128) (ms5 t) (hs5 t) (Y 5) (fun a => by match a with | ⟨0, _⟩ => exact le_refl 512 | ⟨1, _⟩ => exact le_refl 128)
  unfold zA1
  rw [e]
  funext r c
  exact pay1_apply _ _ _ r c

/-- The scaled samples at a point. -/
def wmA (t : Fin cfg0.N) (Y : Stg Ideal) : FVec Ideal S512x256 .bf16 := k0_pay2 (F := Ideal) (muA1 t Y) (lvA1 t Y) (zA0 t Y) (part (ms5 t) (hs5 t) (Y 5) ![0, 0] ![512, 128] (fun a => by match a with | ⟨0, _⟩ => exact le_refl 512 | ⟨1, _⟩ => exact le_refl 128))

theorem wmA_apply (t : Fin cfg0.N) (Y : Stg Ideal) (r : Fin 512) (c : Fin 256) : wmA t Y (ix2 r c) = wide (mat (zA0 t Y)) (mat (zA1 t Y)) r c :=
  pay2_apply _ _ _ _ r c

/-- The first layer's input at a point. -/
def g1A (t : Fin cfg0.N) (Y : Stg Ideal) : FVec Ideal S512x64 .f32 := k0_pay3 (F := Ideal) (muA1 t Y) (lvA1 t Y) (zA0 t Y) (part (ms5 t) (hs5 t) (Y 5) ![0, 0] ![512, 128] (fun a => by match a with | ⟨0, _⟩ => exact le_refl 512 | ⟨1, _⟩ => exact le_refl 128)) (part (ms22 t) (hs22 t) (Y 22) ![0, 0] ![128, 64] (fun a => by match a with | ⟨0, _⟩ => exact le_refl 128 | ⟨1, _⟩ => exact le_refl 64))

theorem g1A_apply (t : Fin cfg0.N) (Y : Stg Ideal) (r : Fin 512) (c : Fin 64) : g1A t Y (ix2 r c) = mm (joint (mat (zA0 t Y)) (mat (zA1 t Y))) (mat (M := 128) (N := 64) (Y 22)) r c := by
  have e := part_whole (P := 128) (Q := 64) (ms22 t) (hs22 t) (Y 22) (fun a => by match a with | ⟨0, _⟩ => exact le_refl 128 | ⟨1, _⟩ => exact le_refl 64)
  unfold g1A
  rw [e]
  exact pay3_apply _ _ _ _ _ r c

theorem off1_eq : ∀ t : Fin grid0.N, t.val < 8 → k0_off1 (grid0.coords t) = ![512 * t.val, 0] := by decide +kernel
theorem off2_eq : ∀ t : Fin grid0.N, t.val < 8 → k0_off2 (grid0.coords t) = ![512 * t.val, 0] := by decide +kernel

theorem over_muA0 (M : Memref sig .tc .vmem S512x128 .f32) (hM : M.IsWhole) (X : S512x128.Idx → Elt Ideal .f32) (c : Dev nD) (t : Fin cfg0.N) (h : t.val < 8) (Y : Stg Ideal) (S0 : Vec Ideal S4096x256 .bf16) (S1 : Vec Ideal S4096x64 .f32) (S2 : Vec Ideal S4096x1 .f32) (S3 : Vec Ideal S4096x10 .f32) (S4 : Vec Ideal S4096x4096 .bf16) :
    over M hM X (LA c t h Y S0 S1 S2 S3 S4).1 = muA0 t Y := by
  have e : (LA c t h Y S0 S1 S2 S3 S4).1 = [⟨Rect.unit ![0, 0] ![512, 128] inb_S512x128_S512x128_0_0, muA0 t Y⟩] := rfl
  rw [e]
  refine over_eq M hM X _ _ (View.cover_of_tiledL _ ![512, 128] (by sl_kernel_rfl)) fun p hp => ?_
  obtain rfl := List.mem_singleton.mp hp
  refine forall_ix2 (m := 512) (n := 128) fun r c => ?_
  exact congrArg (muA0 t Y) (emb2 (P := 512) (Q := 128) (m := 512) (n := 128) 0 0 inb_S512x128_S512x128_0_0 r c r c (Nat.zero_add _).symm (Nat.zero_add _).symm).symm

theorem over_lvA0 (M : Memref sig .tc .vmem S512x128 .f32) (hM : M.IsWhole) (X : S512x128.Idx → Elt Ideal .f32) (c : Dev nD) (t : Fin cfg0.N) (h : t.val < 8) (Y : Stg Ideal) (S0 : Vec Ideal S4096x256 .bf16) (S1 : Vec Ideal S4096x64 .f32) (S2 : Vec Ideal S4096x1 .f32) (S3 : Vec Ideal S4096x10 .f32) (S4 : Vec Ideal S4096x4096 .bf16) :
    over M hM X (LA c t h Y S0 S1 S2 S3 S4).2.1 = lvA0 t Y := by
  have e : (LA c t h Y S0 S1 S2 S3 S4).2.1 = [⟨Rect.unit ![0, 0] ![512, 128] inb_S512x128_S512x128_0_0, lvA0 t Y⟩] := rfl
  rw [e]
  refine over_eq M hM X _ _ (View.cover_of_tiledL _ ![512, 128] (by sl_kernel_rfl)) fun p hp => ?_
  obtain rfl := List.mem_singleton.mp hp
  refine forall_ix2 (m := 512) (n := 128) fun r c => ?_
  exact congrArg (lvA0 t Y) (emb2 (P := 512) (Q := 128) (m := 512) (n := 128) 0 0 inb_S512x128_S512x128_0_0 r c r c (Nat.zero_add _).symm (Nat.zero_add _).symm).symm

theorem over_muA1 (M : Memref sig .tc .vmem S512x128 .f32) (hM : M.IsWhole) (X : S512x128.Idx → Elt Ideal .f32) (c : Dev nD) (t : Fin cfg0.N) (h : t.val < 8) (Y : Stg Ideal) (S0 : Vec Ideal S4096x256 .bf16) (S1 : Vec Ideal S4096x64 .f32) (S2 : Vec Ideal S4096x1 .f32) (S3 : Vec Ideal S4096x10 .f32) (S4 : Vec Ideal S4096x4096 .bf16) :
    over M hM X (LA c t h Y S0 S1 S2 S3 S4).2.2.1 = muA1 t Y := by
  have e : (LA c t h Y S0 S1 S2 S3 S4).2.2.1 = [⟨Rect.unit ![0, 0] ![512, 128] inb_S512x128_S512x128_0_0, muA1 t Y⟩] := rfl
  rw [e]
  refine over_eq M hM X _ _ (View.cover_of_tiledL _ ![512, 128] (by sl_kernel_rfl)) fun p hp => ?_
  obtain rfl := List.mem_singleton.mp hp
  refine forall_ix2 (m := 512) (n := 128) fun r c => ?_
  exact congrArg (muA1 t Y) (emb2 (P := 512) (Q := 128) (m := 512) (n := 128) 0 0 inb_S512x128_S512x128_0_0 r c r c (Nat.zero_add _).symm (Nat.zero_add _).symm).symm

theorem over_lvA1 (M : Memref sig .tc .vmem S512x128 .f32) (hM : M.IsWhole) (X : S512x128.Idx → Elt Ideal .f32) (c : Dev nD) (t : Fin cfg0.N) (h : t.val < 8) (Y : Stg Ideal) (S0 : Vec Ideal S4096x256 .bf16) (S1 : Vec Ideal S4096x64 .f32) (S2 : Vec Ideal S4096x1 .f32) (S3 : Vec Ideal S4096x10 .f32) (S4 : Vec Ideal S4096x4096 .bf16) :
    over M hM X (LA c t h Y S0 S1 S2 S3 S4).2.2.2.1 = lvA1 t Y := by
  have e : (LA c t h Y S0 S1 S2 S3 S4).2.2.2.1 = [⟨Rect.unit ![0, 0] ![512, 128] inb_S512x128_S512x128_0_0, lvA1 t Y⟩] := rfl
  rw [e]
  refine over_eq M hM X _ _ (View.cover_of_tiledL _ ![512, 128] (by sl_kernel_rfl)) fun p hp => ?_
  obtain rfl := List.mem_singleton.mp hp
  refine forall_ix2 (m := 512) (n := 128) fun r c => ?_
  exact congrArg (lvA1 t Y) (emb2 (P := 512) (Q := 128) (m := 512) (n := 128) 0 0 inb_S512x128_S512x128_0_0 r c r c (Nat.zero_add _).symm (Nat.zero_add _).symm).symm

theorem over_wmA (M : Memref sig .tc .vmem S4096x256 .bf16) (hM : M.IsWhole) (X : S4096x256.Idx → Elt Ideal .bf16) (c : Dev nD) (t : Fin cfg0.N) (h : t.val < 8) (Y : Stg Ideal) (S0 : Vec Ideal S4096x256 .bf16) (S1 : Vec Ideal S4096x64 .f32) (S2 : Vec Ideal S4096x1 .f32) (S3 : Vec Ideal S4096x10 .f32) (S4 : Vec Ideal S4096x4096 .bf16) :
    (∀ (r : Fin 512) (k : Fin 256) (r' : Fin 4096), r'.val = 512 * t.val + r.val → over M hM X (LA c t h Y S0 S1 S2 S3 S4).2.2.2.2.1 (ix2 r' k) = wmA t Y (ix2 r k))
      ∧ ∀ (r' : Fin 4096) (k : Fin 256), r'.val < 512 * t.val → over M hM X (LA c t h Y S0 S1 S2 S3 S4).2.2.2.2.1 (ix2 r' k) = X (ix2 r' k) := by
  have e : (LA c t h Y S0 S1 S2 S3 S4).2.2.2.2.1 = [⟨Rect.unit (k0_off1 (grid0.coords t)) ![512, 256] (k0_off1_inb (grid0.coords t) (condA1 t h)), wmA t Y⟩] := rfl
  rw [e]
  refine ⟨fun r k r' hr => ?_, fun r' k hr => ?_⟩
  · exact View.read_writes_cons_rows_of_mem (o := 512 * t.val) M.view _ _ _ _ (ix2 r' k) (ix2 r k) (off1_eq t h) hr rfl
  · refine (View.read_writes_cons_rows_of_not_mem (o := 512 * t.val) (W := 512) M.view _ _ _ _ (ix2 r' k) (off1_eq t h) rfl (Or.inl hr)).trans ?_
    exact congrFun (hM.read_unread X) _

theorem over_g1A (M : Memref sig .tc .vmem S4096x64 .f32) (hM : M.IsWhole) (X : S4096x64.Idx → Elt Ideal .f32) (c : Dev nD) (t : Fin cfg0.N) (h : t.val < 8) (Y : Stg Ideal) (S0 : Vec Ideal S4096x256 .bf16) (S1 : Vec Ideal S4096x64 .f32) (S2 : Vec Ideal S4096x1 .f32) (S3 : Vec Ideal S4096x10 .f32) (S4 : Vec Ideal S4096x4096 .bf16) :
    (∀ (r : Fin 512) (k : Fin 64) (r' : Fin 4096), r'.val = 512 * t.val + r.val → over M hM X (LA c t h Y S0 S1 S2 S3 S4).2.2.2.2.2 (ix2 r' k) = g1A t Y (ix2 r k))
      ∧ ∀ (r' : Fin 4096) (k : Fin 64), r'.val < 512 * t.val → over M hM X (LA c t h Y S0 S1 S2 S3 S4).2.2.2.2.2 (ix2 r' k) = X (ix2 r' k) := by
  have e : (LA c t h Y S0 S1 S2 S3 S4).2.2.2.2.2 = [⟨Rect.unit (k0_off2 (grid0.coords t)) ![512, 64] (k0_off2_inb (grid0.coords t) (condA1 t h)), g1A t Y⟩] := rfl
  rw [e]
  refine ⟨fun r k r' hr => ?_, fun r' k hr => ?_⟩
  · exact View.read_writes_cons_rows_of_mem (o := 512 * t.val) M.view _ _ _ _ (ix2 r' k) (ix2 r k) (off2_eq t h) hr rfl
  · refine (View.read_writes_cons_rows_of_not_mem (o := 512 * t.val) (W := 512) M.view _ _ _ _ (ix2 r' k) (off2_eq t h) rfl (Or.inl hr)).trans ?_
    exact congrFun (hM.read_unread X) _

end Cert.KernelIdeal.Hand

end
-- ==== Proof.Ideal.ValB.lean ====
/-
  What point 8 leaves: the adjacency matrix and its row sums.
-/
module

public import proofs.«01_k».proof.Proof.Ideal.Val

@[expose] public section

set_option maxRecDepth 16384
set_option maxHeartbeats 4000000

noncomputable section

namespace Cert.KernelIdeal.Hand

open Cert.KernelIdeal Cert.KernelIdeal.Gen Cert.Math
open Idealize.ShloMosaic Idealize.ShloMosaic.TcCoe Idealize.ShloMosaic.Tactic
open scoped BigOperators

/-- The one entry of a buffer of one entry. -/
theorem pay16_eq (Y : Vec Ideal S1x1 .f32) : k0_pay16 (F := Ideal) Y = Y (ix2 0 0) := by
  unfold k0_pay16
  exact congrArg Y (funext fun a => by match a with | ⟨0, _⟩ => exact Subsingleton.elim (α := Fin 1) _ _ | ⟨1, _⟩ => exact Subsingleton.elim (α := Fin 1) _ _)

theorem pay17_eq (Y : Vec Ideal S1x1 .f32) : k0_pay17 (F := Ideal) Y = Y (ix2 0 0) := pay16_eq Y

/-- Rows `512 i` to `512 i + 511` of the scaled samples. -/
def rowsB (S0 : Vec Ideal S4096x256 .bf16) (i : ℕ) (hi : i < 8) : Vec Ideal S512x256 .bf16 :=
  part sc0 (Memref.isWhole_whole _) S0 ![512 * i, 0] ![512, 256] (fun a => by match a with | ⟨0, _⟩ => (show 512 * i + 512 ≤ 4096); omega | ⟨1, _⟩ => exact le_refl 256)

/-- Rows `2048 j` to `2048 j + 2047` of the scaled samples. -/
def colsB (S0 : Vec Ideal S4096x256 .bf16) (j : ℕ) (hj : j < 2) : Vec Ideal S2048x256 .bf16 :=
  part sc0 (Memref.isWhole_whole _) S0 ![2048 * j, 0] ![2048, 256] (fun a => by match a with | ⟨0, _⟩ => (show 2048 * j + 2048 ≤ 4096); omega | ⟨1, _⟩ => exact le_refl 256)

theorem rowsB_apply (S0 : Vec Ideal S4096x256 .bf16) (i : ℕ) (hi : i < 8) (r : Fin 512) (k : Fin 256) :
    rowsB S0 i hi (ix2 r k) = S0 (ix2 ⟨512 * i + r.val, by have := r.isLt; omega⟩ k) :=
  part2 sc0 (Memref.isWhole_whole _) S0 (512 * i) 0 _ r k _ k rfl (Nat.zero_add _).symm

theorem colsB_apply (S0 : Vec Ideal S4096x256 .bf16) (j : ℕ) (hj : j < 2) (r : Fin 2048) (k : Fin 256) :
    colsB S0 j hj (ix2 r k) = S0 (ix2 ⟨2048 * j + r.val, by have := r.isLt; omega⟩ k) :=
  part2 sc0 (Memref.isWhole_whole _) S0 (2048 * j) 0 _ r k _ k rfl (Nat.zero_add _).symm

theorem adj_block (t th : EReal) (S0 : Vec Ideal S4096x256 .bf16) (i j : ℕ) (hi : i < 8) (hj : j < 2) (r : Fin 512) (c : Fin 2048) :
    k0_pay32 (F := Ideal) t th (rowsB S0 i hi) (colsB S0 j hj) (ix2 r c)
      = adjK t th (mat S0) ⟨512 * i + r.val, by have := r.isLt; omega⟩ ⟨2048 * j + c.val, by have := c.isLt; omega⟩ := by
  rw [pay32_apply]
  unfold adjK
  refine congrArg (fun s => half * Ideal.tanh ((half * t) * (s + th)) + half) (Finset.sum_congr rfl fun k _ => ?_)
  rw [rowsB_apply, colsB_apply]

/-- The adjacency matrix as the buffer holds it. -/
def adjBuf (t th : EReal) (S0 : Vec Ideal S4096x256 .bf16) : S4096x4096.Idx → Elt Ideal .bf16 := fun x => adjK t th (mat S0) (x 0) (x 1)

/-- The row sums as the buffer holds them. -/
def degBuf (t th : EReal) (S0 : Vec Ideal S4096x256 .bf16) : S4096x1.Idx → Elt Ideal .f32 := fun x => degK (adjK t th (mat S0)) (x 0)

theorem adj_piece (t th : EReal) (S0 : Vec Ideal S4096x256 .bf16) (i j : ℕ) (hi : i < 8) (hj : j < 2)
    (inb : ∀ a, (![512 * i, 2048 * j] : Fin 2 → ℕ) a + (![512, 2048] : Fin 2 → ℕ) a ≤ S4096x4096.size a) (x : S512x2048.Idx) :
    k0_pay33 (F := Ideal) t th (rowsB S0 i hi) (colsB S0 j hj) x = adjBuf t th S0 ((Rect.unit (s := S4096x4096) ![512 * i, 2048 * j] ![512, 2048] inb).emb x) := by
  revert x
  refine forall_ix2 (m := 512) (n := 2048) fun r c => ?_
  refine ((pay33_apply t th _ _ r c).trans (adj_block t th S0 i j hi hj r c)).trans ?_
  refine Eq.trans ?_ (congrArg (adjBuf t th S0) (emb2 (P := 4096) (Q := 4096) (m := 512) (n := 2048) (512 * i) (2048 * j) inb r c ⟨512 * i + r.val, by have := r.isLt; omega⟩ ⟨2048 * j + c.val, by have := c.isLt; omega⟩ rfl rfl).symm)
  show _ = adjK t th (mat S0) ⟨512 * i + r.val, _⟩ ⟨2048 * j + c.val, _⟩
  rfl

theorem deg_piece (t th : EReal) (S0 : Vec Ideal S4096x256 .bf16) (i : ℕ) (hi : i < 8)
    (inb : ∀ a, (![512 * i, 0] : Fin 2 → ℕ) a + (![512, 1] : Fin 2 → ℕ) a ≤ S4096x1.size a) (x : S512x1.Idx) :
    k0_pay37 (F := Ideal) t th (rowsB S0 i hi) (k0_pay34 (F := Ideal) t th (rowsB S0 i hi) (colsB S0 0 (by omega))) (colsB S0 1 (by omega)) x
      = degBuf t th S0 ((Rect.unit (s := S4096x1) ![512 * i, 0] ![512, 1] inb).emb x) := by
  revert x
  refine forall_ix2 (m := 512) (n := 1) fun r c => ?_
  obtain rfl : c = 0 := Subsingleton.elim _ _
  refine (pay37_apply t th _ _ _ r).trans ?_
  refine Eq.trans ?_ (congrArg (degBuf t th S0) (emb2 (P := 4096) (Q := 1) (m := 512) (n := 1) (512 * i) 0 inb r 0 ⟨512 * i + r.val, by have := r.isLt; omega⟩ 0 rfl rfl).symm)
  show _ = degK (adjK t th (mat S0)) ⟨512 * i + r.val, _⟩
  unfold degK
  refine congrArg₂ (· + ·) (congrArg (one + ·) (Finset.sum_congr rfl fun c _ => ?_)) (Finset.sum_congr rfl fun c _ => ?_)
  · exact (adj_block t th S0 i 0 hi (by omega) r c).trans (congrArg _ (Fin.ext (by simp)))
  · exact (adj_block t th S0 i 1 hi (by omega) r c).trans (congrArg _ (Fin.ext (by simp)))

/-- The entry of the staging buffer of a scalar, as the body loads it. -/
def sclB (w : Memref sig .tc .vmem S1x1 .f32) (h : w.IsWhole) (Y : Vec Ideal S1x1 .f32) : EReal :=
  k0_pay16 (F := Ideal) (part w h Y ![0, 0] ![1, 1] inb_S1x1_S1x1_0_0)

theorem sclB_eq (w : Memref sig .tc .vmem S1x1 .f32) (h : w.IsWhole) (Y : Vec Ideal S1x1 .f32) : sclB w h Y = Y (ix2 0 0) := by
  unfold sclB
  rw [pay16_eq]
  exact part2 (P := 1) (Q := 1) (m := 1) (n := 1) w h Y 0 0 inb_S1x1_S1x1_0_0 0 0 0 0 rfl rfl

/-- The tiles of the adjacency matrix, the last stored first. -/
def adjPieces (t : Fin cfg0.N) (Y : Stg Ideal) (S0 : Vec Ideal S4096x256 .bf16) : List (View.Piece (Elt Ideal) S4096x4096 .bf16) :=
  [⟨Rect.unit ![3584, 2048] ![512, 2048] inb_S4096x4096_S512x2048_3584_2048, k0_pay33 (F := Ideal) (sclB (ms0 t) (hs0 t) (Y 0)) (sclB (ms1 t) (hs1 t) (Y 1)) (rowsB S0 7 (by omega)) (colsB S0 1 (by omega))⟩,
   ⟨Rect.unit ![3584, 0] ![512, 2048] inb_S4096x4096_S512x2048_3584_0, k0_pay33 (F := Ideal) (sclB (ms0 t) (hs0 t) (Y 0)) (sclB (ms1 t) (hs1 t) (Y 1)) (rowsB S0 7 (by omega)) (colsB S0 0 (by omega))⟩,
   ⟨Rect.unit ![3072, 2048] ![512, 2048] inb_S4096x4096_S512x2048_3072_2048, k0_pay33 (F := Ideal) (sclB (ms0 t) (hs0 t) (Y 0)) (sclB (ms1 t) (hs1 t) (Y 1)) (rowsB S0 6 (by omega)) (colsB S0 1 (by omega))⟩,
   ⟨Rect.unit ![3072, 0] ![512, 2048] inb_S4096x4096_S512x2048_3072_0, k0_pay33 (F := Ideal) (sclB (ms0 t) (hs0 t) (Y 0)) (sclB (ms1 t) (hs1 t) (Y 1)) (rowsB S0 6 (by omega)) (colsB S0 0 (by omega))⟩,
   ⟨Rect.unit ![2560, 2048] ![512, 2048] inb_S4096x4096_S512x2048_2560_2048, k0_pay33 (F := Ideal) (sclB (ms0 t) (hs0 t) (Y 0)) (sclB (ms1 t) (hs1 t) (Y 1)) (rowsB S0 5 (by omega)) (colsB S0 1 (by omega))⟩,
   ⟨Rect.unit ![2560, 0] ![512, 2048] inb_S4096x4096_S512x2048_2560_0, k0_pay33 (F := Ideal) (sclB (ms0 t) (hs0 t) (Y 0)) (sclB (ms1 t) (hs1 t) (Y 1)) (rowsB S0 5 (by omega)) (colsB S0 0 (by omega))⟩,
   ⟨Rect.unit ![2048, 2048] ![512, 2048] inb_S4096x4096_S512x2048_2048_2048, k0_pay33 (F := Ideal) (sclB (ms0 t) (hs0 t) (Y 0)) (sclB (ms1 t) (hs1 t) (Y 1)) (rowsB S0 4 (by omega)) (colsB S0 1 (by omega))⟩,
   ⟨Rect.unit ![2048, 0] ![512, 2048] inb_S4096x4096_S512x2048_2048_0, k0_pay33 (F := Ideal) (sclB (ms0 t) (hs0 t) (Y 0)) (sclB (ms1 t) (hs1 t) (Y 1)) (rowsB S0 4 (by omega)) (colsB S0 0 (by omega))⟩,
   ⟨Rect.unit ![1536, 2048] ![512, 2048] inb_S4096x4096_S512x2048_1536_2048, k0_pay33 (F := Ideal) (sclB (ms0 t) (hs0 t) (Y 0)) (sclB (ms1 t) (hs1 t) (Y 1)) (rowsB S0 3 (by omega)) (colsB S0 1 (by omega))⟩,
   ⟨Rect.unit ![1536, 0] ![512, 2048] inb_S4096x4096_S512x2048_1536_0, k0_pay33 (F := Ideal) (sclB (ms0 t) (hs0 t) (Y 0)) (sclB (ms1 t) (hs1 t) (Y 1)) (rowsB S0 3 (by omega)) (colsB S0 0 (by omega))⟩,
   ⟨Rect.unit ![1024, 2048] ![512, 2048] inb_S4096x4096_S512x2048_1024_2048, k0_pay33 (F := Ideal) (sclB (ms0 t) (hs0 t) (Y 0)) (sclB (ms1 t) (hs1 t) (Y 1)) (rowsB S0 2 (by omega)) (colsB S0 1 (by omega))⟩,
   ⟨Rect.unit ![1024, 0] ![512, 2048] inb_S4096x4096_S512x2048_1024_0, k0_pay33 (F := Ideal) (sclB (ms0 t) (hs0 t) (Y 0)) (sclB (ms1 t) (hs1 t) (Y 1)) (rowsB S0 2 (by omega)) (colsB S0 0 (by omega))⟩,
   ⟨Rect.unit ![512, 2048] ![512, 2048] inb_S4096x4096_S512x2048_512_2048, k0_pay33 (F := Ideal) (sclB (ms0 t) (hs0 t) (Y 0)) (sclB (ms1 t) (hs1 t) (Y 1)) (rowsB S0 1 (by omega)) (colsB S0 1 (by omega))⟩,
   ⟨Rect.unit ![512, 0] ![512, 2048] inb_S4096x4096_S512x2048_512_0, k0_pay33 (F := Ideal) (sclB (ms0 t) (hs0 t) (Y 0)) (sclB (ms1 t) (hs1 t) (Y 1)) (rowsB S0 1 (by omega)) (colsB S0 0 (by omega))⟩,
   ⟨Rect.unit ![0, 2048] ![512, 2048] inb_S4096x4096_S512x2048_0_2048, k0_pay33 (F := Ideal) (sclB (ms0 t) (hs0 t) (Y 0)) (sclB (ms1 t) (hs1 t) (Y 1)) (rowsB S0 0 (by omega)) (colsB S0 1 (by omega))⟩,
   ⟨Rect.unit ![0, 0] ![512, 2048] inb_S4096x4096_S512x2048_0_0, k0_pay33 (F := Ideal) (sclB (ms0 t) (hs0 t) (Y 0)) (sclB (ms1 t) (hs1 t) (Y 1)) (rowsB S0 0 (by omega)) (colsB S0 0 (by omega))⟩]

/-- The blocks of the row sums, the last stored first. -/
def degPieces (t : Fin cfg0.N) (Y : Stg Ideal) (S0 : Vec Ideal S4096x256 .bf16) : List (View.Piece (Elt Ideal) S4096x1 .f32) :=
  [⟨Rect.unit ![3584, 0] ![512, 1] inb_S4096x1_S512x1_3584_0, k0_pay37 (F := Ideal) (sclB (ms0 t) (hs0 t) (Y 0)) (sclB (ms1 t) (hs1 t) (Y 1)) (rowsB S0 7 (by omega)) (k0_pay34 (F := Ideal) (sclB (ms0 t) (hs0 t) (Y 0)) (sclB (ms1 t) (hs1 t) (Y 1)) (rowsB S0 7 (by omega)) (colsB S0 0 (by omega))) (colsB S0 1 (by omega))⟩,
   ⟨Rect.unit ![3072, 0] ![512, 1] inb_S4096x1_S512x1_3072_0, k0_pay37 (F := Ideal) (sclB (ms0 t) (hs0 t) (Y 0)) (sclB (ms1 t) (hs1 t) (Y 1)) (rowsB S0 6 (by omega)) (k0_pay34 (F := Ideal) (sclB (ms0 t) (hs0 t) (Y 0)) (sclB (ms1 t) (hs1 t) (Y 1)) (rowsB S0 6 (by omega)) (colsB S0 0 (by omega))) (colsB S0 1 (by omega))⟩,
   ⟨Rect.unit ![2560, 0] ![512, 1] inb_S4096x1_S512x1_2560_0, k0_pay37 (F := Ideal) (sclB (ms0 t) (hs0 t) (Y 0)) (sclB (ms1 t) (hs1 t) (Y 1)) (rowsB S0 5 (by omega)) (k0_pay34 (F := Ideal) (sclB (ms0 t) (hs0 t) (Y 0)) (sclB (ms1 t) (hs1 t) (Y 1)) (rowsB S0 5 (by omega)) (colsB S0 0 (by omega))) (colsB S0 1 (by omega))⟩,
   ⟨Rect.unit ![2048, 0] ![512, 1] inb_S4096x1_S512x1_2048_0, k0_pay37 (F := Ideal) (sclB (ms0 t) (hs0 t) (Y 0)) (sclB (ms1 t) (hs1 t) (Y 1)) (rowsB S0 4 (by omega)) (k0_pay34 (F := Ideal) (sclB (ms0 t) (hs0 t) (Y 0)) (sclB (ms1 t) (hs1 t) (Y 1)) (rowsB S0 4 (by omega)) (colsB S0 0 (by omega))) (colsB S0 1 (by omega))⟩,
   ⟨Rect.unit ![1536, 0] ![512, 1] inb_S4096x1_S512x1_1536_0, k0_pay37 (F := Ideal) (sclB (ms0 t) (hs0 t) (Y 0)) (sclB (ms1 t) (hs1 t) (Y 1)) (rowsB S0 3 (by omega)) (k0_pay34 (F := Ideal) (sclB (ms0 t) (hs0 t) (Y 0)) (sclB (ms1 t) (hs1 t) (Y 1)) (rowsB S0 3 (by omega)) (colsB S0 0 (by omega))) (colsB S0 1 (by omega))⟩,
   ⟨Rect.unit ![1024, 0] ![512, 1] inb_S4096x1_S512x1_1024_0, k0_pay37 (F := Ideal) (sclB (ms0 t) (hs0 t) (Y 0)) (sclB (ms1 t) (hs1 t) (Y 1)) (rowsB S0 2 (by omega)) (k0_pay34 (F := Ideal) (sclB (ms0 t) (hs0 t) (Y 0)) (sclB (ms1 t) (hs1 t) (Y 1)) (rowsB S0 2 (by omega)) (colsB S0 0 (by omega))) (colsB S0 1 (by omega))⟩,
   ⟨Rect.unit ![512, 0] ![512, 1] inb_S4096x1_S512x1_512_0, k0_pay37 (F := Ideal) (sclB (ms0 t) (hs0 t) (Y 0)) (sclB (ms1 t) (hs1 t) (Y 1)) (rowsB S0 1 (by omega)) (k0_pay34 (F := Ideal) (sclB (ms0 t) (hs0 t) (Y 0)) (sclB (ms1 t) (hs1 t) (Y 1)) (rowsB S0 1 (by omega)) (colsB S0 0 (by omega))) (colsB S0 1 (by omega))⟩,
   ⟨Rect.unit ![0, 0] ![512, 1] inb_S4096x1_S512x1_0_0, k0_pay37 (F := Ideal) (sclB (ms0 t) (hs0 t) (Y 0)) (sclB (ms1 t) (hs1 t) (Y 1)) (rowsB S0 0 (by omega)) (k0_pay34 (F := Ideal) (sclB (ms0 t) (hs0 t) (Y 0)) (sclB (ms1 t) (hs1 t) (Y 1)) (rowsB S0 0 (by omega)) (colsB S0 0 (by omega))) (colsB S0 1 (by omega))⟩]

theorem LB_adj (c : Dev nD) (t : Fin cfg0.N) (h : t.val = 8) (Y : Stg Ideal) (S0 : Vec Ideal S4096x256 .bf16) (S1 : Vec Ideal S4096x64 .f32) (S2 : Vec Ideal S4096x1 .f32) (S3 : Vec Ideal S4096x10 .f32) (S4 : Vec Ideal S4096x4096 .bf16) : (LB c t h Y S0 S1 S2 S3 S4).2 = adjPieces t Y S0 := rfl

theorem LB_deg (c : Dev nD) (t : Fin cfg0.N) (h : t.val = 8) (Y : Stg Ideal) (S0 : Vec Ideal S4096x256 .bf16) (S1 : Vec Ideal S4096x64 .f32) (S2 : Vec Ideal S4096x1 .f32) (S3 : Vec Ideal S4096x10 .f32) (S4 : Vec Ideal S4096x4096 .bf16) : (LB c t h Y S0 S1 S2 S3 S4).1 = degPieces t Y S0 := rfl

theorem over_adj (M : Memref sig .tc .vmem S4096x4096 .bf16) (hM : M.IsWhole) (X : S4096x4096.Idx → Elt Ideal .bf16) (c : Dev nD) (t : Fin cfg0.N) (h : t.val = 8) (Y : Stg Ideal) (S0 : Vec Ideal S4096x256 .bf16) (S1 : Vec Ideal S4096x64 .f32) (S2 : Vec Ideal S4096x1 .f32) (S3 : Vec Ideal S4096x10 .f32) (S4 : Vec Ideal S4096x4096 .bf16) :
    over M hM X (LB c t h Y S0 S1 S2 S3 S4).2 = adjBuf (Y 0 (ix2 0 0)) (Y 1 (ix2 0 0)) S0 := by
  rw [LB_adj, ← sclB_eq (ms0 t) (hs0 t) (Y 0), ← sclB_eq (ms1 t) (hs1 t) (Y 1)]
  refine over_eq M hM X _ _ (View.cover_of_tiledL _ ![512, 2048] (by sl_kernel_rfl)) ?_
  unfold adjPieces
  simp only [List.forall_mem_cons]
  refine ⟨adj_piece _ _ S0 7 1 (by omega) (by omega) _, adj_piece _ _ S0 7 0 (by omega) (by omega) _, adj_piece _ _ S0 6 1 (by omega) (by omega) _, adj_piece _ _ S0 6 0 (by omega) (by omega) _, adj_piece _ _ S0 5 1 (by omega) (by omega) _, adj_piece _ _ S0 5 0 (by omega) (by omega) _, adj_piece _ _ S0 4 1 (by omega) (by omega) _, adj_piece _ _ S0 4 0 (by omega) (by omega) _, adj_piece _ _ S0 3 1 (by omega) (by omega) _, adj_piece _ _ S0 3 0 (by omega) (by omega) _, adj_piece _ _ S0 2 1 (by omega) (by omega) _, adj_piece _ _ S0 2 0 (by omega) (by omega) _, adj_piece _ _ S0 1 1 (by omega) (by omega) _, adj_piece _ _ S0 1 0 (by omega) (by omega) _, adj_piece _ _ S0 0 1 (by omega) (by omega) _, adj_piece _ _ S0 0 0 (by omega) (by omega) _, fun p hp => absurd hp List.not_mem_nil⟩

theorem over_deg (M : Memref sig .tc .vmem S4096x1 .f32) (hM : M.IsWhole) (X : S4096x1.Idx → Elt Ideal .f32) (c : Dev nD) (t : Fin cfg0.N) (h : t.val = 8) (Y : Stg Ideal) (S0 : Vec Ideal S4096x256 .bf16) (S1 : Vec Ideal S4096x64 .f32) (S2 : Vec Ideal S4096x1 .f32) (S3 : Vec Ideal S4096x10 .f32) (S4 : Vec Ideal S4096x4096 .bf16) :
    over M hM X (LB c t h Y S0 S1 S2 S3 S4).1 = degBuf (Y 0 (ix2 0 0)) (Y 1 (ix2 0 0)) S0 := by
  rw [LB_deg, ← sclB_eq (ms0 t) (hs0 t) (Y 0), ← sclB_eq (ms1 t) (hs1 t) (Y 1)]
  refine over_eq M hM X _ _ (View.cover_of_tiledL _ ![512, 1] (by sl_kernel_rfl)) ?_
  unfold degPieces
  simp only [List.forall_mem_cons]
  refine ⟨deg_piece _ _ S0 7 (by omega) _, deg_piece _ _ S0 6 (by omega) _, deg_piece _ _ S0 5 (by omega) _, deg_piece _ _ S0 4 (by omega) _, deg_piece _ _ S0 3 (by omega) _, deg_piece _ _ S0 2 (by omega) _, deg_piece _ _ S0 1 (by omega) _, deg_piece _ _ S0 0 (by omega) _, fun p hp => absurd hp List.not_mem_nil⟩

end Cert.KernelIdeal.Hand

end
-- ==== Proof.Ideal.ValC.lean ====
/-
  What point 9 leaves: the output of the first layer, through the weights of the second and scaled.
-/
module

public import proofs.«01_k».proof.Proof.Ideal.Val

@[expose] public section

set_option maxRecDepth 16384
set_option maxHeartbeats 1000000

noncomputable section

namespace Cert.KernelIdeal.Hand

open Cert.KernelIdeal Cert.KernelIdeal.Gen Cert.Math
open Idealize.ShloMosaic Idealize.ShloMosaic.TcCoe Idealize.ShloMosaic.Tactic
open scoped BigOperators

/-- Rows `512 i` to `512 i + 511` of the adjacency matrix. -/
def rowsA (X : Vec Ideal S4096x4096 .bf16) (i : ℕ) (hi : i < 8) : Vec Ideal S512x4096 .bf16 :=
  part sc4 (Memref.isWhole_whole _) X ![512 * i, 0] ![512, 4096] (fun a => by match a with | ⟨0, _⟩ => (show 512 * i + 512 ≤ 4096); omega | ⟨1, _⟩ => exact le_refl 4096)

theorem rowsA_apply (X : Vec Ideal S4096x4096 .bf16) (i : ℕ) (hi : i < 8) (r : Fin 512) (k : Fin 4096) :
    rowsA X i hi (ix2 r k) = X (ix2 ⟨512 * i + r.val, by have := r.isLt; omega⟩ k) :=
  part2 sc4 (Memref.isWhole_whole _) X (512 * i) 0 _ r k _ k rfl (Nat.zero_add _).symm

/-- Rows `512 i` to `512 i + 511` of the row sums. -/
def rowsR (X : Vec Ideal S4096x1 .f32) (i : ℕ) (hi : i < 8) : Vec Ideal S512x1 .f32 :=
  part sc2 (Memref.isWhole_whole _) X ![512 * i, 0] ![512, 1] (fun a => by match a with | ⟨0, _⟩ => (show 512 * i + 512 ≤ 4096); omega | ⟨1, _⟩ => exact le_refl 1)

theorem rowsR_apply (X : Vec Ideal S4096x1 .f32) (i : ℕ) (hi : i < 8) (r : Fin 512) (k : Fin 1) :
    rowsR X i hi (ix2 r k) = X (ix2 ⟨512 * i + r.val, by have := r.isLt; omega⟩ k) :=
  part2 sc2 (Memref.isWhole_whole _) X (512 * i) 0 _ r k _ k rfl (Nat.zero_add _).symm

/-- Rows `512 i` to `512 i + 511` of the first layer's input. -/
def rowsG (X : Vec Ideal S4096x64 .f32) (i : ℕ) (hi : i < 8) : Vec Ideal S512x64 .f32 :=
  part sc1 (Memref.isWhole_whole _) X ![512 * i, 0] ![512, 64] (fun a => by match a with | ⟨0, _⟩ => (show 512 * i + 512 ≤ 4096); omega | ⟨1, _⟩ => exact le_refl 64)

theorem rowsG_apply (X : Vec Ideal S4096x64 .f32) (i : ℕ) (hi : i < 8) (r : Fin 512) (k : Fin 64) :
    rowsG X i hi (ix2 r k) = X (ix2 ⟨512 * i + r.val, by have := r.isLt; omega⟩ k) :=
  part2 sc1 (Memref.isWhole_whole _) X (512 * i) 0 _ r k _ k rfl (Nat.zero_add _).symm

/-- The first layer's output as the buffer holds it. -/
def layBuf (S1 : Vec Ideal S4096x64 .f32) (S2 : Vec Ideal S4096x1 .f32) (S4 : Vec Ideal S4096x4096 .bf16) (b : Vec Ideal S1x64 .f32) (W : Vec Ideal S64x10 .f32) : S4096x10.Idx → Elt Ideal .f32 := fun x =>
  layer1K (mat S4) (fun r => Ideal.rsqrt (S2 (ix2 r 0))) (mat S1) (row b) (mat W) (x 0) (x 1)

theorem lay_piece (S1 : Vec Ideal S4096x64 .f32) (S2 : Vec Ideal S4096x1 .f32) (S4 : Vec Ideal S4096x4096 .bf16) (b : Vec Ideal S1x64 .f32) (W : Vec Ideal S64x10 .f32) (i : ℕ) (hi : i < 8)
    (inb : ∀ a, (![512 * i, 0] : Fin 2 → ℕ) a + (![512, 10] : Fin 2 → ℕ) a ≤ S4096x10.size a) (x : S512x10.Idx) :
    k0_pay78 (F := Ideal) (k0_pay69 (F := Ideal) S1 S2) (rowsA S4 i hi) (rowsR S2 i hi) (rowsG S1 i hi) b W x
      = layBuf S1 S2 S4 b W ((Rect.unit (s := S4096x10) ![512 * i, 0] ![512, 10] inb).emb x) := by
  revert x
  refine forall_ix2 (m := 512) (n := 10) fun r c => ?_
  refine Eq.trans ?_ (congrArg (layBuf S1 S2 S4 b W) (emb2 (P := 4096) (Q := 10) (m := 512) (n := 10) (512 * i) 0 inb r c ⟨512 * i + r.val, by have := r.isLt; omega⟩ c rfl (Nat.zero_add _).symm).symm)
  refine (pay78_apply _ _ _ _ _ _ r c).trans ?_
  show _ = layer1K (mat S4) (fun r => Ideal.rsqrt (S2 (ix2 r 0))) (mat S1) (row b) (mat W) ⟨512 * i + r.val, _⟩ c
  unfold layer1K
  simp only [rowsA_apply, rowsR_apply, rowsG_apply, pay69_apply]

/-- The blocks of the first layer's output, the last stored first. -/
def layPieces (t : Fin cfg0.N) (Y : Stg Ideal) (S1 : Vec Ideal S4096x64 .f32) (S2 : Vec Ideal S4096x1 .f32) (S4 : Vec Ideal S4096x4096 .bf16) : List (View.Piece (Elt Ideal) S4096x10 .f32) :=
  [⟨Rect.unit ![3584, 0] ![512, 10] inb_S4096x10_S512x10_3584_0, k0_pay78 (F := Ideal) (k0_pay69 (F := Ideal) (part sc1 (Memref.isWhole_whole _) S1 ![0, 0] ![4096, 64] (fun a => by match a with | ⟨0, _⟩ => exact le_refl 4096 | ⟨1, _⟩ => exact le_refl 64)) (part sc2 (Memref.isWhole_whole _) S2 ![0, 0] ![4096, 1] (fun a => by match a with | ⟨0, _⟩ => exact le_refl 4096 | ⟨1, _⟩ => exact le_refl 1))) (rowsA S4 7 (by omega)) (rowsR S2 7 (by omega)) (rowsG S1 7 (by omega)) (part (ms23 t) (hs23 t) (Y 23) ![0, 0] ![1, 64] (fun a => by match a with | ⟨0, _⟩ => exact le_refl 1 | ⟨1, _⟩ => exact le_refl 64)) (part (ms24 t) (hs24 t) (Y 24) ![0, 0] ![64, 10] (fun a => by match a with | ⟨0, _⟩ => exact le_refl 64 | ⟨1, _⟩ => exact le_refl 10))⟩,
   ⟨Rect.unit ![3072, 0] ![512, 10] inb_S4096x10_S512x10_3072_0, k0_pay78 (F := Ideal) (k0_pay69 (F := Ideal) (part sc1 (Memref.isWhole_whole _) S1 ![0, 0] ![4096, 64] (fun a => by match a with | ⟨0, _⟩ => exact le_refl 4096 | ⟨1, _⟩ => exact le_refl 64)) (part sc2 (Memref.isWhole_whole _) S2 ![0, 0] ![4096, 1] (fun a => by match a with | ⟨0, _⟩ => exact le_refl 4096 | ⟨1, _⟩ => exact le_refl 1))) (rowsA S4 6 (by omega)) (rowsR S2 6 (by omega)) (rowsG S1 6 (by omega)) (part (ms23 t) (hs23 t) (Y 23) ![0, 0] ![1, 64] (fun a => by match a with | ⟨0, _⟩ => exact le_refl 1 | ⟨1, _⟩ => exact le_refl 64)) (part (ms24 t) (hs24 t) (Y 24) ![0, 0] ![64, 10] (fun a => by match a with | ⟨0, _⟩ => exact le_refl 64 | ⟨1, _⟩ => exact le_refl 10))⟩,
   ⟨Rect.unit ![2560, 0] ![512, 10] inb_S4096x10_S512x10_2560_0, k0_pay78 (F := Ideal) (k0_pay69 (F := Ideal) (part sc1 (Memref.isWhole_whole _) S1 ![0, 0] ![4096, 64] (fun a => by match a with | ⟨0, _⟩ => exact le_refl 4096 | ⟨1, _⟩ => exact le_refl 64)) (part sc2 (Memref.isWhole_whole _) S2 ![0, 0] ![4096, 1] (fun a => by match a with | ⟨0, _⟩ => exact le_refl 4096 | ⟨1, _⟩ => exact le_refl 1))) (rowsA S4 5 (by omega)) (rowsR S2 5 (by omega)) (rowsG S1 5 (by omega)) (part (ms23 t) (hs23 t) (Y 23) ![0, 0] ![1, 64] (fun a => by match a with | ⟨0, _⟩ => exact le_refl 1 | ⟨1, _⟩ => exact le_refl 64)) (part (ms24 t) (hs24 t) (Y 24) ![0, 0] ![64, 10] (fun a => by match a with | ⟨0, _⟩ => exact le_refl 64 | ⟨1, _⟩ => exact le_refl 10))⟩,
   ⟨Rect.unit ![2048, 0] ![512, 10] inb_S4096x10_S512x10_2048_0, k0_pay78 (F := Ideal) (k0_pay69 (F := Ideal) (part sc1 (Memref.isWhole_whole _) S1 ![0, 0] ![4096, 64] (fun a => by match a with | ⟨0, _⟩ => exact le_refl 4096 | ⟨1, _⟩ => exact le_refl 64)) (part sc2 (Memref.isWhole_whole _) S2 ![0, 0] ![4096, 1] (fun a => by match a with | ⟨0, _⟩ => exact le_refl 4096 | ⟨1, _⟩ => exact le_refl 1))) (rowsA S4 4 (by omega)) (rowsR S2 4 (by omega)) (rowsG S1 4 (by omega)) (part (ms23 t) (hs23 t) (Y 23) ![0, 0] ![1, 64] (fun a => by match a with | ⟨0, _⟩ => exact le_refl 1 | ⟨1, _⟩ => exact le_refl 64)) (part (ms24 t) (hs24 t) (Y 24) ![0, 0] ![64, 10] (fun a => by match a with | ⟨0, _⟩ => exact le_refl 64 | ⟨1, _⟩ => exact le_refl 10))⟩,
   ⟨Rect.unit ![1536, 0] ![512, 10] inb_S4096x10_S512x10_1536_0, k0_pay78 (F := Ideal) (k0_pay69 (F := Ideal) (part sc1 (Memref.isWhole_whole _) S1 ![0, 0] ![4096, 64] (fun a => by match a with | ⟨0, _⟩ => exact le_refl 4096 | ⟨1, _⟩ => exact le_refl 64)) (part sc2 (Memref.isWhole_whole _) S2 ![0, 0] ![4096, 1] (fun a => by match a with | ⟨0, _⟩ => exact le_refl 4096 | ⟨1, _⟩ => exact le_refl 1))) (rowsA S4 3 (by omega)) (rowsR S2 3 (by omega)) (rowsG S1 3 (by omega)) (part (ms23 t) (hs23 t) (Y 23) ![0, 0] ![1, 64] (fun a => by match a with | ⟨0, _⟩ => exact le_refl 1 | ⟨1, _⟩ => exact le_refl 64)) (part (ms24 t) (hs24 t) (Y 24) ![0, 0] ![64, 10] (fun a => by match a with | ⟨0, _⟩ => exact le_refl 64 | ⟨1, _⟩ => exact le_refl 10))⟩,
   ⟨Rect.unit ![1024, 0] ![512, 10] inb_S4096x10_S512x10_1024_0, k0_pay78 (F := Ideal) (k0_pay69 (F := Ideal) (part sc1 (Memref.isWhole_whole _) S1 ![0, 0] ![4096, 64] (fun a => by match a with | ⟨0, _⟩ => exact le_refl 4096 | ⟨1, _⟩ => exact le_refl 64)) (part sc2 (Memref.isWhole_whole _) S2 ![0, 0] ![4096, 1] (fun a => by match a with | ⟨0, _⟩ => exact le_refl 4096 | ⟨1, _⟩ => exact le_refl 1))) (rowsA S4 2 (by omega)) (rowsR S2 2 (by omega)) (rowsG S1 2 (by omega)) (part (ms23 t) (hs23 t) (Y 23) ![0, 0] ![1, 64] (fun a => by match a with | ⟨0, _⟩ => exact le_refl 1 | ⟨1, _⟩ => exact le_refl 64)) (part (ms24 t) (hs24 t) (Y 24) ![0, 0] ![64, 10] (fun a => by match a with | ⟨0, _⟩ => exact le_refl 64 | ⟨1, _⟩ => exact le_refl 10))⟩,
   ⟨Rect.unit ![512, 0] ![512, 10] inb_S4096x10_S512x10_512_0, k0_pay78 (F := Ideal) (k0_pay69 (F := Ideal) (part sc1 (Memref.isWhole_whole _) S1 ![0, 0] ![4096, 64] (fun a => by match a with | ⟨0, _⟩ => exact le_refl 4096 | ⟨1, _⟩ => exact le_refl 64)) (part sc2 (Memref.isWhole_whole _) S2 ![0, 0] ![4096, 1] (fun a => by match a with | ⟨0, _⟩ => exact le_refl 4096 | ⟨1, _⟩ => exact le_refl 1))) (rowsA S4 1 (by omega)) (rowsR S2 1 (by omega)) (rowsG S1 1 (by omega)) (part (ms23 t) (hs23 t) (Y 23) ![0, 0] ![1, 64] (fun a => by match a with | ⟨0, _⟩ => exact le_refl 1 | ⟨1, _⟩ => exact le_refl 64)) (part (ms24 t) (hs24 t) (Y 24) ![0, 0] ![64, 10] (fun a => by match a with | ⟨0, _⟩ => exact le_refl 64 | ⟨1, _⟩ => exact le_refl 10))⟩,
   ⟨Rect.unit ![0, 0] ![512, 10] inb_S4096x10_S512x10_0_0, k0_pay78 (F := Ideal) (k0_pay69 (F := Ideal) (part sc1 (Memref.isWhole_whole _) S1 ![0, 0] ![4096, 64] (fun a => by match a with | ⟨0, _⟩ => exact le_refl 4096 | ⟨1, _⟩ => exact le_refl 64)) (part sc2 (Memref.isWhole_whole _) S2 ![0, 0] ![4096, 1] (fun a => by match a with | ⟨0, _⟩ => exact le_refl 4096 | ⟨1, _⟩ => exact le_refl 1))) (rowsA S4 0 (by omega)) (rowsR S2 0 (by omega)) (rowsG S1 0 (by omega)) (part (ms23 t) (hs23 t) (Y 23) ![0, 0] ![1, 64] (fun a => by match a with | ⟨0, _⟩ => exact le_refl 1 | ⟨1, _⟩ => exact le_refl 64)) (part (ms24 t) (hs24 t) (Y 24) ![0, 0] ![64, 10] (fun a => by match a with | ⟨0, _⟩ => exact le_refl 64 | ⟨1, _⟩ => exact le_refl 10))⟩]

theorem LC_eq (c : Dev nD) (t : Fin cfg0.N) (h : t.val = 9) (Y : Stg Ideal) (S0 : Vec Ideal S4096x256 .bf16) (S1 : Vec Ideal S4096x64 .f32) (S2 : Vec Ideal S4096x1 .f32) (S3 : Vec Ideal S4096x10 .f32) (S4 : Vec Ideal S4096x4096 .bf16) : LC c t h Y S0 S1 S2 S3 S4 = layPieces t Y S1 S2 S4 := rfl

theorem over_lay (M : Memref sig .tc .vmem S4096x10 .f32) (hM : M.IsWhole) (X : S4096x10.Idx → Elt Ideal .f32) (c : Dev nD) (t : Fin cfg0.N) (h : t.val = 9) (Y : Stg Ideal) (S0 : Vec Ideal S4096x256 .bf16) (S1 : Vec Ideal S4096x64 .f32) (S2 : Vec Ideal S4096x1 .f32) (S3 : Vec Ideal S4096x10 .f32) (S4 : Vec Ideal S4096x4096 .bf16) :
    over M hM X (LC c t h Y S0 S1 S2 S3 S4) = layBuf S1 S2 S4 (Y 23) (Y 24) := by
  rw [LC_eq]
  refine over_eq M hM X _ _ (View.cover_of_tiledL _ ![512, 10] (by sl_kernel_rfl)) ?_
  have e1 := part_whole sc1 (Memref.isWhole_whole _) S1 (fun a => by match a with | ⟨0, _⟩ => exact le_refl 4096 | ⟨1, _⟩ => exact le_refl 64)
  have e2 := part_whole sc2 (Memref.isWhole_whole _) S2 (fun a => by match a with | ⟨0, _⟩ => exact le_refl 4096 | ⟨1, _⟩ => exact le_refl 1)
  have e3 := part_whole (ms23 t) (hs23 t) (Y 23) (fun a => by match a with | ⟨0, _⟩ => exact le_refl 1 | ⟨1, _⟩ => exact le_refl 64)
  have e4 := part_whole (ms24 t) (hs24 t) (Y 24) (fun a => by match a with | ⟨0, _⟩ => exact le_refl 64 | ⟨1, _⟩ => exact le_refl 10)
  unfold layPieces
  rw [e1, e2, e3, e4]
  simp only [List.forall_mem_cons]
  refine ⟨lay_piece S1 S2 S4 _ _ 7 (by omega) _, lay_piece S1 S2 S4 _ _ 6 (by omega) _, lay_piece S1 S2 S4 _ _ 5 (by omega) _, lay_piece S1 S2 S4 _ _ 4 (by omega) _, lay_piece S1 S2 S4 _ _ 3 (by omega) _, lay_piece S1 S2 S4 _ _ 2 (by omega) _, lay_piece S1 S2 S4 _ _ 1 (by omega) _, lay_piece S1 S2 S4 _ _ 0 (by omega) _, fun p hp => absurd hp List.not_mem_nil⟩

end Cert.KernelIdeal.Hand

end
-- ==== Proof.Ideal.ValD.lean ====
/-
  What point 10 leaves: the logarithm of the softmax of the logits.
-/
module

public import proofs.«01_k».proof.Proof.Ideal.ValC

@[expose] public section

set_option maxRecDepth 16384
set_option maxHeartbeats 1000000

noncomputable section

namespace Cert.KernelIdeal.Hand

open Cert.KernelIdeal Cert.KernelIdeal.Gen Cert.Math
open Idealize.ShloMosaic Idealize.ShloMosaic.TcCoe Idealize.ShloMosaic.Tactic
open scoped BigOperators

/-- Rows `512 i` to `512 i + 511` of the first layer's output. -/
def rowsZ (X : Vec Ideal S4096x10 .f32) (i : ℕ) (hi : i < 8) : Vec Ideal S512x10 .f32 :=
  part sc3 (Memref.isWhole_whole _) X ![512 * i, 0] ![512, 10] (fun a => by match a with | ⟨0, _⟩ => (show 512 * i + 512 ≤ 4096); omega | ⟨1, _⟩ => exact le_refl 10)

theorem rowsZ_apply (X : Vec Ideal S4096x10 .f32) (i : ℕ) (hi : i < 8) (r : Fin 512) (k : Fin 10) :
    rowsZ X i hi (ix2 r k) = X (ix2 ⟨512 * i + r.val, by have := r.isLt; omega⟩ k) :=
  part2 sc3 (Memref.isWhole_whole _) X (512 * i) 0 _ r k _ k rfl (Nat.zero_add _).symm

/-- The result as the buffer holds it. -/
def predBuf (S2 : Vec Ideal S4096x1 .f32) (S3 : Vec Ideal S4096x10 .f32) (S4 : Vec Ideal S4096x4096 .bf16) (b : Vec Ideal S1x10 .f32) : S4096x10.Idx → Elt Ideal .f32 := fun x =>
  logSoftmaxK (outK (mat S4) (fun r => Ideal.rsqrt (S2 (ix2 r 0))) (mat S3) (row b)) (x 0) (x 1)

theorem pred_piece (S2 : Vec Ideal S4096x1 .f32) (S3 : Vec Ideal S4096x10 .f32) (S4 : Vec Ideal S4096x4096 .bf16) (b : Vec Ideal S1x10 .f32) (i : ℕ) (hi : i < 8)
    (inb : ∀ a, (![512 * i, 0] : Fin 2 → ℕ) a + (![512, 10] : Fin 2 → ℕ) a ≤ S4096x10.size a) (x : S512x10.Idx) :
    k0_pay89 (F := Ideal) S3 (rowsA S4 i hi) (rowsZ S3 i hi) (rowsR S2 i hi) b x
      = predBuf S2 S3 S4 b ((Rect.unit (s := S4096x10) ![512 * i, 0] ![512, 10] inb).emb x) := by
  revert x
  refine forall_ix2 (m := 512) (n := 10) fun r c => ?_
  refine Eq.trans ?_ (congrArg (predBuf S2 S3 S4 b) (emb2 (P := 4096) (Q := 10) (m := 512) (n := 10) (512 * i) 0 inb r c ⟨512 * i + r.val, by have := r.isLt; omega⟩ c rfl (Nat.zero_add _).symm).symm)
  refine (pay89_apply _ _ _ _ _ r c).trans ?_
  have e : blockOut (mat S3) (mat (rowsA S4 i hi)) (mat (rowsZ S3 i hi)) (fun r => rowsR S2 i hi (ix2 r 0)) (row b) r
      = outK (mat S4) (fun r => Ideal.rsqrt (S2 (ix2 r 0))) (mat S3) (row b) ⟨512 * i + r.val, by have := r.isLt; omega⟩ := by
    funext j
    unfold blockOut outK
    simp only [rowsA_apply, rowsR_apply, rowsZ_apply]
  rw [e]
  rfl

/-- The blocks of the result, the last stored first. -/
def predPieces (t : Fin cfg0.N) (Y : Stg Ideal) (S2 : Vec Ideal S4096x1 .f32) (S3 : Vec Ideal S4096x10 .f32) (S4 : Vec Ideal S4096x4096 .bf16) : List (View.Piece (Elt Ideal) S4096x10 .f32) :=
  [⟨Rect.unit ![3584, 0] ![512, 10] inb_S4096x10_S512x10_3584_0, k0_pay89 (F := Ideal) (part sc3 (Memref.isWhole_whole _) S3 ![0, 0] ![4096, 10] (fun a => by match a with | ⟨0, _⟩ => exact le_refl 4096 | ⟨1, _⟩ => exact le_refl 10)) (rowsA S4 7 (by omega)) (rowsZ S3 7 (by omega)) (rowsR S2 7 (by omega)) (part (ms25 t) (hs25 t) (Y 25) ![0, 0] ![1, 10] (fun a => by match a with | ⟨0, _⟩ => exact le_refl 1 | ⟨1, _⟩ => exact le_refl 10))⟩,
   ⟨Rect.unit ![3072, 0] ![512, 10] inb_S4096x10_S512x10_3072_0, k0_pay89 (F := Ideal) (part sc3 (Memref.isWhole_whole _) S3 ![0, 0] ![4096, 10] (fun a => by match a with | ⟨0, _⟩ => exact le_refl 4096 | ⟨1, _⟩ => exact le_refl 10)) (rowsA S4 6 (by omega)) (rowsZ S3 6 (by omega)) (rowsR S2 6 (by omega)) (part (ms25 t) (hs25 t) (Y 25) ![0, 0] ![1, 10] (fun a => by match a with | ⟨0, _⟩ => exact le_refl 1 | ⟨1, _⟩ => exact le_refl 10))⟩,
   ⟨Rect.unit ![2560, 0] ![512, 10] inb_S4096x10_S512x10_2560_0, k0_pay89 (F := Ideal) (part sc3 (Memref.isWhole_whole _) S3 ![0, 0] ![4096, 10] (fun a => by match a with | ⟨0, _⟩ => exact le_refl 4096 | ⟨1, _⟩ => exact le_refl 10)) (rowsA S4 5 (by omega)) (rowsZ S3 5 (by omega)) (rowsR S2 5 (by omega)) (part (ms25 t) (hs25 t) (Y 25) ![0, 0] ![1, 10] (fun a => by match a with | ⟨0, _⟩ => exact le_refl 1 | ⟨1, _⟩ => exact le_refl 10))⟩,
   ⟨Rect.unit ![2048, 0] ![512, 10] inb_S4096x10_S512x10_2048_0, k0_pay89 (F := Ideal) (part sc3 (Memref.isWhole_whole _) S3 ![0, 0] ![4096, 10] (fun a => by match a with | ⟨0, _⟩ => exact le_refl 4096 | ⟨1, _⟩ => exact le_refl 10)) (rowsA S4 4 (by omega)) (rowsZ S3 4 (by omega)) (rowsR S2 4 (by omega)) (part (ms25 t) (hs25 t) (Y 25) ![0, 0] ![1, 10] (fun a => by match a with | ⟨0, _⟩ => exact le_refl 1 | ⟨1, _⟩ => exact le_refl 10))⟩,
   ⟨Rect.unit ![1536, 0] ![512, 10] inb_S4096x10_S512x10_1536_0, k0_pay89 (F := Ideal) (part sc3 (Memref.isWhole_whole _) S3 ![0, 0] ![4096, 10] (fun a => by match a with | ⟨0, _⟩ => exact le_refl 4096 | ⟨1, _⟩ => exact le_refl 10)) (rowsA S4 3 (by omega)) (rowsZ S3 3 (by omega)) (rowsR S2 3 (by omega)) (part (ms25 t) (hs25 t) (Y 25) ![0, 0] ![1, 10] (fun a => by match a with | ⟨0, _⟩ => exact le_refl 1 | ⟨1, _⟩ => exact le_refl 10))⟩,
   ⟨Rect.unit ![1024, 0] ![512, 10] inb_S4096x10_S512x10_1024_0, k0_pay89 (F := Ideal) (part sc3 (Memref.isWhole_whole _) S3 ![0, 0] ![4096, 10] (fun a => by match a with | ⟨0, _⟩ => exact le_refl 4096 | ⟨1, _⟩ => exact le_refl 10)) (rowsA S4 2 (by omega)) (rowsZ S3 2 (by omega)) (rowsR S2 2 (by omega)) (part (ms25 t) (hs25 t) (Y 25) ![0, 0] ![1, 10] (fun a => by match a with | ⟨0, _⟩ => exact le_refl 1 | ⟨1, _⟩ => exact le_refl 10))⟩,
   ⟨Rect.unit ![512, 0] ![512, 10] inb_S4096x10_S512x10_512_0, k0_pay89 (F := Ideal) (part sc3 (Memref.isWhole_whole _) S3 ![0, 0] ![4096, 10] (fun a => by match a with | ⟨0, _⟩ => exact le_refl 4096 | ⟨1, _⟩ => exact le_refl 10)) (rowsA S4 1 (by omega)) (rowsZ S3 1 (by omega)) (rowsR S2 1 (by omega)) (part (ms25 t) (hs25 t) (Y 25) ![0, 0] ![1, 10] (fun a => by match a with | ⟨0, _⟩ => exact le_refl 1 | ⟨1, _⟩ => exact le_refl 10))⟩,
   ⟨Rect.unit ![0, 0] ![512, 10] inb_S4096x10_S512x10_0_0, k0_pay89 (F := Ideal) (part sc3 (Memref.isWhole_whole _) S3 ![0, 0] ![4096, 10] (fun a => by match a with | ⟨0, _⟩ => exact le_refl 4096 | ⟨1, _⟩ => exact le_refl 10)) (rowsA S4 0 (by omega)) (rowsZ S3 0 (by omega)) (rowsR S2 0 (by omega)) (part (ms25 t) (hs25 t) (Y 25) ![0, 0] ![1, 10] (fun a => by match a with | ⟨0, _⟩ => exact le_refl 1 | ⟨1, _⟩ => exact le_refl 10))⟩]

theorem LD_eq (c : Dev nD) (t : Fin cfg0.N) (h : t.val = 10) (Y : Stg Ideal) (S0 : Vec Ideal S4096x256 .bf16) (S1 : Vec Ideal S4096x64 .f32) (S2 : Vec Ideal S4096x1 .f32) (S3 : Vec Ideal S4096x10 .f32) (S4 : Vec Ideal S4096x4096 .bf16) : LD c t h Y S0 S1 S2 S3 S4 = predPieces t Y S2 S3 S4 := rfl

theorem over_pred (M : Memref sig .tc .vmem S4096x10 .f32) (hM : M.IsWhole) (X : S4096x10.Idx → Elt Ideal .f32) (c : Dev nD) (t : Fin cfg0.N) (h : t.val = 10) (Y : Stg Ideal) (S0 : Vec Ideal S4096x256 .bf16) (S1 : Vec Ideal S4096x64 .f32) (S2 : Vec Ideal S4096x1 .f32) (S3 : Vec Ideal S4096x10 .f32) (S4 : Vec Ideal S4096x4096 .bf16) :
    over M hM X (LD c t h Y S0 S1 S2 S3 S4) = predBuf S2 S3 S4 (Y 25) := by
  rw [LD_eq]
  refine over_eq M hM X _ _ (View.cover_of_tiledL _ ![512, 10] (by sl_kernel_rfl)) ?_
  have e1 := part_whole sc3 (Memref.isWhole_whole _) S3 (fun a => by match a with | ⟨0, _⟩ => exact le_refl 4096 | ⟨1, _⟩ => exact le_refl 10)
  have e2 := part_whole (ms25 t) (hs25 t) (Y 25) (fun a => by match a with | ⟨0, _⟩ => exact le_refl 1 | ⟨1, _⟩ => exact le_refl 10)
  unfold predPieces
  rw [e1, e2]
  simp only [List.forall_mem_cons]
  refine ⟨pred_piece S2 S3 S4 _ 7 (by omega) _, pred_piece S2 S3 S4 _ 6 (by omega) _, pred_piece S2 S3 S4 _ 5 (by omega) _, pred_piece S2 S3 S4 _ 4 (by omega) _, pred_piece S2 S3 S4 _ 3 (by omega) _, pred_piece S2 S3 S4 _ 2 (by omega) _, pred_piece S2 S3 S4 _ 1 (by omega) _, pred_piece S2 S3 S4 _ 0 (by omega) _, fun p hp => absurd hp List.not_mem_nil⟩

end Cert.KernelIdeal.Hand

end
-- ==== Proof.Ideal.Steps.lean ====
/-
  The values tracked through the call: after the encoder points the scaled samples and the first layer's input, after point 8 the
  adjacency matrix and its degrees, after point 9 the first layer's output; and every point keeps them.
-/
module

public import proofs.«01_k».proof.Proof.Ideal.Blocks
public import proofs.«01_k».proof.Proof.Ideal.ValA
public import proofs.«01_k».proof.Proof.Ideal.ValB
public import proofs.«01_k».proof.Proof.Ideal.ValC
public import proofs.«01_k».proof.Proof.Ideal.ValD

@[expose] public section

set_option maxRecDepth 16384
set_option maxHeartbeats 1000000

noncomputable section

namespace Cert.KernelIdeal.Hand

open Cert.KernelIdeal Cert.KernelIdeal.Gen Cert.Math
open Idealize.ShloMosaic Idealize.ShloMosaic.TcCoe
open Idealize.ShloMosaic.Pipeline (RDat)

variable (I : Inputs)

/-- What the scratch buffers hold before point `n`. -/
structure Holds (n : ℕ) (S0 : Vec Ideal S4096x256 .bf16) (S1 : Vec Ideal S4096x64 .f32) (S2 : Vec Ideal S4096x1 .f32) (S3 : Vec Ideal S4096x10 .f32) (S4 : Vec Ideal S4096x4096 .bf16) : Prop where
  wm : ∀ (r : Fin 4096) (k : Fin 256), r.val < 512 * min n 8 → S0 (ix2 r k) = I.wm r k
  g1 : ∀ (r : Fin 4096) (k : Fin 64), r.val < 512 * min n 8 → S1 (ix2 r k) = I.g1 r k
  deg : 9 ≤ n → ∀ r : Fin 4096, S2 (ix2 r 0) = degK I.adj r
  adj : 9 ≤ n → ∀ r c : Fin 4096, S4 (ix2 r c) = I.adj r c
  lay : 10 ≤ n → ∀ (r : Fin 4096) (c : Fin 10), S3 (ix2 r c) = I.lay r c

/-- What the body leaves in a window. -/
def leaves : (w : Fin 31) → (t : Fin cfg0.N) → ((cfg0.win w).block.Idx → Elt Ideal (cfg0.win w).elt) → Prop
  | 0 => fun _ _ => True
  | 1 => fun _ _ => True
  | 2 => fun _ _ => True
  | 3 => fun _ _ => True
  | 4 => fun _ _ => True
  | 5 => fun _ _ => True
  | 6 => fun _ _ => True
  | 7 => fun _ _ => True
  | 8 => fun _ _ => True
  | 9 => fun _ _ => True
  | 10 => fun _ _ => True
  | 11 => fun _ _ => True
  | 12 => fun _ _ => True
  | 13 => fun _ _ => True
  | 14 => fun _ _ => True
  | 15 => fun _ _ => True
  | 16 => fun _ _ => True
  | 17 => fun _ _ => True
  | 18 => fun _ _ => True
  | 19 => fun _ _ => True
  | 20 => fun _ _ => True
  | 21 => fun _ _ => True
  | 22 => fun _ _ => True
  | 23 => fun _ _ => True
  | 24 => fun _ _ => True
  | 25 => fun _ _ => True
  | 26 => fun t X => mat (M := 512) (N := 128) X = sub I.mu0 (min t.val 7) (min7 _)
  | 27 => fun t X => mat (M := 512) (N := 128) X = sub I.lv0 (min t.val 7) (min7 _)
  | 28 => fun t X => mat (M := 512) (N := 128) X = sub I.mu1 (min t.val 7) (min7 _)
  | 29 => fun t X => mat (M := 512) (N := 128) X = sub I.lv1 (min t.val 7) (min7 _)
  | 30 => fun t X => t.val = 10 → mat (M := 4096) (N := 10) X = I.pred
  | ⟨n + 31, h⟩ => absurd h (by omega)

/-- The tracked data. -/
def trk : Track Ideal where
  Inv := Holds I
  after w t Y X := (w.val < 26 → X = Y) ∧ leaves I w t X

theorem leaves_in : ∀ (w : Fin 31), w.val < 26 → ∀ t X, leaves I w t X
  | 0, _, _, _ => trivial
  | 1, _, _, _ => trivial
  | 2, _, _, _ => trivial
  | 3, _, _, _ => trivial
  | 4, _, _, _ => trivial
  | 5, _, _, _ => trivial
  | 6, _, _, _ => trivial
  | 7, _, _, _ => trivial
  | 8, _, _, _ => trivial
  | 9, _, _, _ => trivial
  | 10, _, _, _ => trivial
  | 11, _, _, _ => trivial
  | 12, _, _, _ => trivial
  | 13, _, _, _ => trivial
  | 14, _, _, _ => trivial
  | 15, _, _, _ => trivial
  | 16, _, _, _ => trivial
  | 17, _, _, _ => trivial
  | 18, _, _, _ => trivial
  | 19, _, _, _ => trivial
  | 20, _, _, _ => trivial
  | 21, _, _, _ => trivial
  | 22, _, _, _ => trivial
  | 23, _, _, _ => trivial
  | 24, _, _, _ => trivial
  | 25, _, _, _ => trivial
  | 26, h, _, _ => absurd h (by decide)
  | 27, h, _, _ => absurd h (by decide)
  | 28, h, _, _ => absurd h (by decide)
  | 29, h, _, _ => absurd h (by decide)
  | 30, h, _, _ => absurd h (by decide)
  | ⟨n + 31, h⟩, _, _, _ => absurd h (by omega)

theorem sub_congr {N : ℕ} (X : Mat 4096 N) {i j : ℕ} (e : i = j) (hi : i < 8) (hj : j < 8) : sub X i hi = sub X j hj := by
  subst e; rfl

/-! ## An output window's buffer, carried over a point that does not write it -/

variable (m : (ℓ : Loc nD τ sig) → Buf (Elt Ideal) ℓ)

theorem flush26 : ∀ t : Fin cfg0.N, 8 ≤ t.val → (cfg0.win 26).flush ⟨t.val - 1, Nat.lt_of_le_of_lt (Nat.sub_le _ _) t.isLt⟩ = false := by decide +kernel

theorem carried26 (c : Dev nD) (t : Fin cfg0.N) (ht : 8 ≤ t.val) (Y) (h : (rdat m (trk I) c).Finds 26 t Y) : leaves I 26 t Y := by
  rcases (RDat.finds_of_pos (rdat m (trk I) c) ((cfg0.win 26).fetch_out rfl t) (by omega) Y).mp h with hf | ⟨Y', _, hY⟩
  · rw [flush26 t ht] at hf; exact absurd hf Bool.false_ne_true
  · have h2 : mat (M := 512) (N := 128) Y = sub I.mu0 (min (t.val - 1) 7) (min7 _) := hY.2
    have e : min (t.val - 1) 7 = min t.val 7 := by omega
    show mat (M := 512) (N := 128) Y = sub I.mu0 (min t.val 7) (min7 _)
    exact h2.trans (sub_congr _ e _ _)

theorem flush27 : ∀ t : Fin cfg0.N, 8 ≤ t.val → (cfg0.win 27).flush ⟨t.val - 1, Nat.lt_of_le_of_lt (Nat.sub_le _ _) t.isLt⟩ = false := by decide +kernel

theorem carried27 (c : Dev nD) (t : Fin cfg0.N) (ht : 8 ≤ t.val) (Y) (h : (rdat m (trk I) c).Finds 27 t Y) : leaves I 27 t Y := by
  rcases (RDat.finds_of_pos (rdat m (trk I) c) ((cfg0.win 27).fetch_out rfl t) (by omega) Y).mp h with hf | ⟨Y', _, hY⟩
  · rw [flush27 t ht] at hf; exact absurd hf Bool.false_ne_true
  · have h2 : mat (M := 512) (N := 128) Y = sub I.lv0 (min (t.val - 1) 7) (min7 _) := hY.2
    have e : min (t.val - 1) 7 = min t.val 7 := by omega
    show mat (M := 512) (N := 128) Y = sub I.lv0 (min t.val 7) (min7 _)
    exact h2.trans (sub_congr _ e _ _)

theorem flush28 : ∀ t : Fin cfg0.N, 8 ≤ t.val → (cfg0.win 28).flush ⟨t.val - 1, Nat.lt_of_le_of_lt (Nat.sub_le _ _) t.isLt⟩ = false := by decide +kernel

theorem carried28 (c : Dev nD) (t : Fin cfg0.N) (ht : 8 ≤ t.val) (Y) (h : (rdat m (trk I) c).Finds 28 t Y) : leaves I 28 t Y := by
  rcases (RDat.finds_of_pos (rdat m (trk I) c) ((cfg0.win 28).fetch_out rfl t) (by omega) Y).mp h with hf | ⟨Y', _, hY⟩
  · rw [flush28 t ht] at hf; exact absurd hf Bool.false_ne_true
  · have h2 : mat (M := 512) (N := 128) Y = sub I.mu1 (min (t.val - 1) 7) (min7 _) := hY.2
    have e : min (t.val - 1) 7 = min t.val 7 := by omega
    show mat (M := 512) (N := 128) Y = sub I.mu1 (min t.val 7) (min7 _)
    exact h2.trans (sub_congr _ e _ _)

theorem flush29 : ∀ t : Fin cfg0.N, 8 ≤ t.val → (cfg0.win 29).flush ⟨t.val - 1, Nat.lt_of_le_of_lt (Nat.sub_le _ _) t.isLt⟩ = false := by decide +kernel

theorem carried29 (c : Dev nD) (t : Fin cfg0.N) (ht : 8 ≤ t.val) (Y) (h : (rdat m (trk I) c).Finds 29 t Y) : leaves I 29 t Y := by
  rcases (RDat.finds_of_pos (rdat m (trk I) c) ((cfg0.win 29).fetch_out rfl t) (by omega) Y).mp h with hf | ⟨Y', _, hY⟩
  · rw [flush29 t ht] at hf; exact absurd hf Bool.false_ne_true
  · have h2 : mat (M := 512) (N := 128) Y = sub I.lv1 (min (t.val - 1) 7) (min7 _) := hY.2
    have e : min (t.val - 1) 7 = min t.val 7 := by omega
    show mat (M := 512) (N := 128) Y = sub I.lv1 (min t.val 7) (min7 _)
    exact h2.trans (sub_congr _ e _ _)

/-! ## The four kinds of point -/

section Steps

variable (c : Dev nD) (t : Fin cfg0.N) (Y : Stg Ideal) (hY : ∀ w, (rdat m (trk (inK m c)) c).Finds w t (Y w))

include hY

theorem stg0 : Y 0 (ix2 (n0 := 1) (n1 := 1) 0 0) = (inK m c).t := by
  rw [finds0 m (trk (inK m c)) c (fun _ _ _ h => h.1 (by decide)) t (Y 0) (hY 0)]
  exact blk0_eq m c t

theorem stg1 : Y 1 (ix2 (n0 := 1) (n1 := 1) 0 0) = (inK m c).th := by
  rw [finds1 m (trk (inK m c)) c (fun _ _ _ h => h.1 (by decide)) t (Y 1) (hY 1)]
  exact blk1_eq m c t

theorem stg2 : mat (M := 512) (N := 512) (Y 2) = sub (inK m c).x0 (min t.val 7) (min7 _) := by
  rw [finds2 m (trk (inK m c)) c (fun _ _ _ h => h.1 (by decide)) t (Y 2) (hY 2)]
  exact blk2_eq m c t

theorem stg3 : mat (M := 512) (N := 512) (Y 3) = sub (inK m c).x1 (min t.val 7) (min7 _) := by
  rw [finds3 m (trk (inK m c)) c (fun _ _ _ h => h.1 (by decide)) t (Y 3) (hY 3)]
  exact blk3_eq m c t

theorem stg4 : mat (M := 512) (N := 128) (Y 4) = sub (inK m c).eps0 (min t.val 7) (min7 _) := by
  rw [finds4 m (trk (inK m c)) c (fun _ _ _ h => h.1 (by decide)) t (Y 4) (hY 4)]
  exact blk4_eq m c t

theorem stg5 : mat (M := 512) (N := 128) (Y 5) = sub (inK m c).eps1 (min t.val 7) (min7 _) := by
  rw [finds5 m (trk (inK m c)) c (fun _ _ _ h => h.1 (by decide)) t (Y 5) (hY 5)]
  exact blk5_eq m c t

theorem stg6 : mat (M := 512) (N := 256) (Y 6) = (inK m c).Wa0 := by
  rw [finds6 m (trk (inK m c)) c (fun _ _ _ h => h.1 (by decide)) t (Y 6) (hY 6)]
  exact blk6_eq m c t

theorem stg7 : row (N := 256) (Y 7) = (inK m c).ba0 := by
  rw [finds7 m (trk (inK m c)) c (fun _ _ _ h => h.1 (by decide)) t (Y 7) (hY 7)]
  exact blk7_eq m c t

theorem stg8 : mat (M := 256) (N := 256) (Y 8) = (inK m c).Wb0 := by
  rw [finds8 m (trk (inK m c)) c (fun _ _ _ h => h.1 (by decide)) t (Y 8) (hY 8)]
  exact blk8_eq m c t

theorem stg9 : row (N := 256) (Y 9) = (inK m c).bb0 := by
  rw [finds9 m (trk (inK m c)) c (fun _ _ _ h => h.1 (by decide)) t (Y 9) (hY 9)]
  exact blk9_eq m c t

theorem stg10 : mat (M := 256) (N := 128) (Y 10) = (inK m c).Wmu0 := by
  rw [finds10 m (trk (inK m c)) c (fun _ _ _ h => h.1 (by decide)) t (Y 10) (hY 10)]
  exact blk10_eq m c t

theorem stg11 : row (N := 128) (Y 11) = (inK m c).bmu0 := by
  rw [finds11 m (trk (inK m c)) c (fun _ _ _ h => h.1 (by decide)) t (Y 11) (hY 11)]
  exact blk11_eq m c t

theorem stg12 : mat (M := 256) (N := 128) (Y 12) = (inK m c).Wlv0 := by
  rw [finds12 m (trk (inK m c)) c (fun _ _ _ h => h.1 (by decide)) t (Y 12) (hY 12)]
  exact blk12_eq m c t

theorem stg13 : row (N := 128) (Y 13) = (inK m c).blv0 := by
  rw [finds13 m (trk (inK m c)) c (fun _ _ _ h => h.1 (by decide)) t (Y 13) (hY 13)]
  exact blk13_eq m c t

theorem stg14 : mat (M := 512) (N := 256) (Y 14) = (inK m c).Wa1 := by
  rw [finds14 m (trk (inK m c)) c (fun _ _ _ h => h.1 (by decide)) t (Y 14) (hY 14)]
  exact blk14_eq m c t

theorem stg15 : row (N := 256) (Y 15) = (inK m c).ba1 := by
  rw [finds15 m (trk (inK m c)) c (fun _ _ _ h => h.1 (by decide)) t (Y 15) (hY 15)]
  exact blk15_eq m c t

theorem stg16 : mat (M := 256) (N := 256) (Y 16) = (inK m c).Wb1 := by
  rw [finds16 m (trk (inK m c)) c (fun _ _ _ h => h.1 (by decide)) t (Y 16) (hY 16)]
  exact blk16_eq m c t

theorem stg17 : row (N := 256) (Y 17) = (inK m c).bb1 := by
  rw [finds17 m (trk (inK m c)) c (fun _ _ _ h => h.1 (by decide)) t (Y 17) (hY 17)]
  exact blk17_eq m c t

theorem stg18 : mat (M := 256) (N := 128) (Y 18) = (inK m c).Wmu1 := by
  rw [finds18 m (trk (inK m c)) c (fun _ _ _ h => h.1 (by decide)) t (Y 18) (hY 18)]
  exact blk18_eq m c t

theorem stg19 : row (N := 128) (Y 19) = (inK m c).bmu1 := by
  rw [finds19 m (trk (inK m c)) c (fun _ _ _ h => h.1 (by decide)) t (Y 19) (hY 19)]
  exact blk19_eq m c t

theorem stg20 : mat (M := 256) (N := 128) (Y 20) = (inK m c).Wlv1 := by
  rw [finds20 m (trk (inK m c)) c (fun _ _ _ h => h.1 (by decide)) t (Y 20) (hY 20)]
  exact blk20_eq m c t

theorem stg21 : row (N := 128) (Y 21) = (inK m c).blv1 := by
  rw [finds21 m (trk (inK m c)) c (fun _ _ _ h => h.1 (by decide)) t (Y 21) (hY 21)]
  exact blk21_eq m c t

theorem stg22 : mat (M := 128) (N := 64) (Y 22) = (inK m c).Wg1 := by
  rw [finds22 m (trk (inK m c)) c (fun _ _ _ h => h.1 (by decide)) t (Y 22) (hY 22)]
  exact blk22_eq m c t

theorem stg23 : row (N := 64) (Y 23) = (inK m c).bg1 := by
  rw [finds23 m (trk (inK m c)) c (fun _ _ _ h => h.1 (by decide)) t (Y 23) (hY 23)]
  exact blk23_eq m c t

theorem stg24 : mat (M := 64) (N := 10) (Y 24) = (inK m c).Wg2 := by
  rw [finds24 m (trk (inK m c)) c (fun _ _ _ h => h.1 (by decide)) t (Y 24) (hY 24)]
  exact blk24_eq m c t

theorem stg25 : row (N := 10) (Y 25) = (inK m c).bg2 := by
  rw [finds25 m (trk (inK m c)) c (fun _ _ _ h => h.1 (by decide)) t (Y 25) (hY 25)]
  exact blk25_eq m c t

theorem muA0_eq : mat (muA0 t Y) = sub (inK m c).mu0 (min t.val 7) (min7 _) := by
  rw [muA0_apply, stg2 m c t Y hY, stg6 m c t Y hY, stg7 m c t Y hY, stg8 m c t Y hY, stg9 m c t Y hY, stg10 m c t Y hY, stg11 m c t Y hY]
  rfl

theorem lvA0_eq : mat (lvA0 t Y) = sub (inK m c).lv0 (min t.val 7) (min7 _) := by
  rw [lvA0_apply, stg2 m c t Y hY, stg6 m c t Y hY, stg7 m c t Y hY, stg8 m c t Y hY, stg9 m c t Y hY, stg12 m c t Y hY, stg13 m c t Y hY]
  rfl

theorem muA1_eq : mat (muA1 t Y) = sub (inK m c).mu1 (min t.val 7) (min7 _) := by
  rw [muA1_apply, stg3 m c t Y hY, stg14 m c t Y hY, stg15 m c t Y hY, stg16 m c t Y hY, stg17 m c t Y hY, stg18 m c t Y hY, stg19 m c t Y hY]
  rfl

theorem lvA1_eq : mat (lvA1 t Y) = sub (inK m c).lv1 (min t.val 7) (min7 _) := by
  rw [lvA1_apply, stg3 m c t Y hY, stg14 m c t Y hY, stg15 m c t Y hY, stg16 m c t Y hY, stg17 m c t Y hY, stg20 m c t Y hY, stg21 m c t Y hY]
  rfl

theorem zA0_eq : mat (zA0 t Y) = sub (inK m c).z0 (min t.val 7) (min7 _) := by
  rw [zA0_apply, muA0_eq m c t Y hY, lvA0_eq m c t Y hY, stg4 m c t Y hY]
  rfl

theorem zA1_eq : mat (zA1 t Y) = sub (inK m c).z1 (min t.val 7) (min7 _) := by
  rw [zA1_apply, muA1_eq m c t Y hY, lvA1_eq m c t Y hY, stg5 m c t Y hY]
  rfl

theorem wmA_eq (r : Fin 512) (k : Fin 256) : wmA t Y (ix2 r k) = sub (inK m c).wm (min t.val 7) (min7 _) r k := by
  rw [wmA_apply, zA0_eq m c t Y hY, zA1_eq m c t Y hY]
  rfl

theorem g1A_eq (r : Fin 512) (k : Fin 64) : g1A t Y (ix2 r k) = sub (inK m c).g1 (min t.val 7) (min7 _) r k := by
  rw [g1A_apply, zA0_eq m c t Y hY, zA1_eq m c t Y hY, stg22 m c t Y hY]
  rfl

end Steps

theorem stepOK (c : Dev nD) : StepOK m (trk (inK m c)) c where
  inp w hw t Y := ⟨fun _ => rfl, leaves_in (inK m c) w hw t Y⟩
  stepA t h Y S0 S1 S2 S3 S4 hY hI := by
    have e7 : min t.val 7 = t.val := by omega
    have a26 : leaves (inK m c) 26 t (over (ms26 t) (hs26 t) (Y 26) (LA c t h Y S0 S1 S2 S3 S4).1) := by
      rw [over_muA0]; exact muA0_eq m c t Y hY
    have a27 : leaves (inK m c) 27 t (over (ms27 t) (hs27 t) (Y 27) (LA c t h Y S0 S1 S2 S3 S4).2.1) := by
      rw [over_lvA0]; exact lvA0_eq m c t Y hY
    have a28 : leaves (inK m c) 28 t (over (ms28 t) (hs28 t) (Y 28) (LA c t h Y S0 S1 S2 S3 S4).2.2.1) := by
      rw [over_muA1]; exact muA1_eq m c t Y hY
    have a29 : leaves (inK m c) 29 t (over (ms29 t) (hs29 t) (Y 29) (LA c t h Y S0 S1 S2 S3 S4).2.2.2.1) := by
      rw [over_lvA1]; exact lvA1_eq m c t Y hY
    have a30 : leaves (inK m c) 30 t (Y 30) := fun e => absurd e (by omega)
    obtain ⟨w1, w2⟩ := over_wmA sc0 (Memref.isWhole_whole _) S0 c t h Y S0 S1 S2 S3 S4
    obtain ⟨g1, g2⟩ := over_g1A sc1 (Memref.isWhole_whole _) S1 c t h Y S0 S1 S2 S3 S4
    refine ⟨⟨fun h => absurd h (by decide), a26⟩, ⟨fun h => absurd h (by decide), a27⟩, ⟨fun h => absurd h (by decide), a28⟩, ⟨fun h => absurd h (by decide), a29⟩, ⟨fun h => absurd h (by decide), a30⟩, ?_⟩
    refine ⟨fun r k hr => ?_, fun r k hr => ?_, fun h9 => absurd h9 (by omega), fun h9 => absurd h9 (by omega), fun h9 => absurd h9 (by omega)⟩
    · by_cases hlt : r.val < 512 * t.val
      · exact (w2 r k hlt).trans (hI.wm r k (by omega))
      · have hr' : r.val - 512 * t.val < 512 := by omega
        refine (w1 ⟨r.val - 512 * t.val, hr'⟩ k r (by simp only []; omega)).trans ((wmA_eq m c t Y hY ⟨r.val - 512 * t.val, hr'⟩ k).trans ?_)
        exact congrFun (congrArg (inK m c).wm (Fin.ext (by simp only []; omega))) k
    · by_cases hlt : r.val < 512 * t.val
      · exact (g2 r k hlt).trans (hI.g1 r k (by omega))
      · have hr' : r.val - 512 * t.val < 512 := by omega
        refine (g1 ⟨r.val - 512 * t.val, hr'⟩ k r (by simp only []; omega)).trans ((g1A_eq m c t Y hY ⟨r.val - 512 * t.val, hr'⟩ k).trans ?_)
        exact congrFun (congrArg (inK m c).g1 (Fin.ext (by simp only []; omega))) k
  stepB t h Y S0 S1 S2 S3 S4 hY hI := by
    have a30 : leaves (inK m c) 30 t (Y 30) := fun e => absurd e (by omega)
    have hw : mat S0 = (inK m c).wm := funext fun r => funext fun k => hI.wm r k (by have := r.isLt; omega)
    refine ⟨⟨fun h => absurd h (by decide), carried26 (inK m c) m c t (by omega) _ (hY 26)⟩, ⟨fun h => absurd h (by decide), carried27 (inK m c) m c t (by omega) _ (hY 27)⟩, ⟨fun h => absurd h (by decide), carried28 (inK m c) m c t (by omega) _ (hY 28)⟩, ⟨fun h => absurd h (by decide), carried29 (inK m c) m c t (by omega) _ (hY 29)⟩, ⟨fun h => absurd h (by decide), a30⟩, ?_⟩
    refine ⟨fun r k hr => hI.wm r k (by have := r.isLt; omega), fun r k hr => hI.g1 r k (by have := r.isLt; omega), fun _ r => ?_, fun _ r c' => ?_, fun h9 => absurd h9 (by omega)⟩
    · rw [over_deg, stg0 m c t Y hY, stg1 m c t Y hY]
      show degK (adjK (inK m c).t (inK m c).th (mat S0)) r = _
      rw [hw]; rfl
    · rw [over_adj, stg0 m c t Y hY, stg1 m c t Y hY]
      show adjK (inK m c).t (inK m c).th (mat S0) r c' = _
      rw [hw]; rfl
  stepC t h Y S0 S1 S2 S3 S4 hY hI := by
    have a30 : leaves (inK m c) 30 t (Y 30) := fun e => absurd e (by omega)
    have hg : mat S1 = (inK m c).g1 := funext fun r => funext fun k => hI.g1 r k (by have := r.isLt; omega)
    have ha : mat S4 = (inK m c).adj := funext fun r => funext fun k => hI.adj (by omega) r k
    have hd : (fun r : Fin 4096 => Ideal.rsqrt (S2 (ix2 r 0))) = dinvK (inK m c).adj := funext fun r => congrArg Ideal.rsqrt (hI.deg (by omega) r)
    refine ⟨⟨fun h => absurd h (by decide), carried26 (inK m c) m c t (by omega) _ (hY 26)⟩, ⟨fun h => absurd h (by decide), carried27 (inK m c) m c t (by omega) _ (hY 27)⟩, ⟨fun h => absurd h (by decide), carried28 (inK m c) m c t (by omega) _ (hY 28)⟩, ⟨fun h => absurd h (by decide), carried29 (inK m c) m c t (by omega) _ (hY 29)⟩, ⟨fun h => absurd h (by decide), a30⟩, ?_⟩
    refine ⟨fun r k hr => hI.wm r k (by have := r.isLt; omega), fun r k hr => hI.g1 r k (by have := r.isLt; omega), fun _ => hI.deg (by omega), fun _ => hI.adj (by omega), fun _ r c' => ?_⟩
    rw [over_lay]
    show layer1K (mat S4) (fun r : Fin 4096 => Ideal.rsqrt (S2 (ix2 r 0))) (mat S1) (row (N := 64) (Y 23)) (mat (M := 64) (N := 10) (Y 24)) r c' = _
    rw [ha, hd, hg, stg23 m c t Y hY, stg24 m c t Y hY]; rfl
  stepD t h Y S0 S1 S2 S3 S4 hY hI := by
    have hz : mat S3 = (inK m c).lay := funext fun r => funext fun k => hI.lay (by omega) r k
    have ha : mat S4 = (inK m c).adj := funext fun r => funext fun k => hI.adj (by omega) r k
    have hd : (fun r : Fin 4096 => Ideal.rsqrt (S2 (ix2 r 0))) = dinvK (inK m c).adj := funext fun r => congrArg Ideal.rsqrt (hI.deg (by omega) r)
    have a30 : leaves (inK m c) 30 t (over (ms30 t) (hs30 t) (Y 30) (LD c t h Y S0 S1 S2 S3 S4)) := fun _ => by
      rw [over_pred]
      funext r c'
      show logSoftmaxK (outK (mat S4) (fun r : Fin 4096 => Ideal.rsqrt (S2 (ix2 r 0))) (mat S3) (row (N := 10) (Y 25))) r c' = _
      rw [ha, hd, hz, stg25 m c t Y hY]; rfl
    refine ⟨⟨fun h => absurd h (by decide), carried26 (inK m c) m c t (by omega) _ (hY 26)⟩, ⟨fun h => absurd h (by decide), carried27 (inK m c) m c t (by omega) _ (hY 27)⟩, ⟨fun h => absurd h (by decide), carried28 (inK m c) m c t (by omega) _ (hY 28)⟩, ⟨fun h => absurd h (by decide), carried29 (inK m c) m c t (by omega) _ (hY 29)⟩, ⟨fun h => absurd h (by decide), a30⟩, ?_⟩
    exact ⟨fun r k hr => hI.wm r k (by have := r.isLt; omega), fun r k hr => hI.g1 r k (by have := r.isLt; omega), fun _ => hI.deg (by omega), fun _ => hI.adj (by omega), fun _ => hI.lay (by omega)⟩

theorem holds_zero (S0 : Vec Ideal S4096x256 .bf16) (S1 : Vec Ideal S4096x64 .f32) (S2 : Vec Ideal S4096x1 .f32) (S3 : Vec Ideal S4096x10 .f32) (S4 : Vec Ideal S4096x4096 .bf16) : Holds I 0 S0 S1 S2 S3 S4 :=
  ⟨fun r _ h => absurd h (by omega), fun r _ h => absurd h (by omega), fun h => absurd h (by omega), fun h => absurd h (by omega), fun h => absurd h (by omega)⟩

end Cert.KernelIdeal.Hand

end
-- ==== Proof.Ideal.Result.lean ====
/-
  What the five result buffers hold after a run, as functions of the launched arguments.
-/
module

public import proofs.«01_k».proof.Proof.Ideal.Steps
public import proofs.«01_k».proof.Proof.Ideal.Frame
public import Idealize.ShloMosaic.Lib.Pipeline.ArrRel

@[expose] public section

set_option maxRecDepth 16384
set_option maxHeartbeats 1000000

noncomputable section

namespace Cert.KernelIdeal.Hand

open Cert.KernelIdeal Cert.KernelIdeal.Gen Cert.Math
open Idealize.ShloMosaic Idealize.ShloMosaic.TcCoe Idealize.SL.Sem
open Idealize.ShloMosaic.Pipeline (RDat)

variable (m : (ℓ : Loc nD τ sig) → Buf (Elt Ideal) ℓ) (I : Inputs)

theorem index26_eq : ∀ t : Fin cfg0.N, cc0_transform_26 (grid0.coords t) = ![min t.val 7, 0] := by decide +kernel

theorem emb26 (t : Fin cfg0.N) (r : Fin 512) (k : Fin 128) (r' : Fin 4096) (hr : r'.val = 512 * min t.val 7 + r.val) :
    ((cfg0.win 26).blk t).view.emb (ix2 (n0 := 512) (n1 := 128) r k) = ix2 (n0 := 4096) (n1 := 128) r' k := by
  refine funext fun a => Fin.ext ?_
  match a with
  | ⟨0, _⟩ =>
    show cc0_transform_26 (grid0.coords t) 0 * 512 + 1 * r.val = r'.val
    rw [index26_eq]; simp only [Matrix.cons_val_zero]; omega
  | ⟨1, _⟩ =>
    show cc0_transform_26 (grid0.coords t) 1 * 128 + 1 * k.val = k.val
    rw [index26_eq]; simp only [Matrix.cons_val_one, Matrix.cons_val_zero]; omega

theorem arr26 {r : PUnit × MemSt nD τ sig (Elt Ideal)} (h : RDat.FramePost cfg0 (rdat m (trk I)) (V m) r) (c : Dev nD) :
    r.2.mem ((c.tc : Thread nD τ).loc main_v12_0) = fun i => I.mu0 (i 0) (i 1) := by
  obtain ⟨after, hL, hA⟩ := RDat.FramePost.exists_exact h c
  refine (hA 26).trans ?_
  refine Pipeline.Dat.arrAt_eq_of_covers _ 26 _ (by decide +kernel) fun t hf y => ?_
  obtain ⟨Y, -, hY⟩ := hL 26 t hf
  have h2 : mat (M := 512) (N := 128) (after 26 t) = sub I.mu0 (min t.val 7) (min7 _) := hY.2
  revert y
  refine forall_ix2 (m := 512) (n := 128) fun p k => ?_
  rw [emb26 t p k ⟨512 * min t.val 7 + p.val, by have := p.isLt; omega⟩ rfl]
  exact congrFun (congrFun h2 p) k

theorem index27_eq : ∀ t : Fin cfg0.N, cc0_transform_27 (grid0.coords t) = ![min t.val 7, 0] := by decide +kernel

theorem emb27 (t : Fin cfg0.N) (r : Fin 512) (k : Fin 128) (r' : Fin 4096) (hr : r'.val = 512 * min t.val 7 + r.val) :
    ((cfg0.win 27).blk t).view.emb (ix2 (n0 := 512) (n1 := 128) r k) = ix2 (n0 := 4096) (n1 := 128) r' k := by
  refine funext fun a => Fin.ext ?_
  match a with
  | ⟨0, _⟩ =>
    show cc0_transform_27 (grid0.coords t) 0 * 512 + 1 * r.val = r'.val
    rw [index27_eq]; simp only [Matrix.cons_val_zero]; omega
  | ⟨1, _⟩ =>
    show cc0_transform_27 (grid0.coords t) 1 * 128 + 1 * k.val = k.val
    rw [index27_eq]; simp only [Matrix.cons_val_one, Matrix.cons_val_zero]; omega

theorem arr27 {r : PUnit × MemSt nD τ sig (Elt Ideal)} (h : RDat.FramePost cfg0 (rdat m (trk I)) (V m) r) (c : Dev nD) :
    r.2.mem ((c.tc : Thread nD τ).loc main_v12_1) = fun i => I.lv0 (i 0) (i 1) := by
  obtain ⟨after, hL, hA⟩ := RDat.FramePost.exists_exact h c
  refine (hA 27).trans ?_
  refine Pipeline.Dat.arrAt_eq_of_covers _ 27 _ (by decide +kernel) fun t hf y => ?_
  obtain ⟨Y, -, hY⟩ := hL 27 t hf
  have h2 : mat (M := 512) (N := 128) (after 27 t) = sub I.lv0 (min t.val 7) (min7 _) := hY.2
  revert y
  refine forall_ix2 (m := 512) (n := 128) fun p k => ?_
  rw [emb27 t p k ⟨512 * min t.val 7 + p.val, by have := p.isLt; omega⟩ rfl]
  exact congrFun (congrFun h2 p) k

theorem index28_eq : ∀ t : Fin cfg0.N, cc0_transform_28 (grid0.coords t) = ![min t.val 7, 0] := by decide +kernel

theorem emb28 (t : Fin cfg0.N) (r : Fin 512) (k : Fin 128) (r' : Fin 4096) (hr : r'.val = 512 * min t.val 7 + r.val) :
    ((cfg0.win 28).blk t).view.emb (ix2 (n0 := 512) (n1 := 128) r k) = ix2 (n0 := 4096) (n1 := 128) r' k := by
  refine funext fun a => Fin.ext ?_
  match a with
  | ⟨0, _⟩ =>
    show cc0_transform_28 (grid0.coords t) 0 * 512 + 1 * r.val = r'.val
    rw [index28_eq]; simp only [Matrix.cons_val_zero]; omega
  | ⟨1, _⟩ =>
    show cc0_transform_28 (grid0.coords t) 1 * 128 + 1 * k.val = k.val
    rw [index28_eq]; simp only [Matrix.cons_val_one, Matrix.cons_val_zero]; omega

theorem arr28 {r : PUnit × MemSt nD τ sig (Elt Ideal)} (h : RDat.FramePost cfg0 (rdat m (trk I)) (V m) r) (c : Dev nD) :
    r.2.mem ((c.tc : Thread nD τ).loc main_v12_2) = fun i => I.mu1 (i 0) (i 1) := by
  obtain ⟨after, hL, hA⟩ := RDat.FramePost.exists_exact h c
  refine (hA 28).trans ?_
  refine Pipeline.Dat.arrAt_eq_of_covers _ 28 _ (by decide +kernel) fun t hf y => ?_
  obtain ⟨Y, -, hY⟩ := hL 28 t hf
  have h2 : mat (M := 512) (N := 128) (after 28 t) = sub I.mu1 (min t.val 7) (min7 _) := hY.2
  revert y
  refine forall_ix2 (m := 512) (n := 128) fun p k => ?_
  rw [emb28 t p k ⟨512 * min t.val 7 + p.val, by have := p.isLt; omega⟩ rfl]
  exact congrFun (congrFun h2 p) k

theorem index29_eq : ∀ t : Fin cfg0.N, cc0_transform_29 (grid0.coords t) = ![min t.val 7, 0] := by decide +kernel

theorem emb29 (t : Fin cfg0.N) (r : Fin 512) (k : Fin 128) (r' : Fin 4096) (hr : r'.val = 512 * min t.val 7 + r.val) :
    ((cfg0.win 29).blk t).view.emb (ix2 (n0 := 512) (n1 := 128) r k) = ix2 (n0 := 4096) (n1 := 128) r' k := by
  refine funext fun a => Fin.ext ?_
  match a with
  | ⟨0, _⟩ =>
    show cc0_transform_29 (grid0.coords t) 0 * 512 + 1 * r.val = r'.val
    rw [index29_eq]; simp only [Matrix.cons_val_zero]; omega
  | ⟨1, _⟩ =>
    show cc0_transform_29 (grid0.coords t) 1 * 128 + 1 * k.val = k.val
    rw [index29_eq]; simp only [Matrix.cons_val_one, Matrix.cons_val_zero]; omega

theorem arr29 {r : PUnit × MemSt nD τ sig (Elt Ideal)} (h : RDat.FramePost cfg0 (rdat m (trk I)) (V m) r) (c : Dev nD) :
    r.2.mem ((c.tc : Thread nD τ).loc main_v12_3) = fun i => I.lv1 (i 0) (i 1) := by
  obtain ⟨after, hL, hA⟩ := RDat.FramePost.exists_exact h c
  refine (hA 29).trans ?_
  refine Pipeline.Dat.arrAt_eq_of_covers _ 29 _ (by decide +kernel) fun t hf y => ?_
  obtain ⟨Y, -, hY⟩ := hL 29 t hf
  have h2 : mat (M := 512) (N := 128) (after 29 t) = sub I.lv1 (min t.val 7) (min7 _) := hY.2
  revert y
  refine forall_ix2 (m := 512) (n := 128) fun p k => ?_
  rw [emb29 t p k ⟨512 * min t.val 7 + p.val, by have := p.isLt; omega⟩ rfl]
  exact congrFun (congrFun h2 p) k

theorem index30_eq : ∀ t : Fin cfg0.N, cc0_transform_30 (grid0.coords t) = ![0, 0] := by decide +kernel

theorem flush30 : ∀ t : Fin cfg0.N, (cfg0.win 30).flush t = true → t.val = 10 := by decide +kernel

theorem emb30 (t : Fin cfg0.N) (r : Fin 4096) (k : Fin 10) (r' : Fin 4096) (hr : r'.val = r.val) :
    ((cfg0.win 30).blk t).view.emb (ix2 (n0 := 4096) (n1 := 10) r k) = ix2 (n0 := 4096) (n1 := 10) r' k := by
  refine funext fun a => Fin.ext ?_
  match a with
  | ⟨0, _⟩ =>
    show cc0_transform_30 (grid0.coords t) 0 * 4096 + 1 * r.val = r'.val
    rw [index30_eq]; simp only [Matrix.cons_val_zero]; omega
  | ⟨1, _⟩ =>
    show cc0_transform_30 (grid0.coords t) 1 * 10 + 1 * k.val = k.val
    rw [index30_eq]; simp only [Matrix.cons_val_one, Matrix.cons_val_zero]; omega

theorem arr30 {r : PUnit × MemSt nD τ sig (Elt Ideal)} (h : RDat.FramePost cfg0 (rdat m (trk I)) (V m) r) (c : Dev nD) :
    r.2.mem ((c.tc : Thread nD τ).loc main_v12_4) = fun i => I.pred (i 0) (i 1) := by
  obtain ⟨after, hL, hA⟩ := RDat.FramePost.exists_exact h c
  refine (hA 30).trans ?_
  refine Pipeline.Dat.arrAt_eq_of_covers _ 30 _ (by decide +kernel) fun t hf y => ?_
  obtain ⟨Y, -, hY⟩ := hL 30 t hf
  have h2 : mat (M := 4096) (N := 10) (after 30 t) = I.pred := hY.2 (flush30 t hf)
  revert y
  refine forall_ix2 (m := 4096) (n := 10) fun p k => ?_
  rw [emb30 t p k p rfl]
  exact congrFun (congrFun h2 p) k

/-- After a run, the five results and the arguments. -/
theorem run_results (ρ : Dev nD → PrngReg) :
    θ_run defs (onTc (τ := τ) (main (F := Ideal))) ⟨m, fun _ => 0, ρ⟩ (fun r => ∀ c : Dev nD,
      (r.2.mem ((c.tc : Thread nD τ).loc main_v12_4) = (fun i : S4096x10.Idx => (inK m c).pred (i 0) (i 1)))
      ∧ (r.2.mem ((c.tc : Thread nD τ).loc main_v12_0) = (fun i : S4096x128.Idx => (inK m c).mu0 (i 0) (i 1)))
      ∧ (r.2.mem ((c.tc : Thread nD τ).loc main_v12_2) = (fun i : S4096x128.Idx => (inK m c).mu1 (i 0) (i 1)))
      ∧ (r.2.mem ((c.tc : Thread nD τ).loc main_v12_1) = (fun i : S4096x128.Idx => (inK m c).lv0 (i 0) (i 1)))
      ∧ (r.2.mem ((c.tc : Thread nD τ).loc main_v12_3) = (fun i : S4096x128.Idx => (inK m c).lv1 (i 0) (i 1)))
      ∧ ArgsKept m c r.2.mem) := by
  have one : ∀ c : Dev nD, c = (0 : Fin 1) := fun c => Subsingleton.elim (α := Fin 1) _ _
  refine (θ_run defs _ _).mono (fun r h c => ?_)
    (run_main m ρ (trk (inK m (0 : Fin 1))) (fun c => ?_) (fun S0 S1 S2 S3 S4 => holds_zero _ S0 S1 S2 S3 S4))
  · rw [one c]
    exact ⟨arr30 m _ h.1 _, arr26 m _ h.1 _, arr28 m _ h.1 _, arr27 m _ h.1 _, arr29 m _ h.1 _, argsKept_of m _ h.1 _⟩
  · rw [one c]
    exact stepOK m _

end Cert.KernelIdeal.Hand

end
-- ==== Proof.Algebraic.lean ====
/-
  On equal arguments that hold real numbers the two programs end with equal results.
-/
module

public import proofs.«01_k».proof.Proof.Reference
public import proofs.«01_k».proof.Proof.Precondition
public import proofs.«01_k».proof.Proof.Ideal.Result

@[expose] public section

set_option maxRecDepth 16384
set_option maxHeartbeats 1000000

noncomputable section

namespace Cert.Algebraic

open Cert.Math
open Idealize.ShloMosaic Idealize.SL.Sem

/-- Equal argument buffers are equal inputs. -/
theorem inputs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) :
    Cert.ReferenceIdeal.Hand.inR m' c = Cert.KernelIdeal.Hand.inK m c := by
  obtain ⟨h0, h1, h2, h3, h4, h5, h6, h7, h8, h9, h10, h11, h12, h13, h14, h15, h16, h17, h18, h19, h20, h21, h22, h23, h24, h25⟩ := h
  unfold Cert.ReferenceIdeal.Hand.inR
  rw [h0, h1, h2, h3, h4, h5, h6, h7, h8, h9, h10, h11, h12, h13, h14, h15, h16, h17, h18, h19, h20, h21, h22, h23, h24, h25]
  rfl

theorem algebraic : Cert.algebraic_KernelIdeal_ReferenceIdeal_pre_real_inputs (hKernelIdeal := Cert.KernelIdeal.Gen.facts)
    (hReferenceIdeal := Cert.ReferenceIdeal.Gen.facts) (hPre_real_inputs := Cert.Pre_real_inputs.Hand.facts) := by
  intro m g m' g' hpre hargs
  have hin : ∀ c : Dev Cert.KernelIdeal.nD, Cert.ReferenceIdeal.Hand.inR m' c = Cert.KernelIdeal.Hand.inK m c := fun c => inputs_eq m m' c (hargs c)
  have hp : ∀ c : Dev Cert.KernelIdeal.nD, (Cert.KernelIdeal.Hand.inK m c).pred = (Cert.ReferenceIdeal.Hand.inR m' c).predR := fun c => by
    rw [hin c]; exact Inputs.pred_eq (Cert.Pre_real_inputs.Hand.real m hpre c)
  refine ⟨fun c => (fun i : Cert.KernelIdeal.S4096x10.Idx => (Cert.KernelIdeal.Hand.inK m c).pred (i 0) (i 1)),
    fun c => (fun i : Cert.KernelIdeal.S4096x128.Idx => (Cert.KernelIdeal.Hand.inK m c).mu0 (i 0) (i 1)),
    fun c => (fun i : Cert.KernelIdeal.S4096x128.Idx => (Cert.KernelIdeal.Hand.inK m c).mu1 (i 0) (i 1)),
    fun c => (fun i : Cert.KernelIdeal.S4096x128.Idx => (Cert.KernelIdeal.Hand.inK m c).lv0 (i 0) (i 1)),
    fun c => (fun i : Cert.KernelIdeal.S4096x128.Idx => (Cert.KernelIdeal.Hand.inK m c).lv1 (i 0) (i 1)),
    Cert.KernelIdeal.Hand.run_results m g, ?_⟩
  refine (θ_run Cert.ReferenceIdeal.defs _ _).mono (fun r h c => ?_) (Cert.ReferenceIdeal.Hand.run_results m' g')
  have hc := h c
  rw [← hp c, hin c] at hc
  exact hc

end Cert.Algebraic

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Ideal.Frame
public import proofs.«01_k».proof.Proof.Plain.Frame
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The reference leaves its arguments as launched; it declares no semaphore, so its counters stay at zero. -/
theorem reference_frame : Cert.quiescent_ReferenceIdeal (hReferenceIdeal := Cert.ReferenceIdeal.Gen.facts) := fun m g _ =>
  (θ_run Cert.ReferenceIdeal.defs _ _).mono (fun r h => ⟨fun c => (h c).2.2.2.2.2, sem_eq_zero_of_no_sems (by decide) r.2⟩)
    (Cert.ReferenceIdeal.Value.run (F := Ideal) m g)

/-- The certificate. -/
theorem claim : Cert.Claim := ⟨Cert.Kernel.Gen.facts, Cert.KernelIdeal.Gen.facts, Cert.ReferenceIdeal.Gen.facts, Cert.Pre_real_inputs.Hand.facts,
  fun m g _ => Cert.Kernel.Hand.frame m g, fun m g _ => Cert.KernelIdeal.Hand.frame m g, fun m g _ => Cert.KernelIdeal.Hand.frame m g,
  reference_frame, fun m g _ => reference_frame m g trivial,
  IdealRules.named_const.statement Cert.KernelIdeal.κ "s" .f32 0x3F3504F3#32 ((Real.sqrt (1 / 2) : ℝ) : EReal) rfl,
  Cert.Algebraic.algebraic⟩

end Cert.Proof

end
